-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelI (m : (ℓ : Loc Cert.KernelI.nD Cert.KernelI.τ Cert.KernelI.sig) → Buf (Elt Bits) ℓ) : Prop :=
  True

def Pre_KernelIIdeal (m : (ℓ : Loc Cert.KernelIIdeal.nD Cert.KernelIIdeal.τ Cert.KernelIIdeal.sig) → Buf (Elt Ideal) ℓ) : Prop :=
  True

def Pre_ReferenceIIdeal (m : (ℓ : Loc Cert.ReferenceIIdeal.nD Cert.ReferenceIIdeal.τ Cert.ReferenceIIdeal.sig) → Buf (Elt Ideal) ℓ) : Prop :=
  True

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def Pre_ReferenceLIdeal (m : (ℓ : Loc Cert.ReferenceLIdeal.nD Cert.ReferenceLIdeal.τ Cert.ReferenceLIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2)
      ∧ r.2.mem ((c.tc : Thread Cert.KernelW.nD Cert.KernelW.τ).loc Cert.KernelW.main_arg3) = m ((c.tc : Thread Cert.KernelW.nD Cert.KernelW.τ).loc Cert.KernelW.main_arg3)
      ∧ r.2.mem ((c.tc : Thread Cert.KernelW.nD Cert.KernelW.τ).loc Cert.KernelW.main_arg4) = m ((c.tc : Thread Cert.KernelW.nD Cert.KernelW.τ).loc Cert.KernelW.main_arg4)
      ∧ r.2.mem ((c.tc : Thread Cert.KernelW.nD Cert.KernelW.τ).loc Cert.KernelW.main_arg5) = m ((c.tc : Thread Cert.KernelW.nD Cert.KernelW.τ).loc Cert.KernelW.main_arg5)
      ∧ r.2.mem ((c.tc : Thread Cert.KernelW.nD Cert.KernelW.τ).loc Cert.KernelW.main_arg6) = m ((c.tc : Thread Cert.KernelW.nD Cert.KernelW.τ).loc Cert.KernelW.main_arg6)
      ∧ r.2.mem ((c.tc : Thread Cert.KernelW.nD Cert.KernelW.τ).loc Cert.KernelW.main_arg7) = m ((c.tc : Thread Cert.KernelW.nD Cert.KernelW.τ).loc Cert.KernelW.main_arg7))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
      ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
      ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
      ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
      ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
      ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3)
      ∧ r.2.mem ((c.tc : Thread Cert.ReferenceWIdeal.nD Cert.ReferenceWIdeal.τ).loc Cert.ReferenceWIdeal.main_arg4) = m ((c.tc : Thread Cert.ReferenceWIdeal.nD Cert.ReferenceWIdeal.τ).loc Cert.ReferenceWIdeal.main_arg4)
      ∧ r.2.mem ((c.tc : Thread Cert.ReferenceWIdeal.nD Cert.ReferenceWIdeal.τ).loc Cert.ReferenceWIdeal.main_arg5) = m ((c.tc : Thread Cert.ReferenceWIdeal.nD Cert.ReferenceWIdeal.τ).loc Cert.ReferenceWIdeal.main_arg5)
      ∧ r.2.mem ((c.tc : Thread Cert.ReferenceWIdeal.nD Cert.ReferenceWIdeal.τ).loc Cert.ReferenceWIdeal.main_arg6) = m ((c.tc : Thread Cert.ReferenceWIdeal.nD Cert.ReferenceWIdeal.τ).loc Cert.ReferenceWIdeal.main_arg6)
      ∧ r.2.mem ((c.tc : Thread Cert.ReferenceWIdeal.nD Cert.ReferenceWIdeal.τ).loc Cert.ReferenceWIdeal.main_arg7) = m ((c.tc : Thread Cert.ReferenceWIdeal.nD Cert.ReferenceWIdeal.τ).loc Cert.ReferenceWIdeal.main_arg7))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4)
      ∧ r.2.mem ((c.tc : Thread Cert.KernelX.nD Cert.KernelX.τ).loc Cert.KernelX.main_arg5) = m ((c.tc : Thread Cert.KernelX.nD Cert.KernelX.τ).loc Cert.KernelX.main_arg5)
      ∧ r.2.mem ((c.tc : Thread Cert.KernelX.nD Cert.KernelX.τ).loc Cert.KernelX.main_arg6) = m ((c.tc : Thread Cert.KernelX.nD Cert.KernelX.τ).loc Cert.KernelX.main_arg6)
      ∧ r.2.mem ((c.tc : Thread Cert.KernelX.nD Cert.KernelX.τ).loc Cert.KernelX.main_arg7) = m ((c.tc : Thread Cert.KernelX.nD Cert.KernelX.τ).loc Cert.KernelX.main_arg7)
      ∧ r.2.mem ((c.tc : Thread Cert.KernelX.nD Cert.KernelX.τ).loc Cert.KernelX.main_arg8) = m ((c.tc : Thread Cert.KernelX.nD Cert.KernelX.τ).loc Cert.KernelX.main_arg8)
      ∧ r.2.mem ((c.tc : Thread Cert.KernelX.nD Cert.KernelX.τ).loc Cert.KernelX.main_arg9) = m ((c.tc : Thread Cert.KernelX.nD Cert.KernelX.τ).loc Cert.KernelX.main_arg9)
      ∧ r.2.mem ((c.tc : Thread Cert.KernelX.nD Cert.KernelX.τ).loc Cert.KernelX.main_arg10) = m ((c.tc : Thread Cert.KernelX.nD Cert.KernelX.τ).loc Cert.KernelX.main_arg10))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
      ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
      ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
      ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
      ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
      ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9)
      ∧ r.2.mem ((c.tc : Thread Cert.KernelXIdeal.nD Cert.KernelXIdeal.τ).loc Cert.KernelXIdeal.main_arg10) = m ((c.tc : Thread Cert.KernelXIdeal.nD Cert.KernelXIdeal.τ).loc Cert.KernelXIdeal.main_arg10))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4)
      ∧ r.2.mem ((c.tc : Thread Cert.ReferenceXIdeal.nD Cert.ReferenceXIdeal.τ).loc Cert.ReferenceXIdeal.main_arg5) = m ((c.tc : Thread Cert.ReferenceXIdeal.nD Cert.ReferenceXIdeal.τ).loc Cert.ReferenceXIdeal.main_arg5)
      ∧ r.2.mem ((c.tc : Thread Cert.ReferenceXIdeal.nD Cert.ReferenceXIdeal.τ).loc Cert.ReferenceXIdeal.main_arg6) = m ((c.tc : Thread Cert.ReferenceXIdeal.nD Cert.ReferenceXIdeal.τ).loc Cert.ReferenceXIdeal.main_arg6)
      ∧ r.2.mem ((c.tc : Thread Cert.ReferenceXIdeal.nD Cert.ReferenceXIdeal.τ).loc Cert.ReferenceXIdeal.main_arg7) = m ((c.tc : Thread Cert.ReferenceXIdeal.nD Cert.ReferenceXIdeal.τ).loc Cert.ReferenceXIdeal.main_arg7)
      ∧ r.2.mem ((c.tc : Thread Cert.ReferenceXIdeal.nD Cert.ReferenceXIdeal.τ).loc Cert.ReferenceXIdeal.main_arg8) = m ((c.tc : Thread Cert.ReferenceXIdeal.nD Cert.ReferenceXIdeal.τ).loc Cert.ReferenceXIdeal.main_arg8)
      ∧ r.2.mem ((c.tc : Thread Cert.ReferenceXIdeal.nD Cert.ReferenceXIdeal.τ).loc Cert.ReferenceXIdeal.main_arg9) = m ((c.tc : Thread Cert.ReferenceXIdeal.nD Cert.ReferenceXIdeal.τ).loc Cert.ReferenceXIdeal.main_arg9)
      ∧ r.2.mem ((c.tc : Thread Cert.ReferenceXIdeal.nD Cert.ReferenceXIdeal.τ).loc Cert.ReferenceXIdeal.main_arg10) = m ((c.tc : Thread Cert.ReferenceXIdeal.nD Cert.ReferenceXIdeal.τ).loc Cert.ReferenceXIdeal.main_arg10))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2)
      ∧ r.2.mem ((c.tc : Thread Cert.KernelY.nD Cert.KernelY.τ).loc Cert.KernelY.main_arg3) = m ((c.tc : Thread Cert.KernelY.nD Cert.KernelY.τ).loc Cert.KernelY.main_arg3)
      ∧ r.2.mem ((c.tc : Thread Cert.KernelY.nD Cert.KernelY.τ).loc Cert.KernelY.main_arg4) = m ((c.tc : Thread Cert.KernelY.nD Cert.KernelY.τ).loc Cert.KernelY.main_arg4))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
      ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3)
      ∧ r.2.mem ((c.tc : Thread Cert.KernelYIdeal.nD Cert.KernelYIdeal.τ).loc Cert.KernelYIdeal.main_arg4) = m ((c.tc : Thread Cert.KernelYIdeal.nD Cert.KernelYIdeal.τ).loc Cert.KernelYIdeal.main_arg4))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2)
      ∧ r.2.mem ((c.tc : Thread Cert.ReferenceYIdeal.nD Cert.ReferenceYIdeal.τ).loc Cert.ReferenceYIdeal.main_arg3) = m ((c.tc : Thread Cert.ReferenceYIdeal.nD Cert.ReferenceYIdeal.τ).loc Cert.ReferenceYIdeal.main_arg3)
      ∧ r.2.mem ((c.tc : Thread Cert.ReferenceYIdeal.nD Cert.ReferenceYIdeal.τ).loc Cert.ReferenceYIdeal.main_arg4) = m ((c.tc : Thread Cert.ReferenceYIdeal.nD Cert.ReferenceYIdeal.τ).loc Cert.ReferenceYIdeal.main_arg4))
      ∧ r.2.sem = fun _ => 0)

def quiescent_KernelI [hKernelI : Cert.KernelI.Facts] : Prop :=
  ∀ (m : (ℓ : Loc Cert.KernelI.nD Cert.KernelI.τ Cert.KernelI.sig) → Buf (Elt Bits) ℓ) (g : Dev Cert.KernelI.nD → PrngReg), Pre_KernelI m →
    θ_run (Cert.KernelI.defs (F := Bits)) (onTc (τ := Cert.KernelI.τ) (Cert.KernelI.main (F := Bits))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1)
      ∧ r.2.mem ((c.tc : Thread Cert.KernelI.nD Cert.KernelI.τ).loc Cert.KernelI.main_arg2) = m ((c.tc : Thread Cert.KernelI.nD Cert.KernelI.τ).loc Cert.KernelI.main_arg2))
      ∧ r.2.sem = fun _ => 0)

def quiescent_KernelIIdeal [hKernelIIdeal : Cert.KernelIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
      ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2))
      ∧ r.2.sem = fun _ => 0)

def quiescent_ReferenceIIdeal [hReferenceIIdeal : Cert.ReferenceIIdeal.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1)
      ∧ r.2.mem ((c.tc : Thread Cert.ReferenceIIdeal.nD Cert.ReferenceIIdeal.τ).loc Cert.ReferenceIIdeal.main_arg2) = m ((c.tc : Thread Cert.ReferenceIIdeal.nD Cert.ReferenceIIdeal.τ).loc Cert.ReferenceIIdeal.main_arg2))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0)
      ∧ r.2.mem ((c.tc : Thread Cert.KernelL.nD Cert.KernelL.τ).loc Cert.KernelL.main_arg1) = m ((c.tc : Thread Cert.KernelL.nD Cert.KernelL.τ).loc Cert.KernelL.main_arg1)
      ∧ r.2.mem ((c.tc : Thread Cert.KernelL.nD Cert.KernelL.τ).loc Cert.KernelL.main_arg2) = m ((c.tc : Thread Cert.KernelL.nD Cert.KernelL.τ).loc Cert.KernelL.main_arg2)
      ∧ r.2.mem ((c.tc : Thread Cert.KernelL.nD Cert.KernelL.τ).loc Cert.KernelL.main_arg3) = m ((c.tc : Thread Cert.KernelL.nD Cert.KernelL.τ).loc Cert.KernelL.main_arg3)
      ∧ r.2.mem ((c.tc : Thread Cert.KernelL.nD Cert.KernelL.τ).loc Cert.KernelL.main_arg4) = m ((c.tc : Thread Cert.KernelL.nD Cert.KernelL.τ).loc Cert.KernelL.main_arg4)
      ∧ r.2.mem ((c.tc : Thread Cert.KernelL.nD Cert.KernelL.τ).loc Cert.KernelL.main_arg5) = m ((c.tc : Thread Cert.KernelL.nD Cert.KernelL.τ).loc Cert.KernelL.main_arg5))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
      ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5))
      ∧ r.2.sem = fun _ => 0)

def quiescent_ReferenceLIdeal [hReferenceLIdeal : Cert.ReferenceLIdeal.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0)
      ∧ r.2.mem ((c.tc : Thread Cert.ReferenceLIdeal.nD Cert.ReferenceLIdeal.τ).loc Cert.ReferenceLIdeal.main_arg1) = m ((c.tc : Thread Cert.ReferenceLIdeal.nD Cert.ReferenceLIdeal.τ).loc Cert.ReferenceLIdeal.main_arg1)
      ∧ r.2.mem ((c.tc : Thread Cert.ReferenceLIdeal.nD Cert.ReferenceLIdeal.τ).loc Cert.ReferenceLIdeal.main_arg2) = m ((c.tc : Thread Cert.ReferenceLIdeal.nD Cert.ReferenceLIdeal.τ).loc Cert.ReferenceLIdeal.main_arg2)
      ∧ r.2.mem ((c.tc : Thread Cert.ReferenceLIdeal.nD Cert.ReferenceLIdeal.τ).loc Cert.ReferenceLIdeal.main_arg3) = m ((c.tc : Thread Cert.ReferenceLIdeal.nD Cert.ReferenceLIdeal.τ).loc Cert.ReferenceLIdeal.main_arg3)
      ∧ r.2.mem ((c.tc : Thread Cert.ReferenceLIdeal.nD Cert.ReferenceLIdeal.τ).loc Cert.ReferenceLIdeal.main_arg4) = m ((c.tc : Thread Cert.ReferenceLIdeal.nD Cert.ReferenceLIdeal.τ).loc Cert.ReferenceLIdeal.main_arg4)
      ∧ r.2.mem ((c.tc : Thread Cert.ReferenceLIdeal.nD Cert.ReferenceLIdeal.τ).loc Cert.ReferenceLIdeal.main_arg5) = m ((c.tc : Thread Cert.ReferenceLIdeal.nD Cert.ReferenceLIdeal.τ).loc Cert.ReferenceLIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_v246) = v1 c
          ∧ r.2.mem ((c.tc : Thread Cert.ReferenceIdeal.nD Cert.ReferenceIdeal.τ).loc Cert.ReferenceIdeal.main_v247) = v2 c
          ∧ r.2.mem ((c.tc : Thread Cert.ReferenceIdeal.nD Cert.ReferenceIdeal.τ).loc Cert.ReferenceIdeal.main_v249) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)
      ∧ m' ((c.tc : Thread Cert.ReferenceWIdeal.nD Cert.ReferenceWIdeal.τ).loc Cert.ReferenceWIdeal.main_arg3) = m ((c.tc : Thread Cert.KernelWIdeal.nD Cert.KernelWIdeal.τ).loc Cert.KernelWIdeal.main_arg3)
      ∧ m' ((c.tc : Thread Cert.ReferenceWIdeal.nD Cert.ReferenceWIdeal.τ).loc Cert.ReferenceWIdeal.main_arg4) = m ((c.tc : Thread Cert.KernelWIdeal.nD Cert.KernelWIdeal.τ).loc Cert.KernelWIdeal.main_arg4)
      ∧ m' ((c.tc : Thread Cert.ReferenceWIdeal.nD Cert.ReferenceWIdeal.τ).loc Cert.ReferenceWIdeal.main_arg5) = m ((c.tc : Thread Cert.KernelWIdeal.nD Cert.KernelWIdeal.τ).loc Cert.KernelWIdeal.main_arg5)
      ∧ m' ((c.tc : Thread Cert.ReferenceWIdeal.nD Cert.ReferenceWIdeal.τ).loc Cert.ReferenceWIdeal.main_arg6) = m ((c.tc : Thread Cert.KernelWIdeal.nD Cert.KernelWIdeal.τ).loc Cert.KernelWIdeal.main_arg6)
      ∧ m' ((c.tc : Thread Cert.ReferenceWIdeal.nD Cert.ReferenceWIdeal.τ).loc Cert.ReferenceWIdeal.main_arg7) = m ((c.tc : Thread Cert.KernelWIdeal.nD Cert.KernelWIdeal.τ).loc Cert.KernelWIdeal.main_arg7)) →
    ∃ (v0 : (c : Dev Cert.KernelWIdeal.nD) → Buf (Elt Ideal) ((c.tc : Thread Cert.KernelWIdeal.nD Cert.KernelWIdeal.τ).loc Cert.KernelWIdeal.main_v0)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v0) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
          ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
          ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
          ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
          ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
          ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v7) = v0 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2)
          ∧ r.2.mem ((c.tc : Thread Cert.ReferenceWIdeal.nD Cert.ReferenceWIdeal.τ).loc Cert.ReferenceWIdeal.main_arg3) = m' ((c.tc : Thread Cert.ReferenceWIdeal.nD Cert.ReferenceWIdeal.τ).loc Cert.ReferenceWIdeal.main_arg3)
          ∧ r.2.mem ((c.tc : Thread Cert.ReferenceWIdeal.nD Cert.ReferenceWIdeal.τ).loc Cert.ReferenceWIdeal.main_arg4) = m' ((c.tc : Thread Cert.ReferenceWIdeal.nD Cert.ReferenceWIdeal.τ).loc Cert.ReferenceWIdeal.main_arg4)
          ∧ r.2.mem ((c.tc : Thread Cert.ReferenceWIdeal.nD Cert.ReferenceWIdeal.τ).loc Cert.ReferenceWIdeal.main_arg5) = m' ((c.tc : Thread Cert.ReferenceWIdeal.nD Cert.ReferenceWIdeal.τ).loc Cert.ReferenceWIdeal.main_arg5)
          ∧ r.2.mem ((c.tc : Thread Cert.ReferenceWIdeal.nD Cert.ReferenceWIdeal.τ).loc Cert.ReferenceWIdeal.main_arg6) = m' ((c.tc : Thread Cert.ReferenceWIdeal.nD Cert.ReferenceWIdeal.τ).loc Cert.ReferenceWIdeal.main_arg6)
          ∧ r.2.mem ((c.tc : Thread Cert.ReferenceWIdeal.nD Cert.ReferenceWIdeal.τ).loc Cert.ReferenceWIdeal.main_arg7) = m' ((c.tc : Thread Cert.ReferenceWIdeal.nD Cert.ReferenceWIdeal.τ).loc Cert.ReferenceWIdeal.main_arg7))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)
      ∧ m' ((c.tc : Thread Cert.ReferenceXIdeal.nD Cert.ReferenceXIdeal.τ).loc Cert.ReferenceXIdeal.main_arg4) = m ((c.tc : Thread Cert.KernelXIdeal.nD Cert.KernelXIdeal.τ).loc Cert.KernelXIdeal.main_arg4)
      ∧ m' ((c.tc : Thread Cert.ReferenceXIdeal.nD Cert.ReferenceXIdeal.τ).loc Cert.ReferenceXIdeal.main_arg5) = m ((c.tc : Thread Cert.KernelXIdeal.nD Cert.KernelXIdeal.τ).loc Cert.KernelXIdeal.main_arg5)
      ∧ m' ((c.tc : Thread Cert.ReferenceXIdeal.nD Cert.ReferenceXIdeal.τ).loc Cert.ReferenceXIdeal.main_arg6) = m ((c.tc : Thread Cert.KernelXIdeal.nD Cert.KernelXIdeal.τ).loc Cert.KernelXIdeal.main_arg6)
      ∧ m' ((c.tc : Thread Cert.ReferenceXIdeal.nD Cert.ReferenceXIdeal.τ).loc Cert.ReferenceXIdeal.main_arg7) = m ((c.tc : Thread Cert.KernelXIdeal.nD Cert.KernelXIdeal.τ).loc Cert.KernelXIdeal.main_arg7)
      ∧ m' ((c.tc : Thread Cert.ReferenceXIdeal.nD Cert.ReferenceXIdeal.τ).loc Cert.ReferenceXIdeal.main_arg8) = m ((c.tc : Thread Cert.KernelXIdeal.nD Cert.KernelXIdeal.τ).loc Cert.KernelXIdeal.main_arg8)
      ∧ m' ((c.tc : Thread Cert.ReferenceXIdeal.nD Cert.ReferenceXIdeal.τ).loc Cert.ReferenceXIdeal.main_arg9) = m ((c.tc : Thread Cert.KernelXIdeal.nD Cert.KernelXIdeal.τ).loc Cert.KernelXIdeal.main_arg9)
      ∧ m' ((c.tc : Thread Cert.ReferenceXIdeal.nD Cert.ReferenceXIdeal.τ).loc Cert.ReferenceXIdeal.main_arg10) = m ((c.tc : Thread Cert.KernelXIdeal.nD Cert.KernelXIdeal.τ).loc Cert.KernelXIdeal.main_arg10)) →
    ∃ (v0 : (c : Dev Cert.KernelXIdeal.nD) → Buf (Elt Ideal) ((c.tc : Thread Cert.KernelXIdeal.nD Cert.KernelXIdeal.τ).loc Cert.KernelXIdeal.main_v0_0)) (v1 : (c : Dev Cert.KernelXIdeal.nD) → Buf (Elt Ideal) ((c.tc : Thread Cert.KernelXIdeal.nD Cert.KernelXIdeal.τ).loc Cert.KernelXIdeal.main_v0_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0_0) = v0 c
          ∧ r.2.mem ((c.tc : Thread Cert.KernelXIdeal.nD Cert.KernelXIdeal.τ).loc Cert.KernelXIdeal.main_v0_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
          ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
          ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
          ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
          ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
          ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9)
          ∧ r.2.mem ((c.tc : Thread Cert.KernelXIdeal.nD Cert.KernelXIdeal.τ).loc Cert.KernelXIdeal.main_arg10) = m ((c.tc : Thread Cert.KernelXIdeal.nD Cert.KernelXIdeal.τ).loc Cert.KernelXIdeal.main_arg10))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v41) = v0 c
          ∧ r.2.mem ((c.tc : Thread Cert.ReferenceXIdeal.nD Cert.ReferenceXIdeal.τ).loc Cert.ReferenceXIdeal.main_v24) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3)
          ∧ r.2.mem ((c.tc : Thread Cert.ReferenceXIdeal.nD Cert.ReferenceXIdeal.τ).loc Cert.ReferenceXIdeal.main_arg4) = m' ((c.tc : Thread Cert.ReferenceXIdeal.nD Cert.ReferenceXIdeal.τ).loc Cert.ReferenceXIdeal.main_arg4)
          ∧ r.2.mem ((c.tc : Thread Cert.ReferenceXIdeal.nD Cert.ReferenceXIdeal.τ).loc Cert.ReferenceXIdeal.main_arg5) = m' ((c.tc : Thread Cert.ReferenceXIdeal.nD Cert.ReferenceXIdeal.τ).loc Cert.ReferenceXIdeal.main_arg5)
          ∧ r.2.mem ((c.tc : Thread Cert.ReferenceXIdeal.nD Cert.ReferenceXIdeal.τ).loc Cert.ReferenceXIdeal.main_arg6) = m' ((c.tc : Thread Cert.ReferenceXIdeal.nD Cert.ReferenceXIdeal.τ).loc Cert.ReferenceXIdeal.main_arg6)
          ∧ r.2.mem ((c.tc : Thread Cert.ReferenceXIdeal.nD Cert.ReferenceXIdeal.τ).loc Cert.ReferenceXIdeal.main_arg7) = m' ((c.tc : Thread Cert.ReferenceXIdeal.nD Cert.ReferenceXIdeal.τ).loc Cert.ReferenceXIdeal.main_arg7)
          ∧ r.2.mem ((c.tc : Thread Cert.ReferenceXIdeal.nD Cert.ReferenceXIdeal.τ).loc Cert.ReferenceXIdeal.main_arg8) = m' ((c.tc : Thread Cert.ReferenceXIdeal.nD Cert.ReferenceXIdeal.τ).loc Cert.ReferenceXIdeal.main_arg8)
          ∧ r.2.mem ((c.tc : Thread Cert.ReferenceXIdeal.nD Cert.ReferenceXIdeal.τ).loc Cert.ReferenceXIdeal.main_arg9) = m' ((c.tc : Thread Cert.ReferenceXIdeal.nD Cert.ReferenceXIdeal.τ).loc Cert.ReferenceXIdeal.main_arg9)
          ∧ r.2.mem ((c.tc : Thread Cert.ReferenceXIdeal.nD Cert.ReferenceXIdeal.τ).loc Cert.ReferenceXIdeal.main_arg10) = m' ((c.tc : Thread Cert.ReferenceXIdeal.nD Cert.ReferenceXIdeal.τ).loc Cert.ReferenceXIdeal.main_arg10))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)) →
    ∃ (v0 : (c : Dev Cert.KernelOIdeal.nD) → Buf (Elt Ideal) ((c.tc : Thread Cert.KernelOIdeal.nD Cert.KernelOIdeal.τ).loc Cert.KernelOIdeal.main_v0_0)) (v1 : (c : Dev Cert.KernelOIdeal.nD) → Buf (Elt Ideal) ((c.tc : Thread Cert.KernelOIdeal.nD Cert.KernelOIdeal.τ).loc Cert.KernelOIdeal.main_v0_1)) (v2 : (c : Dev Cert.KernelOIdeal.nD) → Buf (Elt Ideal) ((c.tc : Thread Cert.KernelOIdeal.nD Cert.KernelOIdeal.τ).loc Cert.KernelOIdeal.main_v0_2)) (v3 : (c : Dev Cert.KernelOIdeal.nD) → Buf (Elt Ideal) ((c.tc : Thread Cert.KernelOIdeal.nD Cert.KernelOIdeal.τ).loc Cert.KernelOIdeal.main_v0_3)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0_0) = v0 c
          ∧ r.2.mem ((c.tc : Thread Cert.KernelOIdeal.nD Cert.KernelOIdeal.τ).loc Cert.KernelOIdeal.main_v0_1) = v1 c
          ∧ r.2.mem ((c.tc : Thread Cert.KernelOIdeal.nD Cert.KernelOIdeal.τ).loc Cert.KernelOIdeal.main_v0_2) = v2 c
          ∧ r.2.mem ((c.tc : Thread Cert.KernelOIdeal.nD Cert.KernelOIdeal.τ).loc Cert.KernelOIdeal.main_v0_3) = v3 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v42) = v0 c
          ∧ r.2.mem ((c.tc : Thread Cert.ReferenceOIdeal.nD Cert.ReferenceOIdeal.τ).loc Cert.ReferenceOIdeal.main_v43) = v1 c
          ∧ r.2.mem ((c.tc : Thread Cert.ReferenceOIdeal.nD Cert.ReferenceOIdeal.τ).loc Cert.ReferenceOIdeal.main_v40) = v2 c
          ∧ r.2.mem ((c.tc : Thread Cert.ReferenceOIdeal.nD Cert.ReferenceOIdeal.τ).loc Cert.ReferenceOIdeal.main_v17) = v3 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)
      ∧ m' ((c.tc : Thread Cert.ReferenceYIdeal.nD Cert.ReferenceYIdeal.τ).loc Cert.ReferenceYIdeal.main_arg3) = m ((c.tc : Thread Cert.KernelYIdeal.nD Cert.KernelYIdeal.τ).loc Cert.KernelYIdeal.main_arg3)
      ∧ m' ((c.tc : Thread Cert.ReferenceYIdeal.nD Cert.ReferenceYIdeal.τ).loc Cert.ReferenceYIdeal.main_arg4) = m ((c.tc : Thread Cert.KernelYIdeal.nD Cert.KernelYIdeal.τ).loc Cert.KernelYIdeal.main_arg4)) →
    ∃ (v0 : (c : Dev Cert.KernelYIdeal.nD) → Buf (Elt Ideal) ((c.tc : Thread Cert.KernelYIdeal.nD Cert.KernelYIdeal.τ).loc Cert.KernelYIdeal.main_v0_0)) (v1 : (c : Dev Cert.KernelYIdeal.nD) → Buf (Elt Ideal) ((c.tc : Thread Cert.KernelYIdeal.nD Cert.KernelYIdeal.τ).loc Cert.KernelYIdeal.main_v0_1)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0_0) = v0 c
          ∧ r.2.mem ((c.tc : Thread Cert.KernelYIdeal.nD Cert.KernelYIdeal.τ).loc Cert.KernelYIdeal.main_v0_1) = v1 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
          ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3)
          ∧ r.2.mem ((c.tc : Thread Cert.KernelYIdeal.nD Cert.KernelYIdeal.τ).loc Cert.KernelYIdeal.main_arg4) = m ((c.tc : Thread Cert.KernelYIdeal.nD Cert.KernelYIdeal.τ).loc Cert.KernelYIdeal.main_arg4))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v17) = v0 c
          ∧ r.2.mem ((c.tc : Thread Cert.ReferenceYIdeal.nD Cert.ReferenceYIdeal.τ).loc Cert.ReferenceYIdeal.main_v4) = v1 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2)
          ∧ r.2.mem ((c.tc : Thread Cert.ReferenceYIdeal.nD Cert.ReferenceYIdeal.τ).loc Cert.ReferenceYIdeal.main_arg3) = m' ((c.tc : Thread Cert.ReferenceYIdeal.nD Cert.ReferenceYIdeal.τ).loc Cert.ReferenceYIdeal.main_arg3)
          ∧ r.2.mem ((c.tc : Thread Cert.ReferenceYIdeal.nD Cert.ReferenceYIdeal.τ).loc Cert.ReferenceYIdeal.main_arg4) = m' ((c.tc : Thread Cert.ReferenceYIdeal.nD Cert.ReferenceYIdeal.τ).loc Cert.ReferenceYIdeal.main_arg4))

def preserves_KernelI_KernelIIdeal : Prop :=
  True

def algebraic_KernelIIdeal_ReferenceIIdeal [hKernelIIdeal : Cert.KernelIIdeal.Facts] [hReferenceIIdeal : Cert.ReferenceIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg)
    (m' : (ℓ : Loc Cert.ReferenceIIdeal.nD Cert.ReferenceIIdeal.τ Cert.ReferenceIIdeal.sig) → Buf (Elt Ideal) ℓ) (g' : Dev Cert.ReferenceIIdeal.nD → PrngReg), Pre_KernelIIdeal m →
    (∀ c : Dev Cert.KernelIIdeal.nD,
      m' ((c.tc : Thread Cert.ReferenceIIdeal.nD Cert.ReferenceIIdeal.τ).loc Cert.ReferenceIIdeal.main_arg0) = m ((c.tc : Thread Cert.KernelIIdeal.nD Cert.KernelIIdeal.τ).loc Cert.KernelIIdeal.main_arg0)
      ∧ m' ((c.tc : Thread Cert.ReferenceIIdeal.nD Cert.ReferenceIIdeal.τ).loc Cert.ReferenceIIdeal.main_arg1) = m ((c.tc : Thread Cert.KernelIIdeal.nD Cert.KernelIIdeal.τ).loc Cert.KernelIIdeal.main_arg1)
      ∧ m' ((c.tc : Thread Cert.ReferenceIIdeal.nD Cert.ReferenceIIdeal.τ).loc Cert.ReferenceIIdeal.main_arg2) = m ((c.tc : Thread Cert.KernelIIdeal.nD Cert.KernelIIdeal.τ).loc Cert.KernelIIdeal.main_arg2)) →
    ∃ (v0 : (c : Dev Cert.KernelIIdeal.nD) → Buf (Elt Ideal) ((c.tc : Thread Cert.KernelIIdeal.nD Cert.KernelIIdeal.τ).loc Cert.KernelIIdeal.main_v3_0)) (v1 : (c : Dev Cert.KernelIIdeal.nD) → Buf (Elt Ideal) ((c.tc : Thread Cert.KernelIIdeal.nD Cert.KernelIIdeal.τ).loc Cert.KernelIIdeal.main_v3_1)),
      θ_run (Cert.KernelIIdeal.defs (F := Ideal)) (onTc (τ := Cert.KernelIIdeal.τ) (Cert.KernelIIdeal.main (F := Ideal))) ⟨m, fun _ => 0, g⟩ (fun r => ∀ c : Dev Cert.KernelIIdeal.nD,
          r.2.mem ((c.tc : Thread Cert.KernelIIdeal.nD Cert.KernelIIdeal.τ).loc Cert.KernelIIdeal.main_v3_0) = v0 c
          ∧ r.2.mem ((c.tc : Thread Cert.KernelIIdeal.nD Cert.KernelIIdeal.τ).loc Cert.KernelIIdeal.main_v3_1) = v1 c
          ∧ r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
          ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
          ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2))
      ∧ θ_run (Cert.ReferenceIIdeal.defs (F := Ideal)) (onTc (τ := Cert.ReferenceIIdeal.τ) (Cert.ReferenceIIdeal.main (F := Ideal))) ⟨m', fun _ => 0, g'⟩ (fun r => ∀ c : Dev Cert.ReferenceIIdeal.nD,
          r.2.mem ((c.tc : Thread Cert.ReferenceIIdeal.nD Cert.ReferenceIIdeal.τ).loc Cert.ReferenceIIdeal.main_v19) = v0 c
          ∧ r.2.mem ((c.tc : Thread Cert.ReferenceIIdeal.nD Cert.ReferenceIIdeal.τ).loc Cert.ReferenceIIdeal.main_v20) = v1 c
          ∧ r.2.mem ((c.tc : Thread Cert.ReferenceIIdeal.nD Cert.ReferenceIIdeal.τ).loc Cert.ReferenceIIdeal.main_arg0) = m' ((c.tc : Thread Cert.ReferenceIIdeal.nD Cert.ReferenceIIdeal.τ).loc Cert.ReferenceIIdeal.main_arg0)
          ∧ r.2.mem ((c.tc : Thread Cert.ReferenceIIdeal.nD Cert.ReferenceIIdeal.τ).loc Cert.ReferenceIIdeal.main_arg1) = m' ((c.tc : Thread Cert.ReferenceIIdeal.nD Cert.ReferenceIIdeal.τ).loc Cert.ReferenceIIdeal.main_arg1)
          ∧ r.2.mem ((c.tc : Thread Cert.ReferenceIIdeal.nD Cert.ReferenceIIdeal.τ).loc Cert.ReferenceIIdeal.main_arg2) = m' ((c.tc : Thread Cert.ReferenceIIdeal.nD Cert.ReferenceIIdeal.τ).loc Cert.ReferenceIIdeal.main_arg2))

def preserves_KernelL_KernelLIdeal : Prop :=
  True

def algebraic_KernelLIdeal_ReferenceLIdeal [hKernelLIdeal : Cert.KernelLIdeal.Facts] [hReferenceLIdeal : Cert.ReferenceLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg)
    (m' : (ℓ : Loc Cert.ReferenceLIdeal.nD Cert.ReferenceLIdeal.τ Cert.ReferenceLIdeal.sig) → Buf (Elt Ideal) ℓ) (g' : Dev Cert.ReferenceLIdeal.nD → PrngReg), Pre_KernelLIdeal m →
    (∀ c : Dev Cert.KernelLIdeal.nD,
      m' ((c.tc : Thread Cert.ReferenceLIdeal.nD Cert.ReferenceLIdeal.τ).loc Cert.ReferenceLIdeal.main_arg0) = m ((c.tc : Thread Cert.KernelLIdeal.nD Cert.KernelLIdeal.τ).loc Cert.KernelLIdeal.main_arg0)
      ∧ m' ((c.tc : Thread Cert.ReferenceLIdeal.nD Cert.ReferenceLIdeal.τ).loc Cert.ReferenceLIdeal.main_arg1) = m ((c.tc : Thread Cert.KernelLIdeal.nD Cert.KernelLIdeal.τ).loc Cert.KernelLIdeal.main_arg1)
      ∧ m' ((c.tc : Thread Cert.ReferenceLIdeal.nD Cert.ReferenceLIdeal.τ).loc Cert.ReferenceLIdeal.main_arg2) = m ((c.tc : Thread Cert.KernelLIdeal.nD Cert.KernelLIdeal.τ).loc Cert.KernelLIdeal.main_arg2)
      ∧ m' ((c.tc : Thread Cert.ReferenceLIdeal.nD Cert.ReferenceLIdeal.τ).loc Cert.ReferenceLIdeal.main_arg3) = m ((c.tc : Thread Cert.KernelLIdeal.nD Cert.KernelLIdeal.τ).loc Cert.KernelLIdeal.main_arg3)
      ∧ m' ((c.tc : Thread Cert.ReferenceLIdeal.nD Cert.ReferenceLIdeal.τ).loc Cert.ReferenceLIdeal.main_arg4) = m ((c.tc : Thread Cert.KernelLIdeal.nD Cert.KernelLIdeal.τ).loc Cert.KernelLIdeal.main_arg4)
      ∧ m' ((c.tc : Thread Cert.ReferenceLIdeal.nD Cert.ReferenceLIdeal.τ).loc Cert.ReferenceLIdeal.main_arg5) = m ((c.tc : Thread Cert.KernelLIdeal.nD Cert.KernelLIdeal.τ).loc Cert.KernelLIdeal.main_arg5)) →
    ∃ (v0 : (c : Dev Cert.KernelLIdeal.nD) → Buf (Elt Ideal) ((c.tc : Thread Cert.KernelLIdeal.nD Cert.KernelLIdeal.τ).loc Cert.KernelLIdeal.main_v0_0)) (v1 : (c : Dev Cert.KernelLIdeal.nD) → Buf (Elt Ideal) ((c.tc : Thread Cert.KernelLIdeal.nD Cert.KernelLIdeal.τ).loc Cert.KernelLIdeal.main_v0_1)) (v2 : (c : Dev Cert.KernelLIdeal.nD) → Buf (Elt Ideal) ((c.tc : Thread Cert.KernelLIdeal.nD Cert.KernelLIdeal.τ).loc Cert.KernelLIdeal.main_v0_2)),
      θ_run (Cert.KernelLIdeal.defs (F := Ideal)) (onTc (τ := Cert.KernelLIdeal.τ) (Cert.KernelLIdeal.main (F := Ideal))) ⟨m, fun _ => 0, g⟩ (fun r => ∀ c : Dev Cert.KernelLIdeal.nD,
          r.2.mem ((c.tc : Thread Cert.KernelLIdeal.nD Cert.KernelLIdeal.τ).loc Cert.KernelLIdeal.main_v0_0) = v0 c
          ∧ r.2.mem ((c.tc : Thread Cert.KernelLIdeal.nD Cert.KernelLIdeal.τ).loc Cert.KernelLIdeal.main_v0_1) = v1 c
          ∧ r.2.mem ((c.tc : Thread Cert.KernelLIdeal.nD Cert.KernelLIdeal.τ).loc Cert.KernelLIdeal.main_v0_2) = v2 c
          ∧ r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
          ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
          ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
          ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
          ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
          ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5))
      ∧ θ_run (Cert.ReferenceLIdeal.defs (F := Ideal)) (onTc (τ := Cert.ReferenceLIdeal.τ) (Cert.ReferenceLIdeal.main (F := Ideal))) ⟨m', fun _ => 0, g'⟩ (fun r => ∀ c : Dev Cert.ReferenceLIdeal.nD,
          r.2.mem ((c.tc : Thread Cert.ReferenceLIdeal.nD Cert.ReferenceLIdeal.τ).loc Cert.ReferenceLIdeal.main_v32) = v0 c
          ∧ r.2.mem ((c.tc : Thread Cert.ReferenceLIdeal.nD Cert.ReferenceLIdeal.τ).loc Cert.ReferenceLIdeal.main_v4) = v1 c
          ∧ r.2.mem ((c.tc : Thread Cert.ReferenceLIdeal.nD Cert.ReferenceLIdeal.τ).loc Cert.ReferenceLIdeal.main_v33) = v2 c
          ∧ r.2.mem ((c.tc : Thread Cert.ReferenceLIdeal.nD Cert.ReferenceLIdeal.τ).loc Cert.ReferenceLIdeal.main_arg0) = m' ((c.tc : Thread Cert.ReferenceLIdeal.nD Cert.ReferenceLIdeal.τ).loc Cert.ReferenceLIdeal.main_arg0)
          ∧ r.2.mem ((c.tc : Thread Cert.ReferenceLIdeal.nD Cert.ReferenceLIdeal.τ).loc Cert.ReferenceLIdeal.main_arg1) = m' ((c.tc : Thread Cert.ReferenceLIdeal.nD Cert.ReferenceLIdeal.τ).loc Cert.ReferenceLIdeal.main_arg1)
          ∧ r.2.mem ((c.tc : Thread Cert.ReferenceLIdeal.nD Cert.ReferenceLIdeal.τ).loc Cert.ReferenceLIdeal.main_arg2) = m' ((c.tc : Thread Cert.ReferenceLIdeal.nD Cert.ReferenceLIdeal.τ).loc Cert.ReferenceLIdeal.main_arg2)
          ∧ r.2.mem ((c.tc : Thread Cert.ReferenceLIdeal.nD Cert.ReferenceLIdeal.τ).loc Cert.ReferenceLIdeal.main_arg3) = m' ((c.tc : Thread Cert.ReferenceLIdeal.nD Cert.ReferenceLIdeal.τ).loc Cert.ReferenceLIdeal.main_arg3)
          ∧ r.2.mem ((c.tc : Thread Cert.ReferenceLIdeal.nD Cert.ReferenceLIdeal.τ).loc Cert.ReferenceLIdeal.main_arg4) = m' ((c.tc : Thread Cert.ReferenceLIdeal.nD Cert.ReferenceLIdeal.τ).loc Cert.ReferenceLIdeal.main_arg4)
          ∧ r.2.mem ((c.tc : Thread Cert.ReferenceLIdeal.nD Cert.ReferenceLIdeal.τ).loc Cert.ReferenceLIdeal.main_arg5) = m' ((c.tc : Thread Cert.ReferenceLIdeal.nD Cert.ReferenceLIdeal.τ).loc Cert.ReferenceLIdeal.main_arg5))

def Claim : Prop :=
  ∃ (hKernel : Cert.Kernel.Facts) (hKernelIdeal : Cert.KernelIdeal.Facts) (hReferenceIdeal : Cert.ReferenceIdeal.Facts) (hKernelW : Cert.KernelW.Facts) (hKernelWIdeal : Cert.KernelWIdeal.Facts) (hReferenceWIdeal : Cert.ReferenceWIdeal.Facts) (hKernelX : Cert.KernelX.Facts) (hKernelXIdeal : Cert.KernelXIdeal.Facts) (hReferenceXIdeal : Cert.ReferenceXIdeal.Facts) (hKernelO : Cert.KernelO.Facts) (hKernelOIdeal : Cert.KernelOIdeal.Facts) (hReferenceOIdeal : Cert.ReferenceOIdeal.Facts) (hKernelY : Cert.KernelY.Facts) (hKernelYIdeal : Cert.KernelYIdeal.Facts) (hReferenceYIdeal : Cert.ReferenceYIdeal.Facts) (hKernelI : Cert.KernelI.Facts) (hKernelIIdeal : Cert.KernelIIdeal.Facts) (hReferenceIIdeal : Cert.ReferenceIIdeal.Facts) (hKernelL : Cert.KernelL.Facts) (hKernelLIdeal : Cert.KernelLIdeal.Facts) (hReferenceLIdeal : Cert.ReferenceLIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelW (hKernelW := hKernelW)
    ∧ quiescent_KernelWIdeal (hKernelWIdeal := hKernelWIdeal)
    ∧ quiescent_ReferenceWIdeal (hReferenceWIdeal := hReferenceWIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelI (hKernelI := hKernelI)
    ∧ quiescent_KernelIIdeal (hKernelIIdeal := hKernelIIdeal)
    ∧ quiescent_ReferenceIIdeal (hReferenceIIdeal := hReferenceIIdeal)
    ∧ quiescent_KernelL (hKernelL := hKernelL)
    ∧ quiescent_KernelLIdeal (hKernelLIdeal := hKernelLIdeal)
    ∧ quiescent_ReferenceLIdeal (hReferenceLIdeal := hReferenceLIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelW_KernelWIdeal
    ∧ algebraic_KernelWIdeal_ReferenceWIdeal (hKernelWIdeal := hKernelWIdeal) (hReferenceWIdeal := hReferenceWIdeal)
    ∧ preserves_KernelX_KernelXIdeal
    ∧ algebraic_KernelXIdeal_ReferenceXIdeal (hKernelXIdeal := hKernelXIdeal) (hReferenceXIdeal := hReferenceXIdeal)
    ∧ preserves_KernelO_KernelOIdeal
    ∧ algebraic_KernelOIdeal_ReferenceOIdeal (hKernelOIdeal := hKernelOIdeal) (hReferenceOIdeal := hReferenceOIdeal)
    ∧ preserves_KernelY_KernelYIdeal
    ∧ algebraic_KernelYIdeal_ReferenceYIdeal (hKernelYIdeal := hKernelYIdeal) (hReferenceYIdeal := hReferenceYIdeal)
    ∧ preserves_KernelI_KernelIIdeal
    ∧ algebraic_KernelIIdeal_ReferenceIIdeal (hKernelIIdeal := hKernelIIdeal) (hReferenceIIdeal := hReferenceIIdeal)
    ∧ preserves_KernelL_KernelLIdeal
    ∧ algebraic_KernelLIdeal_ReferenceLIdeal (hKernelLIdeal := hKernelLIdeal) (hReferenceLIdeal := hReferenceLIdeal)
-- ==== Pre_finite.lean ====
abbrev S4096x6400 : Shape := ⟨2, ![4096, 6400]⟩
abbrev S16 : Shape := ⟨1, ![16]⟩
abbrev S4096x1024 : Shape := ⟨2, ![4096, 1024]⟩
abbrev S_ : Shape := ⟨0, ![]⟩

class Facts : Prop where
  bcast_S_S4096x6400 : S_.BroadcastsInDim S4096x6400 (![] : Fin 0 → Fin S4096x6400.rank)
  bcast_S_S16 : S_.BroadcastsInDim S16 (![] : Fin 0 → Fin S16.rank)
  bcast_S_S4096x1024 : S_.BroadcastsInDim S4096x1024 (![] : Fin 0 → Fin S4096x1024.rank)

variable [Facts]

def fn {F : FTy → Type} [FloatOps F] (main_arg0 : FVec F S4096x6400 .f32) (main_arg1 : FVec F S16 .f32) (main_arg2 : FVec F S4096x1024 .f32) : IVec S4096x6400 1 × IVec S16 1 × IVec S4096x1024 1 :=
  let main_v0 : FVec F S4096x6400 .f32 := Host.absf main_arg0
  let main_cst : FVec F S_ .f32 := constant S_ .f32 0x7F800000#32
  let main_v1 : FVec F S4096x6400 .f32 := broadcastInDim S4096x6400 ![] bcast_S_S4096x6400 main_cst
  let main_v2 : IVec S4096x6400 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Kernel.lean ====
abbrev S4096x6400 : Shape := ⟨2, ![4096, 6400]⟩
abbrev S16 : Shape := ⟨1, ![16]⟩
abbrev S4096x1024 : Shape := ⟨2, ![4096, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x1 : Shape := ⟨2, ![16, 1]⟩
abbrev S16x128 : Shape := ⟨2, ![16, 128]⟩
abbrev S4096x256 : Shape := ⟨2, ![4096, 256]⟩
abbrev S128x1024 : Shape := ⟨2, ![128, 1024]⟩
abbrev S128x256 : Shape := ⟨2, ![128, 256]⟩
abbrev S128x128 : Shape := ⟨2, ![128, 128]⟩
abbrev S256x1024 : Shape := ⟨2, ![256, 1024]⟩
abbrev S1024x128 : Shape := ⟨2, ![1024, 128]⟩
abbrev S1x128 : Shape := ⟨2, ![1, 128]⟩
abbrev S128x1 : Shape := ⟨2, ![128, 1]⟩
abbrev S256x128 : Shape := ⟨2, ![256, 128]⟩
abbrev S1x1 : Shape := ⟨2, ![1, 1]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 34
  | .vmem => 31
  | .smem => 0
  | _ => 0

abbrev bufTy : (tb : Table) → Fin (tcTables nBuf tb) → BufTy
  | .hbm, ⟨0, _⟩ => ⟨S4096x6400, .f32⟩
  | .hbm, ⟨1, _⟩ => ⟨S16, .f32⟩
  | .hbm, ⟨2, _⟩ => ⟨S4096x1024, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2048, .f32⟩
  | .hbm, ⟨12, _⟩ => ⟨S2048x1, .f32⟩
  | .hbm, ⟨13, _⟩ => ⟨S1x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x64, .f32⟩
  | .hbm, ⟨20, _⟩ => ⟨S1x2048x1x64, .f32⟩
  | .hbm, ⟨21, _⟩ => ⟨S1x2048x2x64, .f32⟩
  | .hbm, ⟨22, _⟩ => ⟨S2048x128, .f32⟩
  | .hbm, ⟨23, _⟩ => ⟨S2048x32, .f32⟩
  | .hbm, ⟨24, _⟩ => ⟨S2048x64, .f32⟩
  | .hbm, ⟨25, _⟩ => ⟨S1x2048x1x64, .f32⟩
  | .hbm, ⟨26, _⟩ => ⟨S1x2048x2x64, .f32⟩
  | .hbm, ⟨27, _⟩ => ⟨S2048x128, .f32⟩
  | .hbm, ⟨28, _⟩ => ⟨S16x1, .f32⟩
  | .hbm, ⟨29, _⟩ => ⟨S16x128, .f32⟩
  | .hbm, ⟨30, _⟩ => ⟨S4096x1024, .bf16⟩
  | .hbm, ⟨31, _⟩ => ⟨S4096x1024, .bf16⟩
  | .hbm, ⟨32, _⟩ => ⟨S4096x256, .bf16⟩
  | .hbm, ⟨33, _⟩ => ⟨S16x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S16x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x1024, .f32⟩
  | .local _ .vmem, ⟨18, _⟩ => ⟨S128x1024, .f32⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x256, .bf16⟩
  | .local _ .vmem, ⟨24, _⟩ => ⟨S128x256, .bf16⟩
  | .local _ .vmem, ⟨25, _⟩ => ⟨S16x128, .f32⟩
  | .local _ .vmem, ⟨26, _⟩ => ⟨S128x256, .f32⟩
  | .local _ .vmem, ⟨27, _⟩ => ⟨S256x1024, .bf16⟩
  | .local _ .vmem, ⟨28, _⟩ => ⟨S256x1024, .bf16⟩
  | .local _ .vmem, ⟨29, _⟩ => ⟨S1024x128, .bf16⟩
  | .local _ .vmem, ⟨30, _⟩ => ⟨S1024x128, .bf16⟩
  | _, _ => ⟨S4096x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v25_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c4_i32 : BitVec 32 := 4#32
  let c0_i32 : BitVec 32 := 0#32
  ![v3.toNat, c4_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c5_i32 : BitVec 32 := 5#32
  let c0_i32 : BitVec 32 := 0#32
  ![v3.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c24_i32 : BitVec 32 := 24#32
  let c0_i32 : BitVec 32 := 0#32
  ![v3.toNat, c24_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c14_i32 : BitVec 32 := 14#32
  let v1 : BitVec 32 := Scalar.subi c14_i32 arg1
  let c0_i32 : BitVec 32 := 0#32
  let v2 : BitVec 32 := Scalar.maxsi v1 c0_i32
  let v3 : BitVec 32 := Scalar.addi v0 v2
  let c24_i32 : BitVec 32 := 24#32
  let c0_i32_0 : BitVec 32 := 0#32
  ![v3.toNat, c24_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4096x6400 : Shape := ⟨2, ![4096, 6400]⟩
abbrev S16 : Shape := ⟨1, ![16]⟩
abbrev S4096x1024 : Shape := ⟨2, ![4096, 1024]⟩
abbrev S4096x128 : Shape := ⟨2, ![4096, 128]⟩
abbrev S2048 : Shape := ⟨1, ![2048]⟩
abbrev S2x2048x16x64 : Shape := ⟨4, ![2, 2048, 16, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S2x2048x16x32 : Shape := ⟨4, ![2, 2048, 16, 32]⟩
abbrev S2x2048x2x64 : Shape := ⟨4, ![2, 2048, 2, 64]⟩
abbrev S2x2048x2x32 : Shape := ⟨4, ![2, 2048, 2, 32]⟩
abbrev S2x16x128x2x8x64 : Shape := ⟨6, ![2, 16, 128, 2, 8, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x8 : Shape := ⟨6, ![2, 16, 2, 256, 128, 8]⟩
abbrev S2x16x2x8x128x256 : Shape := ⟨6, ![2, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S2x16x2x8x128x1 : Shape := ⟨6, ![2, 16, 2, 8, 128, 1]⟩
abbrev S2x16x2x8x128x257 : Shape := ⟨6, ![2, 16, 2, 8, 128, 257]⟩
abbrev S2x16x2x8x128 : Shape := ⟨5, ![2, 16, 2, 8, 128]⟩
abbrev S2x16x2x64x8x128 : Shape := ⟨6, ![2, 16, 2, 64, 8, 128]⟩
abbrev S2x2048x1024 : Shape := ⟨3, ![2, 2048, 1024]⟩
abbrev S2x16x2x64x256 : Shape := ⟨5, ![2, 16, 2, 64, 256]⟩
abbrev S2x16x2x128x8x64 : Shape := ⟨6, ![2, 16, 2, 128, 8, 64]⟩
abbrev S2x16x2x256x64 : Shape := ⟨5, ![2, 16, 2, 256, 64]⟩
abbrev S4096x256 : Shape := ⟨2, ![4096, 256]⟩
abbrev S16x128 : Shape := ⟨2, ![16, 128]⟩

abbrev nBuf : Space → Nat
  | .hbm => 313
  | .vmem => 0
  | .smem => 0
  | _ => 0

abbrev hbmTy0_0 (i : Nat) : BufTy := match i % 128 with
  | 0 => ⟨S4096x6400, .f32⟩
  | 1 => ⟨S16, .f32⟩
  | 2 => ⟨S4096x1024, .f32⟩
  | 3 => ⟨S4096x1024, .f32⟩
  | 4 => ⟨S4096x1024, .f32⟩
  | 5 => ⟨S4096x128, .f32⟩
  | 6 => ⟨S4096x128, .f32⟩
  | 7 => ⟨S2048, .i32⟩
  | 8 => ⟨S2x2048x16x64, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S1x2048x1x32, .f32⟩
  | 25 => ⟨S2048x32, .f32⟩
  | 26 => ⟨S1x2048x1x32, .f32⟩
  | 27 => ⟨S2x2048x16x32, .f32⟩
  | 28 => ⟨S2x2048x16x32, .f32⟩
  | 29 => ⟨S2x2048x16x32, .f32⟩
  | 30 => ⟨S2x2048x16x32, .f32⟩
  | 31 => ⟨S2x2048x16x32, .f32⟩
  | 32 => ⟨S2x2048x16x32, .f32⟩
  | 33 => ⟨S2x2048x16x32, .f32⟩
  | 34 => ⟨S2x2048x16x32, .f32⟩
  | 35 => ⟨S2x2048x16x32, .f32⟩
  | 36 => ⟨S2x2048x16x32, .f32⟩
  | 37 => ⟨S2x2048x16x32, .f32⟩
  | 38 => ⟨S2x2048x16x32, .f32⟩
  | 39 => ⟨S2x2048x16x64, .f32⟩
  | 40 => ⟨S2x2048x2x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S1x2048x1x32, .f32⟩
  | 57 => ⟨S2048x32, .f32⟩
  | 58 => ⟨S1x2048x1x32, .f32⟩
  | 59 => ⟨S2x2048x2x32, .f32⟩
  | 60 => ⟨S2x2048x2x32, .f32⟩
  | 61 => ⟨S2x2048x2x32, .f32⟩
  | 62 => ⟨S2x2048x2x32, .f32⟩
  | 63 => ⟨S2x2048x2x32, .f32⟩
  | 64 => ⟨S2x2048x2x32, .f32⟩
  | 65 => ⟨S2x2048x2x32, .f32⟩
  | 66 => ⟨S2x2048x2x32, .f32⟩
  | 67 => ⟨S2x2048x2x32, .f32⟩
  | 68 => ⟨S2x2048x2x32, .f32⟩
  | 69 => ⟨S2x2048x2x32, .f32⟩
  | 70 => ⟨S2x2048x2x32, .f32⟩
  | 71 => ⟨S2x2048x2x64, .f32⟩
  | 72 => ⟨S2x2048x2x64, .f32⟩
  | 73 => ⟨S2x16x128x2x8x64, .f32⟩
  | 74 => ⟨S2x16x128x2x64, .f32⟩
  | 75 => ⟨S2x16x128x2x64, .f32⟩
  | 76 => ⟨S2x1x128x2x64, .f32⟩
  | 77 => ⟨S_, .f32⟩
  | 78 => ⟨S2x1x128x2x64, .f32⟩
  | 79 => ⟨S2x15x128x2x64, .f32⟩
  | 80 => ⟨S2x16x128x2x64, .f32⟩
  | 81 => ⟨S_, .f32⟩
  | 82 => ⟨S2x1x128x2x64, .f32⟩
  | 83 => ⟨S2x1x128x2x64, .f32⟩
  | 84 => ⟨S_, .f32⟩
  | 85 => ⟨S2x1x128x2x64, .f32⟩
  | 86 => ⟨S2x15x128x2x64, .f32⟩
  | 87 => ⟨S2x16x128x2x64, .f32⟩
  | 88 => ⟨S_, .f32⟩
  | 89 => ⟨S2x1x128x2x64, .f32⟩
  | 90 => ⟨S2x16x256x2x64, .f32⟩
  | 91 => ⟨S2x16x256x2x64, .f32⟩
  | 92 => ⟨S2x16x2x256x128x8, .f32⟩
  | 93 => ⟨S2x16x2x8x128x256, .f32⟩
  | 94 => ⟨S_, .f32⟩
  | 95 => ⟨S2x16x2x8x128x256, .f32⟩
  | 96 => ⟨S2x16x2x8x128x256, .f32⟩
  | 97 => ⟨S128, .i32⟩
  | 98 => ⟨S128x1, .i32⟩
  | 99 => ⟨S_, .i32⟩
  | 100 => ⟨S128x1, .i32⟩
  | 101 => ⟨S128x1, .i32⟩
  | 102 => ⟨S256, .i32⟩
  | 103 => ⟨S1x256, .i32⟩
  | 104 => ⟨S128x256, .i32⟩
  | 105 => ⟨S128x256, .i32⟩
  | 106 => ⟨S128x256, .i32⟩
  | 107 => ⟨S_, .i32⟩
  | 108 => ⟨S128x256, .i32⟩
  | 109 => ⟨S128x256, .i1⟩
  | 110 => ⟨S_, .i32⟩
  | 111 => ⟨S128x256, .i32⟩
  | 112 => ⟨S128x256, .i1⟩
  | 113 => ⟨S128x256, .i1⟩
  | 114 => ⟨S16, .i32⟩
  | 115 => ⟨S16x1, .i32⟩
  | 116 => ⟨S_, .i32⟩
  | 117 => ⟨S16x1, .i32⟩
  | 118 => ⟨S16x1, .i32⟩
  | 119 => ⟨S_, .i32⟩
  | 120 => ⟨S16x1, .i32⟩
  | 121 => ⟨S16x1, .i32⟩
  | 122 => ⟨S256, .i32⟩
  | 123 => ⟨S1x256, .i32⟩
  | 124 => ⟨S16x256, .i32⟩
  | 125 => ⟨S16x256, .i32⟩
  | 126 => ⟨S16x256, .i32⟩
  | 127 => ⟨S_, .i32⟩
  | _ => ⟨S4096x6400, .f32⟩

abbrev hbmTy0_1 (i : Nat) : BufTy := match i % 128 with
  | 0 => ⟨S16x256, .i32⟩
  | 1 => ⟨S16x256, .i1⟩
  | 2 => ⟨S1x128x256, .i1⟩
  | 3 => ⟨S16x1x256, .i1⟩
  | 4 => ⟨S16x128x256, .i1⟩
  | 5 => ⟨S16x128x256, .i1⟩
  | 6 => ⟨S16x128x256, .i1⟩
  | 7 => ⟨S1x16x1x1x128x256, .i1⟩
  | 8 => ⟨S_, .f32⟩
  | 9 => ⟨S_, .f32⟩
  | 10 => ⟨S2x16x2x8x128x256, .i1⟩
  | 11 => ⟨S2x16x2x8x128x256, .f32⟩
  | 12 => ⟨S2x16x2x8x128x256, .f32⟩
  | 13 => ⟨S_, .f32⟩
  | 14 => ⟨S2x16x2x8x128x256, .f32⟩
  | 15 => ⟨S2x8, .f32⟩
  | 16 => ⟨S1x1x2x8x1x1, .f32⟩
  | 17 => ⟨S2x16x2x8x128x1, .f32⟩
  | 18 => ⟨S2x16x2x8x128x257, .f32⟩
  | 19 => ⟨S_, .f32⟩
  | 20 => ⟨S2x16x2x8x128, .f32⟩
  | 21 => ⟨S2x16x2x8x128x1, .f32⟩
  | 22 => ⟨S2x16x2x8x128x257, .f32⟩
  | 23 => ⟨S2x16x2x8x128x257, .i1⟩
  | 24 => ⟨S2x16x2x8x128x257, .f32⟩
  | 25 => ⟨S_, .f32⟩
  | 26 => ⟨S2x16x2x8x128, .f32⟩
  | 27 => ⟨S_, .f32⟩
  | 28 => ⟨S2x16x2x8x128, .f32⟩
  | 29 => ⟨S2x16x2x8x128, .f32⟩
  | 30 => ⟨S_, .f32⟩
  | 31 => ⟨S2x16x2x8x128, .f32⟩
  | 32 => ⟨S2x16x2x8x128, .i1⟩
  | 33 => ⟨S_, .f32⟩
  | 34 => ⟨S2x16x2x8x128, .f32⟩
  | 35 => ⟨S2x16x2x8x128, .i1⟩
  | 36 => ⟨S_, .f32⟩
  | 37 => ⟨S2x16x2x8x128, .f32⟩
  | 38 => ⟨S_, .f32⟩
  | 39 => ⟨S2x16x2x8x128, .f32⟩
  | 40 => ⟨S_, .f32⟩
  | 41 => ⟨S2x16x2x8x128, .f32⟩
  | 42 => ⟨S2x16x2x8x128, .f32⟩
  | 43 => ⟨S2x16x2x8x128, .f32⟩
  | 44 => ⟨S2x16x2x8x128x1, .f32⟩
  | 45 => ⟨S2x16x2x8x128x257, .f32⟩
  | 46 => ⟨S2x16x2x8x128x257, .f32⟩
  | 47 => ⟨S2x16x2x8x128x257, .f32⟩
  | 48 => ⟨S_, .f32⟩
  | 49 => ⟨S2x16x2x8x128, .f32⟩
  | 50 => ⟨S2x16x2x8x128x1, .f32⟩
  | 51 => ⟨S2x16x2x8x128x257, .f32⟩
  | 52 => ⟨S2x16x2x8x128x257, .f32⟩
  | 53 => ⟨S2x16x2x8x128x1, .f32⟩
  | 54 => ⟨S_, .f32⟩
  | 55 => ⟨S2x16x2x8x128x1, .f32⟩
  | 56 => ⟨S2x16x2x8x128x1, .f32⟩
  | 57 => ⟨S2x16x2x8x128x256, .f32⟩
  | 58 => ⟨S2x16x2x64x8x128, .f32⟩
  | 59 => ⟨S2x16x128x2x8x64, .f32⟩
  | 60 => ⟨S2x2048x1024, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S2x2048x1024, .f32⟩
  | 83 => ⟨S2x16x128x2x8x64, .f32⟩
  | 84 => ⟨S2x16x2x64x8x128, .f32⟩
  | 85 => ⟨S2x16x2x8x128x256, .f32⟩
  | 86 => ⟨S2x16x2x64x256, .f32⟩
  | 87 => ⟨S2x16x256x2x64, .f32⟩
  | 88 => ⟨S_, .f32⟩
  | 89 => ⟨S2x16x2x8x128x257, .f32⟩
  | 90 => ⟨S2x16x2x8x128x257, .f32⟩
  | 91 => ⟨S2x16x2x8x128x257, .f32⟩
  | 92 => ⟨S2x16x2x8x128x257, .f32⟩
  | 93 => ⟨S_, .f32⟩
  | 94 => ⟨S2x16x2x8x128, .f32⟩
  | 95 => ⟨S2x16x2x8x128x1, .f32⟩
  | 96 => ⟨S2x16x2x8x128x1, .f32⟩
  | 97 => ⟨S2x16x2x8x128x257, .f32⟩
  | 98 => ⟨S2x16x2x8x128x257, .f32⟩
  | 99 => ⟨S_, .f32⟩
  | 100 => ⟨S2x16x2x8x128, .f32⟩
  | 101 => ⟨S2x16x2x8x128x257, .f32⟩
  | 102 => ⟨S2x16x2x8x128x257, .f32⟩
  | 103 => ⟨S2x16x2x8x128x257, .f32⟩
  | 104 => ⟨S2x16x2x8x128x256, .f32⟩
  | 105 => ⟨S2x16x2x8x128x1, .f32⟩
  | 106 => ⟨S_, .f32⟩
  | 107 => ⟨S2x8, .f32⟩
  | 108 => ⟨S1x1x2x8x1x1, .f32⟩
  | 109 => ⟨S_, .f32⟩
  | 110 => ⟨S2x8, .f32⟩
  | 111 => ⟨S16, .f32⟩
  | 112 => ⟨S_, .f32⟩
  | 113 => ⟨S2x16x2x8x128x256, .f32⟩
  | 114 => ⟨S2x16x2x8x128x256, .f32⟩
  | 115 => ⟨S_, .f32⟩
  | 116 => ⟨S2x16x2x8x128x256, .f32⟩
  | 117 => ⟨S2x16x2x8x128x256, .f32⟩
  | 118 => ⟨S2x16x2x256x128x8, .f32⟩
  | 119 => ⟨S2x16x2x128x8x64, .f32⟩
  | 120 => ⟨S2x16x128x2x8x64, .f32⟩
  | 121 => ⟨S2x16x2x256x64, .f32⟩
  | 122 => ⟨S2x16x256x2x64, .f32⟩
  | 123 => ⟨S2x16x128x2x64, .f32⟩
  | 124 => ⟨S2x16x128x2x64, .f32⟩
  | 125 => ⟨S2x16x128x2x64, .f32⟩
  | 126 => ⟨S2x16x128x2x64, .f32⟩
  | 127 => ⟨S2x1x128x2x64, .f32⟩
  | _ => ⟨S4096x6400, .f32⟩

abbrev hbmTy0_2 (i : Nat) : BufTy := match i % 128 with
  | 0 => ⟨S2x15x128x2x64, .f32⟩
  | 1 => ⟨S_, .f32⟩
  | 2 => ⟨S2x16x128x2x64, .f32⟩
  | 3 => ⟨S2x16x128x2x64, .f32⟩
  | 4 => ⟨S2x1x128x2x64, .f32⟩
  | 5 => ⟨S2x15x128x2x64, .f32⟩
  | 6 => ⟨S_, .f32⟩
  | 7 => ⟨S2x16x128x2x64, .f32⟩
  | 8 => ⟨S2x16x128x2x64, .f32⟩
  | 9 => ⟨S2x2048x2x64, .f32⟩
  | 10 => ⟨S2x2048x2x64, .f32⟩
  | 11 => ⟨S2x2048x16x64, .f32⟩
  | 12 => ⟨S4096x128, .f32⟩
  | 13 => ⟨S2x2048x2x32, .f32⟩
  | 14 => ⟨S2x2048x2x32, .f32⟩
  | 15 => ⟨S2x2048x2x32, .f32⟩
  | 16 => ⟨S2x2048x2x32, .f32⟩
  | 17 => ⟨S2x2048x2x32, .f32⟩
  | 18 => ⟨S2x2048x2x32, .f32⟩
  | 19 => ⟨S2x2048x2x32, .f32⟩
  | 20 => ⟨S2x2048x2x32, .f32⟩
  | 21 => ⟨S2x2048x2x32, .f32⟩
  | 22 => ⟨S2x2048x2x32, .f32⟩
  | 23 => ⟨S2x2048x2x32, .f32⟩
  | 24 => ⟨S2x2048x2x32, .f32⟩
  | 25 => ⟨S2x2048x2x32, .f32⟩
  | 26 => ⟨S_, .f32⟩
  | 27 => ⟨S2x2048x2x64, .f32⟩
  | 28 => ⟨S_, .f32⟩
  | 29 => ⟨S2x2048x2x64, .f32⟩
  | 30 => ⟨S2x2048x2x64, .f32⟩
  | 31 => ⟨S4096x128, .f32⟩
  | 32 => ⟨S2x2048x16x32, .f32⟩
  | 33 => ⟨S2x2048x16x32, .f32⟩
  | 34 => ⟨S2x2048x16x32, .f32⟩
  | 35 => ⟨S2x2048x16x32, .f32⟩
  | 36 => ⟨S2x2048x16x32, .f32⟩
  | 37 => ⟨S2x2048x16x32, .f32⟩
  | 38 => ⟨S2x2048x16x32, .f32⟩
  | 39 => ⟨S2x2048x16x32, .f32⟩
  | 40 => ⟨S2x2048x16x32, .f32⟩
  | 41 => ⟨S2x2048x16x32, .f32⟩
  | 42 => ⟨S2x2048x16x32, .f32⟩
  | 43 => ⟨S2x2048x16x32, .f32⟩
  | 44 => ⟨S2x2048x16x32, .f32⟩
  | 45 => ⟨S_, .f32⟩
  | 46 => ⟨S2x2048x16x64, .f32⟩
  | 47 => ⟨S_, .f32⟩
  | 48 => ⟨S2x2048x16x64, .f32⟩
  | 49 => ⟨S2x2048x16x64, .f32⟩
  | 50 => ⟨S4096x1024, .f32⟩
  | 51 => ⟨S4096x256, .f32⟩
  | 52 => ⟨S4096x1024, .bf16⟩
  | 53 => ⟨S4096x1024, .bf16⟩
  | 54 => ⟨S4096x256, .bf16⟩
  | 55 => ⟨S16x1, .f32⟩
  | 56 => ⟨S16x128, .f32⟩
  | _ => ⟨S4096x6400, .f32⟩

abbrev hbmTy (i : Nat) : BufTy := match i / 128 with
  | 0 => hbmTy0_0 i
  | 1 => hbmTy0_1 i
  | 2 => hbmTy0_2 i
  | _ => ⟨S4096x6400, .f32⟩

abbrev bufTy : (tb : Table) → Fin (tcTables nBuf tb) → BufTy
  | .hbm, ⟨i, _⟩ => hbmTy i
  | _, _ => ⟨S4096x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_3 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_cst_4 : Ref sig .tc := ⟨.hbm, 81, rfl⟩
abbrev main_v73 : Ref sig .tc := ⟨.hbm, 82, rfl⟩
abbrev main_v74 : Ref sig .tc := ⟨.hbm, 83, rfl⟩
abbrev main_cst_5 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_7 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_c : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_c_8 : Ref sig .tc := ⟨.hbm, 107, rfl⟩
abbrev main_v94 : Ref sig .tc := ⟨.hbm, 108, rfl⟩
abbrev main_v95 : Ref sig .tc := ⟨.hbm, 109, rfl⟩
abbrev main_c_9 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_c_10 : Ref sig .tc := ⟨.hbm, 116, rfl⟩
abbrev main_v101 : Ref sig .tc := ⟨.hbm, 117, rfl⟩
abbrev main_v102 : Ref sig .tc := ⟨.hbm, 118, rfl⟩
abbrev main_c_11 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_c_12 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_13 : Ref sig .tc := ⟨.hbm, 136, rfl⟩
abbrev main_call0_v0 : Ref sig .tc := ⟨.hbm, 137, rfl⟩
abbrev main_v118_1 : Ref sig .tc := ⟨.hbm, 138, rfl⟩
abbrev main_call0_v2 : Ref sig .tc := ⟨.hbm, 139, rfl⟩
abbrev main_v118_0 : Ref sig .tc := ⟨.hbm, 140, rfl⟩
abbrev main_call0_cst : Ref sig .tc := ⟨.hbm, 141, rfl⟩
abbrev main_v118_2 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_14 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_15 : Ref sig .tc := ⟨.hbm, 153, rfl⟩
abbrev main_v128 : Ref sig .tc := ⟨.hbm, 154, rfl⟩
abbrev main_cst_16 : Ref sig .tc := ⟨.hbm, 155, rfl⟩
abbrev main_v129 : Ref sig .tc := ⟨.hbm, 156, rfl⟩
abbrev main_v130 : Ref sig .tc := ⟨.hbm, 157, rfl⟩
abbrev main_cst_17 : Ref sig .tc := ⟨.hbm, 158, rfl⟩
abbrev main_v131 : Ref sig .tc := ⟨.hbm, 159, rfl⟩
abbrev main_v132 : Ref sig .tc := ⟨.hbm, 160, rfl⟩
abbrev main_cst_18 : Ref sig .tc := ⟨.hbm, 161, rfl⟩
abbrev main_v133 : Ref sig .tc := ⟨.hbm, 162, rfl⟩
abbrev main_v134 : Ref sig .tc := ⟨.hbm, 163, rfl⟩
abbrev main_cst_19 : Ref sig .tc := ⟨.hbm, 164, rfl⟩
abbrev main_v135 : Ref sig .tc := ⟨.hbm, 165, rfl⟩
abbrev main_cst_20 : Ref sig .tc := ⟨.hbm, 166, rfl⟩
abbrev main_v136 : Ref sig .tc := ⟨.hbm, 167, rfl⟩
abbrev main_cst_21 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_22 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_23 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_call1_v0 : Ref sig .tc := ⟨.hbm, 190, rfl⟩
abbrev main_call1_v1 : Ref sig .tc := ⟨.hbm, 191, rfl⟩
abbrev main_call1_cst : Ref sig .tc := ⟨.hbm, 192, rfl⟩
abbrev main_call1_v2 : Ref sig .tc := ⟨.hbm, 193, rfl⟩
abbrev main_call1_v3 : Ref sig .tc := ⟨.hbm, 194, rfl⟩
abbrev main_call1_cst_0 : Ref sig .tc := ⟨.hbm, 195, rfl⟩
abbrev main_call1_v4 : Ref sig .tc := ⟨.hbm, 196, rfl⟩
abbrev main_v156_2 : Ref sig .tc := ⟨.hbm, 197, rfl⟩
abbrev main_call1_cst_1 : Ref sig .tc := ⟨.hbm, 198, rfl⟩
abbrev main_call1_v6 : Ref sig .tc := ⟨.hbm, 199, rfl⟩
abbrev main_call1_v7 : Ref sig .tc := ⟨.hbm, 200, rfl⟩
abbrev main_v156_1 : Ref sig .tc := ⟨.hbm, 201, rfl⟩
abbrev main_v156_0 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_call2_v0 : Ref sig .tc := ⟨.hbm, 206, rfl⟩
abbrev main_call2_v1 : Ref sig .tc := ⟨.hbm, 207, rfl⟩
abbrev main_call2_v2 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_24 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_25 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_cst_26 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_27 : Ref sig .tc := ⟨.hbm, 234, rfl⟩
abbrev main_v182 : Ref sig .tc := ⟨.hbm, 235, rfl⟩
abbrev main_v183 : Ref sig .tc := ⟨.hbm, 236, rfl⟩
abbrev main_cst_28 : Ref sig .tc := ⟨.hbm, 237, rfl⟩
abbrev main_v184 : Ref sig .tc := ⟨.hbm, 238, rfl⟩
abbrev main_v185 : Ref sig .tc := ⟨.hbm, 239, rfl⟩
abbrev main_call3_cst : Ref sig .tc := ⟨.hbm, 240, rfl⟩
abbrev main_call3_v0 : Ref sig .tc := ⟨.hbm, 241, rfl⟩
abbrev main_v186 : Ref sig .tc := ⟨.hbm, 242, rfl⟩
abbrev main_cst_29 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_30 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_31 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_cst_32 : Ref sig .tc := ⟨.hbm, 282, rfl⟩
abbrev main_v223 : Ref sig .tc := ⟨.hbm, 283, rfl⟩
abbrev main_cst_33 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_cst_34 : Ref sig .tc := ⟨.hbm, 301, rfl⟩
abbrev main_v240 : Ref sig .tc := ⟨.hbm, 302, rfl⟩
abbrev main_cst_35 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩

abbrev nD : Nat := 1
abbrev τ : Topo := Topo.v7x

variable {F : FTy → Type} [FloatOps F]

def κ : String → Option EReal := fun
  | "mask" => some ⊥
  | _ => none
-- ==== KernelW.lean ====
abbrev S4096x1024 : Shape := ⟨2, ![4096, 1024]⟩
abbrev S4096x256 : Shape := ⟨2, ![4096, 256]⟩
abbrev S6400x1024 : Shape := ⟨2, ![6400, 1024]⟩
abbrev S256x1024 : Shape := ⟨2, ![256, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x256, .bf16⟩
  | .hbm, ⟨7, _⟩ => ⟨S4096x1024, .bf16⟩
  | .hbm, ⟨8, _⟩ => ⟨S6400x1024, .f32⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S256x1024, .f32⟩
  | .local _ .vmem, ⟨16, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c8_i32_3 : BitVec 32 := 8#32
  let v10 : BitVec 1 := Scalar.cmpi .sge arg0 c8_i32_3
  let c12_i32 : BitVec 32 := 12#32
  let v11 : BitVec 1 := Scalar.cmpi .slt arg0 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c12_i32_5 : BitVec 32 := 12#32
  let v15 : BitVec 1 := Scalar.cmpi .sge arg0 c12_i32_5
  let c16_i32 : BitVec 32 := 16#32
  let v16 : BitVec 1 := Scalar.cmpi .slt arg0 c16_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c16_i32_7 : BitVec 32 := 16#32
  let v20 : BitVec 1 := Scalar.cmpi .sge arg0 c16_i32_7
  let c20_i32 : BitVec 32 := 20#32
  let v21 : BitVec 1 := Scalar.cmpi .slt arg0 c20_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg0 : BitVec 32 := BitVec.ofNat 32 (i 0).val
  let c20_i32_9 : BitVec 32 := 20#32
  let v25 : BitVec 1 := Scalar.cmpi .sge arg0 c20_i32_9
  let c21_i32 : BitVec 32 := 21#32
  let v26 : BitVec 1 := Scalar.cmpi .slt arg0 c21_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond7 (i : grid0.Coords) : BitVec 1 :=
  let arg0 : BitVec 32 := BitVec.ofNat 32 (i 0).val
  let c21_i32_11 : BitVec 32 := 21#32
  let v30 : BitVec 1 := Scalar.cmpi .sge arg0 c21_i32_11
  let c25_i32 : BitVec 32 := 25#32
  let v31 : BitVec 1 := Scalar.cmpi .slt arg0 c25_i32
  let v32 : BitVec 1 := Scalar.andi v30 v31
  let v33 : BitVec 32 := Scalar.extui v32
  let c0_i32_12 : BitVec 32 := 0#32
  let v34 : BitVec 1 := Scalar.cmpi .ne v33 c0_i32_12
  v34

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c20_i32 : BitVec 32 := 20#32
  let v0 : BitVec 32 := Scalar.subi arg0 c20_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_7 (i : grid0.Coords) : Fin 2 → Nat :=
  let arg0 : BitVec 32 := BitVec.ofNat 32 (i 0).val
  let c21_i32 : BitVec 32 := 21#32
  let v0 : BitVec 32 := Scalar.subi arg0 c21_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceWIdeal.lean ====
abbrev S4096x1024 : Shape := ⟨2, ![4096, 1024]⟩
abbrev S4096x256 : Shape := ⟨2, ![4096, 256]⟩
abbrev S4096x6400 : Shape := ⟨2, ![4096, 6400]⟩
abbrev S_ : Shape := ⟨0, ![]⟩
abbrev S1024x6400 : Shape := ⟨2, ![1024, 6400]⟩
abbrev S6400x1024 : Shape := ⟨2, ![6400, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x256, .bf16⟩
  | .hbm, ⟨7, _⟩ => ⟨S4096x1024, .bf16⟩
  | .hbm, ⟨8, _⟩ => ⟨S4096x6400, .bf16⟩
  | .hbm, ⟨9, _⟩ => ⟨S4096x6400, .f32⟩
  | .hbm, ⟨10, _⟩ => ⟨S_, .f32⟩
  | .hbm, ⟨11, _⟩ => ⟨S1024x6400, .f32⟩
  | .hbm, ⟨12, _⟩ => ⟨S4096x1024, .f32⟩
  | .hbm, ⟨13, _⟩ => ⟨S4096x6400, .f32⟩
  | .hbm, ⟨14, _⟩ => ⟨S6400x1024, .f32⟩
  | .hbm, ⟨15, _⟩ => ⟨S1024x6400, .f32⟩
  | .hbm, ⟨16, _⟩ => ⟨S6400x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== KernelX.lean ====
abbrev S4096x1024 : Shape := ⟨2, ![4096, 1024]⟩
abbrev S4096x256 : Shape := ⟨2, ![4096, 256]⟩
abbrev S1x6400x1024 : Shape := ⟨3, ![1, 6400, 1024]⟩
abbrev S1x1024 : Shape := ⟨2, ![1, 1024]⟩
abbrev S512x1024 : Shape := ⟨2, ![512, 1024]⟩
abbrev S512x256 : Shape := ⟨2, ![512, 256]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x256, .bf16⟩
  | .hbm, ⟨6, _⟩ => ⟨S4096x1024, .bf16⟩
  | .hbm, ⟨7, _⟩ => ⟨S1x6400x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x1024, .bf16⟩
  | .local _ .vmem, ⟨13, _⟩ => ⟨S512x1024, .bf16⟩
  | .local _ .vmem, ⟨14, _⟩ => ⟨S1x6400x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6400x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceXIdeal.lean ====
abbrev S4096x1024 : Shape := ⟨2, ![4096, 1024]⟩
abbrev S4096x256 : Shape := ⟨2, ![4096, 256]⟩
abbrev S1x6400x1024 : Shape := ⟨3, ![1, 6400, 1024]⟩
abbrev S1x1024 : Shape := ⟨2, ![1, 1024]⟩
abbrev S4096x6400 : Shape := ⟨2, ![4096, 6400]⟩
abbrev S6400x1024 : Shape := ⟨2, ![6400, 1024]⟩
abbrev S1024x6400 : Shape := ⟨2, ![1024, 6400]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x256, .bf16⟩
  | .hbm, ⟨6, _⟩ => ⟨S4096x1024, .bf16⟩
  | .hbm, ⟨7, _⟩ => ⟨S1x6400x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x6400, .bf16⟩
  | .hbm, ⟨12, _⟩ => ⟨S4096x6400, .f32⟩
  | .hbm, ⟨13, _⟩ => ⟨S6400x1024, .bf16⟩
  | .hbm, ⟨14, _⟩ => ⟨S1024x6400, .bf16⟩
  | .hbm, ⟨15, _⟩ => ⟨S1024x6400, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x6400, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== KernelO.lean ====
abbrev S4096x1024 : Shape := ⟨2, ![4096, 1024]⟩
abbrev S1x1024 : Shape := ⟨2, ![1, 1024]⟩
abbrev S1x2048x1024 : Shape := ⟨3, ![1, 2048, 1024]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024x1024 : Shape := ⟨3, ![1, 1024, 1024]⟩
abbrev S1024x1024 : Shape := ⟨2, ![1024, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x2048x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S2048x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S2048x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceOIdeal.lean ====
abbrev S4096x1024 : Shape := ⟨2, ![4096, 1024]⟩
abbrev S1x1024 : Shape := ⟨2, ![1, 1024]⟩
abbrev S1x2048x1024 : Shape := ⟨3, ![1, 2048, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x2048 : Shape := ⟨2, ![4096, 2048]⟩
abbrev S2048x1024 : Shape := ⟨2, ![2048, 1024]⟩
abbrev S1024x2048 : Shape := ⟨2, ![1024, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x2048x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x2048, .bf16⟩
  | .hbm, ⟨49, _⟩ => ⟨S4096x2048, .f32⟩
  | .hbm, ⟨50, _⟩ => ⟨S2048x1024, .bf16⟩
  | .hbm, ⟨51, _⟩ => ⟨S2048x1024, .f32⟩
  | .hbm, ⟨52, _⟩ => ⟨S4096x1024, .f32⟩
  | .hbm, ⟨53, _⟩ => ⟨S1024x2048, .f32⟩
  | .hbm, ⟨54, _⟩ => ⟨S2048x1024, .f32⟩
  | .hbm, ⟨55, _⟩ => ⟨S4096x2048, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelY.lean ====
abbrev S4096x1024 : Shape := ⟨2, ![4096, 1024]⟩
abbrev S1x2048x1024 : Shape := ⟨3, ![1, 2048, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x2048x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceYIdeal.lean ====
abbrev S4096x1024 : Shape := ⟨2, ![4096, 1024]⟩
abbrev S1x2048x1024 : Shape := ⟨3, ![1, 2048, 1024]⟩
abbrev S1x1024 : Shape := ⟨2, ![1, 1024]⟩
abbrev S4096x2048 : Shape := ⟨2, ![4096, 2048]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x2048x1024, .bf16⟩
  | .hbm, ⟨3, _⟩ => ⟨S4096x1024, .f32⟩
  | .hbm, ⟨4, _⟩ => ⟨S1x1024, .f32⟩
  | .hbm, ⟨5, _⟩ => ⟨S4096x2048, .bf16⟩
  | .hbm, ⟨6, _⟩ => ⟨S4096x2048, .f32⟩
  | .hbm, ⟨7, _⟩ => ⟨S2048x1024, .bf16⟩
  | .hbm, ⟨8, _⟩ => ⟨S2048x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelI.lean ====
abbrev S4096x1024 : Shape := ⟨2, ![4096, 1024]⟩
abbrev S1x1024 : Shape := ⟨2, ![1, 1024]⟩
abbrev S1x6400x1024 : Shape := ⟨3, ![1, 6400, 1024]⟩
abbrev S1x1024x1024 : Shape := ⟨3, ![1, 1024, 1024]⟩
abbrev S1x256x1024 : Shape := ⟨3, ![1, 256, 1024]⟩
abbrev S1x1280x1024 : Shape := ⟨3, ![1, 1280, 1024]⟩
abbrev S4096x6400 : Shape := ⟨2, ![4096, 6400]⟩
abbrev S1024x1024 : Shape := ⟨2, ![1024, 1024]⟩
abbrev S1x5120x1024 : Shape := ⟨3, ![1, 5120, 1024]⟩
abbrev S1024x1280 : Shape := ⟨2, ![1024, 1280]⟩
abbrev S1024 : Shape := ⟨1, ![1024]⟩
abbrev S1024x1 : Shape := ⟨2, ![1024, 1]⟩
abbrev S1280x1024 : Shape := ⟨2, ![1280, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x6400x1024, .bf16⟩
  | .hbm, ⟨3, _⟩ => ⟨S1x1024x1024, .bf16⟩
  | .hbm, ⟨4, _⟩ => ⟨S1x256x1024, .bf16⟩
  | .hbm, ⟨5, _⟩ => ⟨S1x1280x1024, .bf16⟩
  | .hbm, ⟨6, _⟩ => ⟨S4096x6400, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x5120x1024, .bf16⟩
  | .local _ .vmem, ⟨4, _⟩ => ⟨S1x1280x1024, .bf16⟩
  | .local _ .vmem, ⟨5, _⟩ => ⟨S1024x1280, .f32⟩
  | .local _ .vmem, ⟨6, _⟩ => ⟨S1024x1280, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c1280_i32 : BitVec 32 := 1280#32
  let v10 : BitVec 32 := Scalar.muli arg1 c1280_i32
  v10
def k0_off1 (i : grid0.Coords) : Fin 3 → Nat :=
  let c0_5 : Index := 0#32
  let arg1 : BitVec 32 := BitVec.ofNat 32 (i 1).val
  let c1280_i32 : BitVec 32 := 1280#32
  let v10 : BitVec 32 := Scalar.muli arg1 c1280_i32
  let v11 : BitVec 32 := v10
  let v12 : Index := Scalar.indexCast v11
  let c0_6 : Index := 0#32
  ![0, v12.toNat, 0]
def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x5120x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIIdeal.lean ====
abbrev S4096x1024 : Shape := ⟨2, ![4096, 1024]⟩
abbrev S1x1024 : Shape := ⟨2, ![1, 1024]⟩
abbrev S1x6400x1024 : Shape := ⟨3, ![1, 6400, 1024]⟩
abbrev S_ : Shape := ⟨0, ![]⟩
abbrev S4096 : Shape := ⟨1, ![4096]⟩
abbrev S4096x1 : Shape := ⟨2, ![4096, 1]⟩
abbrev S6400x1024 : Shape := ⟨2, ![6400, 1024]⟩
abbrev S1024x6400 : Shape := ⟨2, ![1024, 6400]⟩
abbrev S4096x6400 : Shape := ⟨2, ![4096, 6400]⟩
abbrev S4096x5120 : Shape := ⟨2, ![4096, 5120]⟩
abbrev S4096x256 : Shape := ⟨2, ![4096, 256]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x6400x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S6400x1024, .bf16⟩
  | .hbm, ⟨19, _⟩ => ⟨S6400x1024, .f32⟩
  | .hbm, ⟨20, _⟩ => ⟨S1024x6400, .f32⟩
  | .hbm, ⟨21, _⟩ => ⟨S4096x6400, .f32⟩
  | .hbm, ⟨22, _⟩ => ⟨S4096x5120, .f32⟩
  | .hbm, ⟨23, _⟩ => ⟨S4096x1024, .f32⟩
  | .hbm, ⟨24, _⟩ => ⟨S4096x256, .f32⟩
  | .hbm, ⟨25, _⟩ => ⟨S4096x6400, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== KernelL.lean ====
abbrev S4096x1024 : Shape := ⟨2, ![4096, 1024]⟩
abbrev S1x2048x1024 : Shape := ⟨3, ![1, 2048, 1024]⟩
abbrev S1x1024 : Shape := ⟨2, ![1, 1024]⟩
abbrev S8x128 : Shape := ⟨2, ![8, 128]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x2048x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLIdeal.lean ====
abbrev S4096x1024 : Shape := ⟨2, ![4096, 1024]⟩
abbrev S1x2048x1024 : Shape := ⟨3, ![1, 2048, 1024]⟩
abbrev S1x1024 : Shape := ⟨2, ![1, 1024]⟩
abbrev S4096x2048 : Shape := ⟨2, ![4096, 2048]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x2048x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x2048, .bf16⟩
  | .hbm, ⟨7, _⟩ => ⟨S4096x2048, .f32⟩
  | .hbm, ⟨8, _⟩ => ⟨S2048x1024, .bf16⟩
  | .hbm, ⟨9, _⟩ => ⟨S2048x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S8x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Proof.Words.lean ====
/- The values of one grid point of the attention's backward kernel, written once for all head pairs: each definition is the
   kernel's own sequence of operations at the extended reals, over the tiles the point has loaded. -/
module

public import proofs.«01_k».proof.Proof.Gen.KernelIdeal.Value

@[expose] public section

set_option maxRecDepth 16384

noncomputable section

namespace Cert.KernelIdeal.Words

open Idealize.ShloMosaic Cert.KernelIdeal Cert.KernelIdeal.Gen

/-- The tiles a grid point loads: per head pair the query, gate and cotangent columns, per head the sink, the current and
    previous blocks' keys and values, the rotary tables of both blocks, and the mask. -/
structure Tiles where
  q : Bool → Fin 4 → Vec Ideal S128x128 .f32
  z : Bool → Fin 4 → Vec Ideal S128x128 .f32
  d : Bool → Fin 4 → Vec Ideal S128x128 .f32
  sk : Bool → Fin 4 → Bool → Vec Ideal S1x1 .f32
  kc : Vec Ideal S128x128 .f32
  vc : Vec Ideal S128x128 .f32
  kp : Vec Ideal S128x128 .f32
  vp : Vec Ideal S128x128 .f32
  cc : Vec Ideal S128x128 .f32
  sc : Vec Ideal S128x128 .f32
  cp : Vec Ideal S128x128 .f32
  sp : Vec Ideal S128x128 .f32
  mask : IVec S256x128 1

/-- A 128×128 tile of real numbers. -/
abbrev M := FVec Ideal S128x128 .f32

/-- The lanes of a half: the first 64 (`false`) or the last 64 (`true`). -/
def lanes (e : Bool) : IVec S1x128 1 := match e with
  | false => k0_pay7
  | true => xori k0_pay7 (constantI S1x128 1 1#1)

/-- The rows of a half: the first 64 (`false`) or the last 64 (`true`). -/
def rows (e : Bool) : IVec S128x1 1 := match e with
  | false => k0_pay9
  | true => xori k0_pay9 (constantI S128x1 1 1#1)

/-- A row mask over a 128×128 tile. -/
def rowSel (e : Bool) : IVec S128x128 1 :=
  broadcastTo S128x128 (shapeCast S128x1 (rows e) shapeCasts_S128x1_S128x1) broadcasts_S128x1_S128x128

/-- A lane mask over a 128×128 tile. -/
def laneSel (e : Bool) : IVec S128x128 1 :=
  broadcastTo S128x128 (shapeCast S1x128 (lanes e) shapeCasts_S1x128_S1x128) broadcasts_S1x128_S128x128

/-- The first half's lane mask over a 256×128 tile. -/
def laneSel2 : IVec S256x128 1 :=
  broadcastTo S256x128 (shapeCast S1x128 (lanes false) shapeCasts_S1x128_S1x128) broadcasts_S1x128_S256x128

/-- The tile of zeros. -/
def zeros : M := broadcast S128x128 (Scalar.ofBits (F := Ideal) .f32 0x00000000#32)

/-- The tile of ones. -/
def ones : M := broadcast S128x128 (Scalar.ofBits (F := Ideal) .f32 0x3F800000#32)

/-- The lanes' remainders by 64. -/
def laneRem : IVec S1x128 32 := remsi (iota .tc S1x128 32 [1] iota_S1x128_d1_w32) (broadcast S1x128 64#32)

/-- The lanes of each head's first half. -/
def firstHalf : IVec S1x128 1 :=
  cmpi .slt (select (andi (xori (cmpi .slt laneRem (broadcast S1x128 0#32))
      (broadcastTo S1x128 (broadcast S1x128 0#1 : IVec S1x128 1) broadcasts_S1x128_S1x128)) (cmpi .ne laneRem (broadcast S1x128 0#32)))
    (addi laneRem (broadcast S1x128 64#32)) laneRem) (broadcast S1x128 32#32)

/-- The halves of each head exchanged. -/
def swap (x : M) : M :=
  select (broadcastTo S128x128 (shapeCast S1x128 firstHalf shapeCasts_S1x128_S1x128) broadcasts_S1x128_S128x128)
    (dynamicRotate 1 96#32 none x rotates_S128x128_d1) (dynamicRotate 1 32#32 none x rotates_S128x128_d1)

/-- A table tile as loaded. -/
def tab (x : Vec Ideal S128x128 .f32) : M := shapeCast S128x128 x shapeCasts_S128x128_S128x128

/-- The rotary embedding of a tile. -/
def rope (x c s : M) : M := addf (mulf x c) (mulf (swap x) s)

/-- The rotary embedding's transpose. -/
def ropeb (x c s : M) : M := addf (mulf x c) (swap (mulf x s))

/-- Two tiles stacked. -/
def stack (a b : M) : FVec Ideal S256x128 .f32 :=
  concatenate S256x128 0 [⟨S128x128, a⟩, ⟨S128x128, b⟩] concatenates_S128x128_S128x128_S256x128_d0

theorem stack_fold (a b : M) (h : Shape.Concatenates [S128x128, S128x128] S256x128 0) :
    concatenate S256x128 0 [⟨S128x128, a⟩, ⟨S128x128, b⟩] h = stack a b := rfl

/-- The lanes rotated by a half. -/
def roll (x : FVec Ideal S256x128 .f32) : FVec Ideal S256x128 .f32 := dynamicRotate 1 64#32 none x rotates_S256x128_d1

/-- One of the two heads of a key or value tile, repeated over both halves of the lanes. -/
def dup (j : Bool) (x : FVec Ideal S256x128 .f32) : FVec Ideal S256x128 .f32 := match j with
  | false => select laneSel2 x (roll x)
  | true => select laneSel2 (roll x) x

variable (T : Tiles)

/-- The keys of the previous and the current block. -/
def keys : FVec Ideal S256x128 .f32 :=
  stack (rope T.kp (tab T.cp) (tab T.sp)) (rope T.kc (tab T.cc) (tab T.sc))

/-- The values of the previous and the current block. -/
def vals : FVec Ideal S256x128 .f32 := stack T.vp T.vc

/-- One head's keys. -/
def kd (j : Bool) : FVec Ideal S256x128 .bf16 := truncf .bf16 (dup j (keys T)) bitsLt_bf16_f32

/-- One head's values. -/
def vd (j : Bool) : FVec Ideal S256x128 .bf16 := truncf .bf16 (dup j (vals T)) bitsLt_bf16_f32

/-- One head's keys, transposed. -/
def kdt (j : Bool) : FVec Ideal S128x256 .bf16 :=
  truncf .bf16 (transpose S128x256 [1, 0] (dup j (keys T)) transposes_S256x128_p1_0_S128x256) bitsLt_bf16_f32

/-- One head's values, transposed. -/
def vdt (j : Bool) : FVec Ideal S128x256 .bf16 :=
  truncf .bf16 (transpose S128x256 [1, 0] (dup j (vals T)) transposes_S256x128_p1_0_S128x256) bitsLt_bf16_f32

/-- A tile transposed. -/
def tr (x : M) : M := transpose S128x128 [1, 0] x transposes_S128x128_p1_0_S128x128

/-- A head pair's queries after the rotary embedding. -/
def qp (j : Bool) (k : Fin 4) : M := rope (T.q j k) (tab T.cc) (tab T.sc)

/-- The sigmoid of a head pair's gate. -/
def sg (j : Bool) (k : Fin 4) : M := divf ones (addf ones (exp (subf zeros (T.z j k))))

/-- The cotangent of a head pair's attention output. -/
def dO (j : Bool) (k : Fin 4) : M := mulf (T.d j k) (mulf (T.z j k) (sg T j k))

/-- A head's scores, masked. -/
def sW (j : Bool) (k : Fin 4) (e : Bool) : FVec Ideal S256x128 .f32 :=
  select T.mask
    (mulf (matmul dot_S256x128_S128x128_S256x128_1_0_0_1_n_n none (kd T j)
        (truncf .bf16 (select (rowSel e) (tr (qp T j k)) zeros) bitsLt_bf16_f32)
        (constant (F := Ideal) S256x128 .f32 0x00000000#32))
      (broadcast S256x128 (Scalar.ofBits (F := Ideal) .f32 0x3E000000#32)))
    (broadcast S256x128 (Named.named (F := Ideal) κ "mask" 0xF149F2CA#32))

/-- A head's sink. -/
def sinkW (j : Bool) (k : Fin 4) (e : Bool) : FVec Ideal S1x128 .f32 :=
  broadcastTo S1x128 (shapeCast S1x1 (T.sk j k e) shapeCasts_S1x1_S1x1) broadcasts_S1x1_S1x128

/-- The largest score of each query, the sink included. -/
def mW (j : Bool) (k : Fin 4) (e : Bool) : FVec Ideal S1x128 .f32 :=
  maximumf (shapeCast S1x128 (multiReduction .maximumf [0] S128 (sW T j k e) 0xFF800000#32 reduces_S256x128_S128 (.inl rfl) rfl)
    shapeCasts_S128_S1x128) (sinkW T j k e)

/-- A row spread over a 256×128 tile. -/
def spread (x : FVec Ideal S1x128 .f32) : FVec Ideal S256x128 .f32 := broadcastTo S256x128 x broadcasts_S1x128_S256x128

/-- A head's exponentials. -/
def eW (j : Bool) (k : Fin 4) (e : Bool) : FVec Ideal S256x128 .f32 := exp (subf (sW T j k e) (spread (mW T j k e)))

/-- A head's exponential at the sink. -/
def esW (j : Bool) (k : Fin 4) (e : Bool) : FVec Ideal S1x128 .f32 := exp (subf (sinkW T j k e) (mW T j k e))

/-- The reciprocal of a head's normaliser. -/
def invW (j : Bool) (k : Fin 4) (e : Bool) : FVec Ideal S1x128 .f32 :=
  divf (broadcast S1x128 (Scalar.ofBits (F := Ideal) .f32 0x3F800000#32))
    (addf (shapeCast S1x128 (multiReduction .add [0] S128 (eW T j k e) 0x00000000#32 reduces_S256x128_S128 (.inl rfl) rfl)
      shapeCasts_S128_S1x128) (esW T j k e))

/-- A head's attention weights. -/
def pnW (j : Bool) (k : Fin 4) (e : Bool) : FVec Ideal S256x128 .f32 := mulf (eW T j k e) (spread (invW T j k e))

/-- A head's weight of the sink. -/
def psW (j : Bool) (k : Fin 4) (e : Bool) : FVec Ideal S1x128 .f32 := mulf (esW T j k e) (invW T j k e)

/-- A head's output, transposed. -/
def oW (j : Bool) (k : Fin 4) (e : Bool) : M :=
  matmul dot_S128x256_S256x128_S128x128_1_0_0_1_n_n none (vdt T j) (truncf .bf16 (pnW T j k e) bitsLt_bf16_f32)
    (constant (F := Ideal) S128x128 .f32 0x00000000#32)

/-- A head pair's output, transposed. -/
def ot (j : Bool) (k : Fin 4) : M := select (rowSel false) (oW T j k false) (oW T j k true)

/-- The gradient of a head pair's gate. -/
def dzW (j : Bool) (k : Fin 4) : FVec Ideal S128x128 .bf16 :=
  truncf .bf16 (mulf (mulf (T.d j k) (tr (ot T j k)))
    (mulf (sg T j k) (addf ones (mulf (T.z j k) (subf ones (sg T j k)))))) bitsLt_bf16_f32

/-- A head's part of the transposed cotangent. -/
def dotm (j : Bool) (k : Fin 4) (e : Bool) : M := select (rowSel e) (tr (dO T j k)) zeros

/-- The inner product of the cotangent and the output, per query. -/
def deltaW (j : Bool) (k : Fin 4) (e : Bool) : FVec Ideal S1x128 .f32 :=
  shapeCast S1x128 (multiReduction .add [0] S128 (mulf (dotm T j k e) (ot T j k)) 0x00000000#32 reduces_S128x128_S128 (.inl rfl) rfl)
    shapeCasts_S128_S1x128

/-- The gradient of a head's scores. -/
def dsW (j : Bool) (k : Fin 4) (e : Bool) : FVec Ideal S256x128 .bf16 :=
  truncf .bf16 (mulf (mulf (pnW T j k e)
      (subf (matmul dot_S256x128_S128x128_S256x128_1_0_0_1_n_n none (vd T j) (truncf .bf16 (dotm T j k e) bitsLt_bf16_f32)
        (constant (F := Ideal) S256x128 .f32 0x00000000#32)) (spread (deltaW T j k e))))
      (broadcast S256x128 (Scalar.ofBits (F := Ideal) .f32 0x3E000000#32))) bitsLt_bf16_f32

/-- What a head adds to its sink's gradient. -/
def dskW (j : Bool) (k : Fin 4) (e : Bool) : FVec Ideal S1x128 .f32 :=
  subf (broadcast S1x128 (Scalar.ofBits (F := Ideal) .f32 0x00000000#32))
    (broadcast S1x128 (extractAt (s := S1x1x1) ![0, 0, 0] (shapeCast S1x1x1 (multiReduction .add [1, 2] S1
      (shapeCast S1x1x128 (mulf (psW T j k e) (deltaW T j k e)) shapeCasts_S1x128_S1x1x128) 0x00000000#32 reduces_S1x1x128_S1 (.inl rfl) rfl)
      shapeCasts_S1_S1x1x1) inpos_S1x1x1_p0_0_0))

/-- A head's transposed gradient of the queries, before the rotary embedding. -/
def dqtW (j : Bool) (k : Fin 4) (e : Bool) : M :=
  matmul dot_S128x256_S256x128_S128x128_1_0_0_1_n_n none (kdt T j) (dsW T j k e)
    (constant (F := Ideal) S128x128 .f32 0x00000000#32)

/-- The gradient of a head pair's queries. -/
def dqW (j : Bool) (k : Fin 4) : FVec Ideal S128x128 .bf16 :=
  truncf .bf16 (ropeb (tr (select (rowSel false) (dqtW T j k false) (dqtW T j k true))) (tab T.cc) (tab T.sc)) bitsLt_bf16_f32

end Cert.KernelIdeal.Words
-- ==== Proof.Tiles.lean ====
/- The tiles one grid point loads. -/
module
public import proofs.«01_k».proof.Proof.Words
public import Idealize.ShloMosaic.Lib.Pipeline.ReadBack
public import Idealize.ShloMosaic.Lib.Pipeline.ValueKit
@[expose] public section
set_option maxRecDepth 16384
noncomputable section
namespace Cert.KernelIdeal.Words
open Idealize.ShloMosaic Cert.KernelIdeal Cert.KernelIdeal.Gen

theorem inb_pair (j : Bool) (k : Fin 4) : ∀ a, (![0, 128 * (4 * j.toNat + k.val)] : Fin 2 → ℕ) a + S128x128.size a ≤ S128x1024.size a := by
  revert j k; decide

theorem inb_sink (j : Bool) (k : Fin 4) (e : Bool) :
    ∀ a, (![8 * j.toNat + 2 * k.val + e.toNat, 0] : Fin 2 → ℕ) a + S1x1.size a ≤ S16x128.size a := by
  revert j k e; decide

/-- The mask of a grid point's scores. -/
def maskW (i : grid0.Coords) : IVec S256x128 1 :=
  k0_pay11 (Scalar.subi 15#32 (BitVec.ofNat 32 (i 1).val)) (iota .tc S256x128 32 [0] iota_S256x128_d0_w32) k0_pay10

/-- The tiles of a grid point, read out of the blocks it is given. -/
def tilesOf (i : grid0.Coords) (x0 x1 : Vec Ideal S128x1024 .f32) (x2 x3 : Vec Ideal S128x256 .f32) (x4 : Vec Ideal S16x128 .f32)
    (x5 x6 x7 x8 : Vec Ideal S128x128 .f32) (x9 : Vec Ideal S128x1024 .f32) : Tiles where
  q j k := View.ld x0 (Rect.unit (s := S128x1024) ![0, 128 * (4 * j.toNat + k.val)] S128x128.size (inb_pair j k))
  z j k := View.ld x1 (Rect.unit (s := S128x1024) ![0, 128 * (4 * j.toNat + k.val)] S128x128.size (inb_pair j k))
  d j k := View.ld x9 (Rect.unit (s := S128x1024) ![0, 128 * (4 * j.toNat + k.val)] S128x128.size (inb_pair j k))
  sk j k e := View.ld x4 (Rect.unit (s := S16x128) ![8 * j.toNat + 2 * k.val + e.toNat, 0] S1x1.size (inb_sink j k e))
  kc := View.ld x2 (Rect.unit (s := S128x256) ![0, 0] S128x128.size inb_S128x256_S128x128_0_0)
  vc := View.ld x2 (Rect.unit (s := S128x256) ![0, 128] S128x128.size inb_S128x256_S128x128_0_128)
  kp := View.ld x3 (Rect.unit (s := S128x256) ![0, 0] S128x128.size inb_S128x256_S128x128_0_0)
  vp := View.ld x3 (Rect.unit (s := S128x256) ![0, 128] S128x128.size inb_S128x256_S128x128_0_128)
  cc := x5
  sc := x6
  cp := x7
  sp := x8
  mask := maskW i

variable (T : Tiles)

/-- The stores of the queries' gradient, last first. -/
def dqPieces : List (View.Piece (Elt Ideal) S128x1024 .bf16) :=
  [⟨Rect.unit ![0, 896] S128x128.size inb_S128x1024_S128x128_0_896, dqW T true 3⟩,
   ⟨Rect.unit ![0, 768] S128x128.size inb_S128x1024_S128x128_0_768, dqW T true 2⟩,
   ⟨Rect.unit ![0, 640] S128x128.size inb_S128x1024_S128x128_0_640, dqW T true 1⟩,
   ⟨Rect.unit ![0, 512] S128x128.size inb_S128x1024_S128x128_0_512, dqW T true 0⟩,
   ⟨Rect.unit ![0, 384] S128x128.size inb_S128x1024_S128x128_0_384, dqW T false 3⟩,
   ⟨Rect.unit ![0, 256] S128x128.size inb_S128x1024_S128x128_0_256, dqW T false 2⟩,
   ⟨Rect.unit ![0, 128] S128x128.size inb_S128x1024_S128x128_0_128, dqW T false 1⟩,
   ⟨Rect.unit ![0, 0] S128x128.size inb_S128x1024_S128x128_0_0, dqW T false 0⟩]

/-- The stores of the gate's gradient, last first. -/
def dzPieces : List (View.Piece (Elt Ideal) S128x1024 .bf16) :=
  [⟨Rect.unit ![0, 896] S128x128.size inb_S128x1024_S128x128_0_896, dzW T true 3⟩,
   ⟨Rect.unit ![0, 768] S128x128.size inb_S128x1024_S128x128_0_768, dzW T true 2⟩,
   ⟨Rect.unit ![0, 640] S128x128.size inb_S128x1024_S128x128_0_640, dzW T true 1⟩,
   ⟨Rect.unit ![0, 512] S128x128.size inb_S128x1024_S128x128_0_512, dzW T true 0⟩,
   ⟨Rect.unit ![0, 384] S128x128.size inb_S128x1024_S128x128_0_384, dzW T false 3⟩,
   ⟨Rect.unit ![0, 256] S128x128.size inb_S128x1024_S128x128_0_256, dzW T false 2⟩,
   ⟨Rect.unit ![0, 128] S128x128.size inb_S128x1024_S128x128_0_128, dzW T false 1⟩,
   ⟨Rect.unit ![0, 0] S128x128.size inb_S128x1024_S128x128_0_0, dzW T false 0⟩]

/-- The scores' gradient as it is stored for the keys' product. -/
def dsSt (j : Bool) (k : Fin 4) (e : Bool) : FVec Ideal S256x128 .bf16 := shapeCast S256x128 (dsW T j k e) shapeCasts_S256x128_S256x128

/-- The weights as they are stored for the values' product. -/
def pnSt (j : Bool) (k : Fin 4) (e : Bool) : FVec Ideal S256x128 .bf16 :=
  shapeCast S256x128 (truncf .bf16 (pnW T j k e) bitsLt_bf16_f32) shapeCasts_S256x128_S256x128

/-- The queries of one head as they are stored for the keys' product. -/
def qSt (j : Bool) (k : Fin 4) (e : Bool) : FVec Ideal S128x128 .bf16 :=
  shapeCast S128x128 (truncf .bf16 (select (laneSel e) (qp T j k) zeros) bitsLt_bf16_f32) shapeCasts_S128x128_S128x128

/-- The cotangent of one head as it is stored for the values' product. -/
def doSt (j : Bool) (k : Fin 4) (e : Bool) : FVec Ideal S128x128 .bf16 :=
  shapeCast S128x128 (truncf .bf16 (select (laneSel e) (dO T j k) zeros) bitsLt_bf16_f32) shapeCasts_S128x128_S128x128

/-- A group's stores of the scores' gradient, last first. -/
def dsP (j : Bool) (L : List (View.Piece (Elt Ideal) S256x1024 .bf16)) : List (View.Piece (Elt Ideal) S256x1024 .bf16) :=
  ⟨Rect.unit ![0, 896] S256x128.size inb_S256x1024_S256x128_0_896, dsSt T j 3 true⟩ ::
  ⟨Rect.unit ![0, 640] S256x128.size inb_S256x1024_S256x128_0_640, dsSt T j 2 true⟩ ::
  ⟨Rect.unit ![0, 384] S256x128.size inb_S256x1024_S256x128_0_384, dsSt T j 1 true⟩ ::
  ⟨Rect.unit ![0, 128] S256x128.size inb_S256x1024_S256x128_0_128, dsSt T j 0 true⟩ ::
  ⟨Rect.unit ![0, 768] S256x128.size inb_S256x1024_S256x128_0_768, dsSt T j 3 false⟩ ::
  ⟨Rect.unit ![0, 512] S256x128.size inb_S256x1024_S256x128_0_512, dsSt T j 2 false⟩ ::
  ⟨Rect.unit ![0, 256] S256x128.size inb_S256x1024_S256x128_0_256, dsSt T j 1 false⟩ ::
  ⟨Rect.unit ![0, 0] S256x128.size inb_S256x1024_S256x128_0_0, dsSt T j 0 false⟩ :: L

/-- A group's stores of the weights, last first. -/
def pnP (j : Bool) (L : List (View.Piece (Elt Ideal) S256x1024 .bf16)) : List (View.Piece (Elt Ideal) S256x1024 .bf16) :=
  ⟨Rect.unit ![0, 896] S256x128.size inb_S256x1024_S256x128_0_896, pnSt T j 3 true⟩ ::
  ⟨Rect.unit ![0, 640] S256x128.size inb_S256x1024_S256x128_0_640, pnSt T j 2 true⟩ ::
  ⟨Rect.unit ![0, 384] S256x128.size inb_S256x1024_S256x128_0_384, pnSt T j 1 true⟩ ::
  ⟨Rect.unit ![0, 128] S256x128.size inb_S256x1024_S256x128_0_128, pnSt T j 0 true⟩ ::
  ⟨Rect.unit ![0, 768] S256x128.size inb_S256x1024_S256x128_0_768, pnSt T j 3 false⟩ ::
  ⟨Rect.unit ![0, 512] S256x128.size inb_S256x1024_S256x128_0_512, pnSt T j 2 false⟩ ::
  ⟨Rect.unit ![0, 256] S256x128.size inb_S256x1024_S256x128_0_256, pnSt T j 1 false⟩ ::
  ⟨Rect.unit ![0, 0] S256x128.size inb_S256x1024_S256x128_0_0, pnSt T j 0 false⟩ :: L

/-- A group's stores of the queries, last first. -/
def qP (j : Bool) (L : List (View.Piece (Elt Ideal) S1024x128 .bf16)) : List (View.Piece (Elt Ideal) S1024x128 .bf16) :=
  ⟨Rect.unit ![896, 0] S128x128.size inb_S1024x128_S128x128_896_0, qSt T j 3 true⟩ ::
  ⟨Rect.unit ![640, 0] S128x128.size inb_S1024x128_S128x128_640_0, qSt T j 2 true⟩ ::
  ⟨Rect.unit ![384, 0] S128x128.size inb_S1024x128_S128x128_384_0, qSt T j 1 true⟩ ::
  ⟨Rect.unit ![128, 0] S128x128.size inb_S1024x128_S128x128_128_0, qSt T j 0 true⟩ ::
  ⟨Rect.unit ![768, 0] S128x128.size inb_S1024x128_S128x128_768_0, qSt T j 3 false⟩ ::
  ⟨Rect.unit ![512, 0] S128x128.size inb_S1024x128_S128x128_512_0, qSt T j 2 false⟩ ::
  ⟨Rect.unit ![256, 0] S128x128.size inb_S1024x128_S128x128_256_0, qSt T j 1 false⟩ ::
  ⟨Rect.unit ![0, 0] S128x128.size inb_S1024x128_S128x128_0_0, qSt T j 0 false⟩ :: L

/-- A group's stores of the cotangent, last first. -/
def doP (j : Bool) (L : List (View.Piece (Elt Ideal) S1024x128 .bf16)) : List (View.Piece (Elt Ideal) S1024x128 .bf16) :=
  ⟨Rect.unit ![896, 0] S128x128.size inb_S1024x128_S128x128_896_0, doSt T j 3 true⟩ ::
  ⟨Rect.unit ![640, 0] S128x128.size inb_S1024x128_S128x128_640_0, doSt T j 2 true⟩ ::
  ⟨Rect.unit ![384, 0] S128x128.size inb_S1024x128_S128x128_384_0, doSt T j 1 true⟩ ::
  ⟨Rect.unit ![128, 0] S128x128.size inb_S1024x128_S128x128_128_0, doSt T j 0 true⟩ ::
  ⟨Rect.unit ![768, 0] S128x128.size inb_S1024x128_S128x128_768_0, doSt T j 3 false⟩ ::
  ⟨Rect.unit ![512, 0] S128x128.size inb_S1024x128_S128x128_512_0, doSt T j 2 false⟩ ::
  ⟨Rect.unit ![256, 0] S128x128.size inb_S1024x128_S128x128_256_0, doSt T j 1 false⟩ ::
  ⟨Rect.unit ![0, 0] S128x128.size inb_S1024x128_S128x128_0_0, doSt T j 0 false⟩ :: L

/-- What a list of stores leaves under a load's rectangle. -/
def back {s : Shape} {φ : EltTy} (L : List (View.Piece (Elt Ideal) s φ)) (B : LoadRect s) : B.shape.Idx → Elt Ideal φ :=
  fun y => View.canon L (B.idx y)

theorem readCov_back {κ : Kind} {sp : Space} {s : Shape} {φ : EltTy} (v : View sig κ sp s φ)
    (L : List (View.Piece (Elt Ideal) s φ)) (B : LoadRect s) : v.readCov L B = back L B := View.readCov_eq_canon' v L B

/-- A store's list after the first group or after both. -/
def both {α : Type} (f : Bool → List α → List α) (j : Bool) : List α := match j with
  | false => f false []
  | true => f true (f false [])

/-- The product over the eight heads of a group. -/
def prod8 (a : FVec Ideal S256x1024 .bf16) (b : FVec Ideal S1024x128 .bf16) : FVec Ideal S256x128 .f32 :=
  matmul dot_S256x1024_S1024x128_S256x128_1_0_0_1_n_n none a b (constant (F := Ideal) S256x128 .f32 0x00000000#32)

/-- The scores' gradients of a group, read back. -/
def dsAll (j : Bool) : FVec Ideal S256x1024 .bf16 := back (both (dsP T) j) (Rect.unit ![0, 0] S256x1024.size inb_S256x1024_S256x1024_0_0).toLoadRect

/-- The weights of a group, read back. -/
def pnAll (j : Bool) : FVec Ideal S256x1024 .bf16 := back (both (pnP T) j) (Rect.unit ![0, 0] S256x1024.size inb_S256x1024_S256x1024_0_0).toLoadRect

/-- The queries of a group, read back. -/
def qAll (j : Bool) : FVec Ideal S1024x128 .bf16 := back (both (qP T) j) (Rect.unit ![0, 0] S1024x128.size inb_S1024x128_S1024x128_0_0).toLoadRect

/-- The cotangents of a group, read back. -/
def doAll (j : Bool) : FVec Ideal S1024x128 .bf16 := back (both (doP T) j) (Rect.unit ![0, 0] S1024x128.size inb_S1024x128_S1024x128_0_0).toLoadRect

/-- The lanes of the two halves added. -/
def fold (x : FVec Ideal S256x128 .f32) : FVec Ideal S256x128 .f32 := addf x (roll x)

/-- The keys' gradient of a window, before the rotary embedding: the first group's in the first lanes. -/
def dkW : FVec Ideal S256x128 .f32 :=
  select laneSel2 (fold (prod8 (dsAll T false) (qAll T false))) (fold (prod8 (dsAll T true) (qAll T true)))

/-- The values' gradient of a window. -/
def dvW : FVec Ideal S256x128 .f32 :=
  select laneSel2 (fold (prod8 (pnAll T false) (doAll T false))) (fold (prod8 (pnAll T true) (doAll T true)))

/-- The second half of a window. -/
def hi (x : FVec Ideal S256x128 .f32) : M := extractStridedSlice S128x128 ![128, 0] x slices_S256x128_o128_0_S128x128

/-- The first half of a window. -/
def lo (x : FVec Ideal S256x128 .f32) : M := extractStridedSlice S128x128 ![0, 0] x slices_S256x128_o0_0_S128x128

/-- The stores of the keys' and values' gradients, over what the carry holds. -/
def dkvPieces (carry : Vec Ideal S128x256 .f32) : List (View.Piece (Elt Ideal) S128x256 .bf16) :=
  [⟨Rect.unit ![0, 128] S128x128.size inb_S128x256_S128x128_0_128,
      truncf .bf16 (addf (hi (dvW T)) (View.ld carry (Rect.unit ![0, 128] S128x128.size inb_S128x256_S128x128_0_128))) bitsLt_bf16_f32⟩,
   ⟨Rect.unit ![0, 0] S128x128.size inb_S128x256_S128x128_0_0,
      truncf .bf16 (addf (ropeb (hi (dkW T)) (tab T.cc) (tab T.sc))
        (View.ld carry (Rect.unit ![0, 0] S128x128.size inb_S128x256_S128x128_0_0))) bitsLt_bf16_f32⟩]

/-- The stores of the carry, over earlier ones. -/
def carryPieces (L : List (View.Piece (Elt Ideal) S128x256 .f32)) : List (View.Piece (Elt Ideal) S128x256 .f32) :=
  ⟨Rect.unit ![0, 128] S128x128.size inb_S128x256_S128x128_0_128, shapeCast S128x128 (lo (dvW T)) shapeCasts_S128x128_S128x128⟩ ::
  ⟨Rect.unit ![0, 0] S128x128.size inb_S128x256_S128x128_0_0,
      shapeCast S128x128 (ropeb (lo (dkW T)) (tab T.cp) (tab T.sp)) shapeCasts_S128x128_S128x128⟩ :: L

/-- A row of the sinks' gradient after a grid point. -/
def dskRow (acc : Vec Ideal S1x128 .f32) (j : Bool) (k : Fin 4) (e : Bool) : FVec Ideal S1x128 .f32 :=
  addf (shapeCast S1x128 acc shapeCasts_S1x128_S1x128) (dskW T j k e)

/-- The stores of the sinks' gradient, over what its block held. -/
def dskPieces (acc : Vec Ideal S16x128 .f32) (L : List (View.Piece (Elt Ideal) S16x128 .f32)) : List (View.Piece (Elt Ideal) S16x128 .f32) :=
  ⟨Rect.unit ![15, 0] S1x128.size inb_S16x128_S1x128_15_0,
    dskRow T (View.ld acc (Rect.unit ![15, 0] S1x128.size inb_S16x128_S1x128_15_0)) true 3 true⟩ ::
  ⟨Rect.unit ![13, 0] S1x128.size inb_S16x128_S1x128_13_0,
    dskRow T (View.ld acc (Rect.unit ![13, 0] S1x128.size inb_S16x128_S1x128_13_0)) true 2 true⟩ ::
  ⟨Rect.unit ![11, 0] S1x128.size inb_S16x128_S1x128_11_0,
    dskRow T (View.ld acc (Rect.unit ![11, 0] S1x128.size inb_S16x128_S1x128_11_0)) true 1 true⟩ ::
  ⟨Rect.unit ![9, 0] S1x128.size inb_S16x128_S1x128_9_0,
    dskRow T (View.ld acc (Rect.unit ![9, 0] S1x128.size inb_S16x128_S1x128_9_0)) true 0 true⟩ ::
  ⟨Rect.unit ![14, 0] S1x128.size inb_S16x128_S1x128_14_0,
    dskRow T (View.ld acc (Rect.unit ![14, 0] S1x128.size inb_S16x128_S1x128_14_0)) true 3 false⟩ ::
  ⟨Rect.unit ![12, 0] S1x128.size inb_S16x128_S1x128_12_0,
    dskRow T (View.ld acc (Rect.unit ![12, 0] S1x128.size inb_S16x128_S1x128_12_0)) true 2 false⟩ ::
  ⟨Rect.unit ![10, 0] S1x128.size inb_S16x128_S1x128_10_0,
    dskRow T (View.ld acc (Rect.unit ![10, 0] S1x128.size inb_S16x128_S1x128_10_0)) true 1 false⟩ ::
  ⟨Rect.unit ![8, 0] S1x128.size inb_S16x128_S1x128_8_0,
    dskRow T (View.ld acc (Rect.unit ![8, 0] S1x128.size inb_S16x128_S1x128_8_0)) true 0 false⟩ ::
  ⟨Rect.unit ![7, 0] S1x128.size inb_S16x128_S1x128_7_0,
    dskRow T (View.ld acc (Rect.unit ![7, 0] S1x128.size inb_S16x128_S1x128_7_0)) false 3 true⟩ ::
  ⟨Rect.unit ![5, 0] S1x128.size inb_S16x128_S1x128_5_0,
    dskRow T (View.ld acc (Rect.unit ![5, 0] S1x128.size inb_S16x128_S1x128_5_0)) false 2 true⟩ ::
  ⟨Rect.unit ![3, 0] S1x128.size inb_S16x128_S1x128_3_0,
    dskRow T (View.ld acc (Rect.unit ![3, 0] S1x128.size inb_S16x128_S1x128_3_0)) false 1 true⟩ ::
  ⟨Rect.unit ![1, 0] S1x128.size inb_S16x128_S1x128_1_0,
    dskRow T (View.ld acc (Rect.unit ![1, 0] S1x128.size inb_S16x128_S1x128_1_0)) false 0 true⟩ ::
  ⟨Rect.unit ![6, 0] S1x128.size inb_S16x128_S1x128_6_0,
    dskRow T (View.ld acc (Rect.unit ![6, 0] S1x128.size inb_S16x128_S1x128_6_0)) false 3 false⟩ ::
  ⟨Rect.unit ![4, 0] S1x128.size inb_S16x128_S1x128_4_0,
    dskRow T (View.ld acc (Rect.unit ![4, 0] S1x128.size inb_S16x128_S1x128_4_0)) false 2 false⟩ ::
  ⟨Rect.unit ![2, 0] S1x128.size inb_S16x128_S1x128_2_0,
    dskRow T (View.ld acc (Rect.unit ![2, 0] S1x128.size inb_S16x128_S1x128_2_0)) false 1 false⟩ ::
  ⟨Rect.unit ![0, 0] S1x128.size inb_S16x128_S1x128_0_0,
    dskRow T (View.ld acc (Rect.unit ![0, 0] S1x128.size inb_S16x128_S1x128_0_0)) false 0 false⟩ :: L

/-- The zeros the carry is reset to. -/
abbrev zeroCarry : Vec Ideal S128x256 .f32 := k0_pay6 (F := Ideal)

/-- The zeros the sinks' gradient is reset to. -/
abbrev zeroDsk : Vec Ideal S16x128 .f32 := k0_pay5 (F := Ideal)

/-- The store that resets the carry. -/
abbrev fillCarry : List (View.Piece (Elt Ideal) S128x256 .f32) :=
  [⟨Rect.unit ![0, 0] S128x256.size inb_S128x256_S128x256_0_0, zeroCarry⟩]

/-- The store that resets the sinks' gradient. -/
abbrev fillDsk : List (View.Piece (Elt Ideal) S16x128 .f32) :=
  [⟨Rect.unit ![0, 0] S16x128.size inb_S16x128_S16x128_0_0, zeroDsk⟩]

/-- What a grid point leaves in its four output blocks and in the carry: from its tiles, from the carry and the sinks' gradient it
    starts from, and over the stores that reset them. -/
def pointOut (carry : Vec Ideal S128x256 .f32) (acc : Vec Ideal S16x128 .f32) (Lc : List (View.Piece (Elt Ideal) S128x256 .f32))
    (Ld : List (View.Piece (Elt Ideal) S16x128 .f32)) : Vec Ideal S128x1024 .bf16 × Vec Ideal S128x1024 .bf16 × Vec Ideal S128x256 .bf16 ×
      Vec Ideal S16x128 .f32 × Vec Ideal S128x256 .f32 :=
  (View.canon (dqPieces T), View.canon (dzPieces T), View.canon (dkvPieces T carry), View.canon (dskPieces T acc Ld),
    View.canon (carryPieces T Lc))

/-- The tiles of a grid point. -/
def tilesAt (m : (ℓ : Loc nD τ sig) → Buf (Elt Ideal) ℓ) (c : Dev nD) (t : Fin cfg0.N) : Tiles :=
  tilesOf (grid0.coords t) (X0_0 m c t) (X0_1 m c t) (iblk m c 2 t) (iblk m c 3 t) (iblk m c 4 t) (iblk m c 5 t) (iblk m c 6 t)
    (iblk m c 7 t) (iblk m c 8 t) (iblk m c 9 t)

end Cert.KernelIdeal.Words
-- ==== Proof.Spec.lean ====
/- The gradient of sliding-window attention with sinks over the real numbers: one block of 128 queries against the window of 256
   keys that ends with the block, and then the whole batch. All arguments are natural numbers: `h` a query head, `j` a key head, `t` a
   query of the block, `s` a key of the window, `d` a lane of a head. -/
module

public import Mathlib.Analysis.SpecialFunctions.Pow.Real
public import Mathlib.Data.EReal.Basic

@[expose] public section

noncomputable section

namespace Cert.Spec

open Finset

/-- The lane a rotary lane is paired with. -/
def sw (d : ℕ) : ℕ := if d % 64 < 32 then d + 32 else d - 32

/-- The rotary embedding with the tables `c` and `s` of a position: `s` carries the sign. -/
def rope (c s x : ℕ → ℝ) (d : ℕ) : ℝ := x d * c d + x (sw d) * s d

/-- Its transpose. -/
def ropeT (c s x : ℕ → ℝ) (d : ℕ) : ℝ := x d * c d + x (sw d) * s (sw d)

/-- What one block of queries works on: the queries, gates and cotangents per head, the sinks, the keys and values of the current and
    the previous block, the rotary tables of both, and which keys a query sees. -/
structure Blk where
  q : ℕ → ℕ → ℕ → ℝ
  z : ℕ → ℕ → ℕ → ℝ
  g : ℕ → ℕ → ℕ → ℝ
  sk : ℕ → ℝ
  kc : ℕ → ℕ → ℕ → ℝ
  vc : ℕ → ℕ → ℕ → ℝ
  kp : ℕ → ℕ → ℕ → ℝ
  vp : ℕ → ℕ → ℕ → ℝ
  cc : ℕ → ℕ → ℝ
  sc : ℕ → ℕ → ℝ
  cp : ℕ → ℕ → ℝ
  sp : ℕ → ℕ → ℝ
  sees : ℕ → ℕ → Bool

namespace Blk

variable (B : Blk)

/-- The queries after the rotary embedding. -/
def Q (h t d : ℕ) : ℝ := rope (B.cc t) (B.sc t) (B.q h t) d

/-- The window's keys after the rotary embedding. -/
def K (j s d : ℕ) : ℝ :=
  if s < 128 then rope (B.cp s) (B.sp s) (B.kp j s) d else rope (B.cc (s - 128)) (B.sc (s - 128)) (B.kc j (s - 128)) d

/-- The window's values. -/
def V (j s d : ℕ) : ℝ := if s < 128 then B.vp j s d else B.vc j (s - 128) d

/-- The scores. -/
def score (h s t : ℕ) : ℝ := (∑ d ∈ range 64, B.K (h / 8) s d * B.Q h t d) * (1 / 8)

/-- The exponentials, zero where a query does not see a key. -/
def E (h s t : ℕ) : ℝ := if B.sees s t then Real.exp (B.score h s t) else 0

/-- The normaliser: the exponentials' sum with the sink's. -/
def den (h t : ℕ) : ℝ := (∑ s ∈ range 256, B.E h s t) + Real.exp (B.sk h)

/-- The attention weights. -/
def P (h s t : ℕ) : ℝ := B.E h s t / B.den h t

/-- The sink's weight. -/
def Ps (h t : ℕ) : ℝ := Real.exp (B.sk h) / B.den h t

/-- The attention's output. -/
def O (h t d : ℕ) : ℝ := ∑ s ∈ range 256, B.V (h / 8) s d * B.P h s t

/-- The sigmoid of the gate. -/
def sig (h t d : ℕ) : ℝ := 1 / (1 + Real.exp (0 - B.z h t d))

/-- The cotangent of the attention's output. -/
def dO (h t d : ℕ) : ℝ := B.g h t d * (B.z h t d * B.sig h t d)

/-- The gate's gradient. -/
def dZ (h t d : ℕ) : ℝ := B.g h t d * B.O h t d * (B.sig h t d * (1 + B.z h t d * (1 - B.sig h t d)))

/-- The inner product of output and cotangent. -/
def delta (h t : ℕ) : ℝ := ∑ d ∈ range 64, B.dO h t d * B.O h t d

/-- The scores' gradient. -/
def dS (h s t : ℕ) : ℝ := B.P h s t * ((∑ d ∈ range 64, B.V (h / 8) s d * B.dO h t d) - B.delta h t) * (1 / 8)

/-- The block's part of the sink's gradient. -/
def dSk (h : ℕ) : ℝ := 0 - ∑ t ∈ range 128, B.Ps h t * B.delta h t

/-- The queries' gradient, before and after the rotary embedding's transpose. -/
def dQr (h t d : ℕ) : ℝ := ∑ s ∈ range 256, B.K (h / 8) s d * B.dS h s t

def dQ (h t d : ℕ) : ℝ := ropeT (B.cc t) (B.sc t) (B.dQr h t) d

/-- The window's keys' gradient, from the eight heads that read them, before the rotary embedding's transpose. -/
def dK (j s d : ℕ) : ℝ := ∑ g ∈ range 8, ∑ t ∈ range 128, B.dS (8 * j + g) s t * B.Q (8 * j + g) t d

/-- The window's values' gradient. -/
def dV (j s d : ℕ) : ℝ := ∑ g ∈ range 8, ∑ t ∈ range 128, B.P (8 * j + g) s t * B.dO (8 * j + g) t d

/-- What the block adds to the keys' gradient of its own rows. -/
def dKown (j t d : ℕ) : ℝ := ropeT (B.cc t) (B.sc t) (B.dK j (128 + t)) d

/-- What the block adds to the keys' gradient of the previous block's rows. -/
def dKprev (j t d : ℕ) : ℝ := ropeT (B.cp t) (B.sp t) (B.dK j t) d

theorem E_nonneg (h s t : ℕ) : 0 ≤ B.E h s t := by
  unfold E; split
  · exact (Real.exp_pos _).le
  · exact le_rfl

theorem den_pos (h t : ℕ) : 0 < B.den h t :=
  add_pos_of_nonneg_of_pos (sum_nonneg fun s _ => B.E_nonneg h s t) (Real.exp_pos _)

end Blk

/-! ## The whole batch -/

/-- The rotary angle of position `p` and lane `d` of a head's first half. -/
def ang (p d : ℕ) : ℝ := p * (10000 : ℝ) ^ (-(d : ℝ) * (1 / 32))

/-- The cosine table. -/
def tcos (p d : ℕ) : ℝ := Real.cos (ang p (d % 32))

/-- The sine table, with the sign of the lane's half. -/
def tsin (p d : ℕ) : ℝ := if d < 32 then -Real.sin (ang p d) else Real.sin (ang p (d - 32))

/-- Block `n` of sequence `b`, out of the projections `X`, the output's cotangent `D` and the sinks `S`. -/
def blk (X D : ℕ → ℕ → ℝ) (S : ℕ → ℝ) (b n : ℕ) : Blk where
  q h t d := X ((16 * b + n) * 128 + t) (4096 + (64 * h + d))
  z h t d := X ((16 * b + n) * 128 + t) (5120 + (64 * h + d))
  g h t d := D ((16 * b + n) * 128 + t) (64 * h + d)
  sk := S
  kc j t d := X ((16 * b + n) * 128 + t) (6144 + (64 * j + d))
  vc j t d := X ((16 * b + n) * 128 + t) (6272 + (64 * j + d))
  kp j t d := X ((16 * b + (n - 1)) * 128 + t) (6144 + (64 * j + d))
  vp j t d := X ((16 * b + (n - 1)) * 128 + t) (6272 + (64 * j + d))
  cc t d := tcos (n * 128 + t) d
  sc t d := tsin (n * 128 + t) d
  cp t d := tcos ((n - 1) * 128 + t) d
  sp t d := tsin ((n - 1) * 128 + t) d
  sees s t := decide (t < s ∧ s ≤ t + 128 ∧ (128 ≤ s ∨ 0 < n))

/-- The gradient of a block's keys and values that the block's own queries give, keys first. -/
def own (B : Blk) (t c : ℕ) : ℝ := if c < 128 then B.dKown (c / 64) t (c % 64) else B.dV ((c - 128) / 64) (128 + t) (c % 64)

/-- The gradient of the previous block's keys and values that a block's queries give. -/
def prev (B : Blk) (t c : ℕ) : ℝ := if c < 128 then B.dKprev (c / 64) t (c % 64) else B.dV ((c - 128) / 64) t (c % 64)

section whole

variable (X D : ℕ → ℕ → ℝ) (S : ℕ → ℝ)

/-- The four gradients of the whole batch: of the queries, of the gates, of the keys and values, and of the sinks. -/
def dq (r c : ℕ) : ℝ := (blk X D S (r / 2048) (r / 128 % 16)).dQ (c / 64) (r % 128) (c % 64)

def dz (r c : ℕ) : ℝ := (blk X D S (r / 2048) (r / 128 % 16)).dZ (c / 64) (r % 128) (c % 64)

def dkv (r c : ℕ) : ℝ := own (blk X D S (r / 2048) (r / 128 % 16)) (r % 128) c +
  if r / 128 % 16 = 15 then 0 else prev (blk X D S (r / 2048) (r / 128 % 16 + 1)) (r % 128) c

def dsink (h : ℕ) : ℝ := ∑ u ∈ range 32, (blk X D S (u / 16) (u % 16)).dSk h

end whole

end Cert.Spec
-- ==== Proof.Calc.lean ====
/- Matrices of extended reals that hold real numbers, and what the kernel's operations do to the numbers they hold. -/
module

public import proofs.«01_k».proof.Proof.Tiles
public import proofs.«01_k».proof.Proof.Spec
public import Idealize.ShloMosaic.Lib.Pointwise

@[expose] public section

set_option maxRecDepth 16384

noncomputable section

namespace Cert.KernelIdeal.Words

open Idealize.ShloMosaic Cert.KernelIdeal Cert.KernelIdeal.Gen

/-- A matrix holds the real numbers `f r c`. -/
def Holds {n0 n1 : ℕ} (x : (⟨2, ![n0, n1]⟩ : Shape).Idx → EReal) (f : ℕ → ℕ → ℝ) : Prop :=
  ∀ i, x i = ((f (i 0).val (i 1).val : ℝ) : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of `n` held numbers, as a sum over a range. -/
theorem sum_fin_coe (n : ℕ) (f : ℕ → ℝ) : (∑ k : Fin n, ((f k.val : ℝ) : EReal)) = ((∑ k ∈ Finset.range n, f k : ℝ) : EReal) := by
  rw [coe_sum, Finset.sum_range (fun k => ((f k : ℝ) : EReal))]

namespace Holds

variable {n0 n1 : ℕ} {x y : (⟨2, ![n0, n1]⟩ : Shape).Idx → EReal} {f g : ℕ → ℕ → ℝ}

theorem congr (h : Holds x f) (hfg : ∀ r c, r < n0 → c < n1 → f r c = g r c) : Holds x g := fun i => by
  rw [h i, hfg _ _ (i 0).isLt (i 1).isLt]

theorem at2 (h : Holds x f) (r : Fin n0) (c : Fin n1) : x (ix2 r c) = ((f r.val c.val : ℝ) : EReal) := h _

theorem at' (h : Holds x f) {r : Fin n0} {c : Fin n1} (r' c' : ℕ) (hr : r.val = r') (hc : c.val = c') :
    x (ix2 r c) = ((f r' c' : ℝ) : EReal) := by rw [h.at2, hr, hc]

theorem of2 (h : ∀ (r : Fin n0) (c : Fin n1), x (ix2 r c) = ((f r.val c.val : ℝ) : EReal)) : Holds x f := fun i => by
  rw [eq_ix2 i]; exact h (i 0) (i 1)

theorem mul {φ : FTy} {x y : FVec Ideal ⟨2, ![n0, n1]⟩ φ} (hx : Holds x f) (hy : Holds y g) :
    Holds (mulf x y) fun r c => f r c * g r c := fun i => by
  show x i * y i = _
  rw [hx i, hy i, ← EReal.coe_mul]

theorem add {φ : FTy} {x y : FVec Ideal ⟨2, ![n0, n1]⟩ φ} (hx : Holds x f) (hy : Holds y g) :
    Holds (addf x y) fun r c => f r c + g r c := fun i => by
  show x i + y i = _
  rw [hx i, hy i, ← EReal.coe_add]

theorem sub {φ : FTy} {x y : FVec Ideal ⟨2, ![n0, n1]⟩ φ} (hx : Holds x f) (hy : Holds y g) :
    Holds (subf x y) fun r c => f r c - g r c := fun i => by
  show x i - y i = _
  rw [hx i, hy i, ← EReal.coe_sub]

theorem div {φ : FTy} {x y : FVec Ideal ⟨2, ![n0, n1]⟩ φ} (hx : Holds x f) (hy : Holds y g) (h0 : ∀ r c, g r c ≠ 0) :
    Holds (divf x y) fun r c => f r c / g r c := fun i => by
  show Ideal.div (x i) (y i) = _
  rw [hx i, hy i, Ideal.div_coe (h0 _ _), ← EReal.coe_mul, mul_one_div]

theorem expf {φ : FTy} {x : FVec Ideal ⟨2, ![n0, n1]⟩ φ} (hx : Holds x f) : Holds (exp x) fun r c => Real.exp (f r c) := fun i => by
  show Ideal.exp (x i) = _
  rw [hx i, Ideal.exp_coe]

theorem trunc {φ ψ : FTy} {x : FVec Ideal ⟨2, ![n0, n1]⟩ φ} (hx : Holds x f) (h : ψ.bits < φ.bits) : Holds (truncf ψ x h) f := hx

theorem cast {φ : FTy} {x : FVec Ideal ⟨2, ![n0, n1]⟩ φ} (hx : Holds x f) (h : (⟨2, ![n0, n1]⟩ : Shape).ShapeCasts ⟨2, ![n0, n1]⟩) :
    Holds (shapeCast ⟨2, ![n0, n1]⟩ x h) f := by rwa [shapeCast_self]

theorem splat {φ : FTy} (b : BitVec φ.bits) (v : ℝ) (h : Ideal.ofBits φ b = (v : EReal)) :
    Holds (broadcast (⟨2, ![n0, n1]⟩ : Shape) (Scalar.ofBits (F := Ideal) φ b)) fun _ _ => v := fun _ => h

end Holds

theorem bits_zero : Ideal.ofBits .f32 0x00000000#32 = ((0 : ℝ) : EReal) := by rw [Ideal.ofBits_zero_f32, EReal.coe_zero]

theorem bits_one : Ideal.ofBits .f32 0x3F800000#32 = ((1 : ℝ) : EReal) := by rw [Ideal.ofBits_one_f32, EReal.coe_one]

theorem bits_eighth : Ideal.ofBits .f32 0x3E000000#32 = ((1 / 8 : ℝ) : EReal) := by
  simp [Ideal.ofBits, Ideal.ieee]
  rw [← EReal.coe_mul]; norm_num

theorem holds_zeros : Holds zeros fun _ _ => 0 := Holds.splat _ _ bits_zero

theorem holds_ones : Holds ones fun _ _ => 1 := Holds.splat _ _ bits_one

/-! ## Masks and lanes -/

theorem pay7_at : ∀ l : Fin 128, k0_pay7 (ix2 (0 : Fin 1) l) = if l.val / 64 = 0 then 1#1 else 0#1 := by decide +kernel

theorem pay9_at : ∀ l : Fin 128, k0_pay9 (ix2 l (0 : Fin 1)) = if l.val / 64 = 0 then 1#1 else 0#1 := by decide +kernel

theorem first_at : ∀ l : Fin 128, firstHalf (ix2 (0 : Fin 1) l) = if l.val % 64 < 32 then 1#1 else 0#1 := by decide +kernel

theorem lanes_at : ∀ (e : Bool) (l : Fin 128), lanes e (ix2 (0 : Fin 1) l) = if l.val / 64 = e.toNat then 1#1 else 0#1 := by
  decide +kernel

theorem rows_at : ∀ (e : Bool) (l : Fin 128), rows e (ix2 l (0 : Fin 1)) = if l.val / 64 = e.toNat then 1#1 else 0#1 := by
  decide +kernel

theorem select_ite {α : Type} {p : Prop} [Decidable p] (a b : α) : Scalar.select (if p then 1#1 else 0#1) a b = if p then a else b := by
  by_cases h : p
  · rw [if_pos h, if_pos h]; rfl
  · rw [if_neg h, if_neg h]; rfl

theorem laneSel_at (e : Bool) (i : S128x128.Idx) : laneSel e i = if (i 1).val / 64 = e.toNat then 1#1 else 0#1 := by
  unfold laneSel; pointwise; exact lanes_at e (i 1)

theorem laneSel2_at (i : S256x128.Idx) : laneSel2 i = if (i 1).val / 64 = 0 then 1#1 else 0#1 := by
  unfold laneSel2; pointwise; exact lanes_at false (i 1)

theorem rowSel_at (e : Bool) (i : S128x128.Idx) : rowSel e i = if (i 0).val / 64 = e.toNat then 1#1 else 0#1 := by
  unfold rowSel; pointwise; exact rows_at e (i 0)

section

variable {x y : M} {f g : ℕ → ℕ → ℝ}

theorem holds_select_lane (e : Bool) (hx : Holds x f) (hy : Holds y g) :
    Holds (select (laneSel e) x y) fun r c => if c / 64 = e.toNat then f r c else g r c := fun i => by
  rw [ValueIdx.select_apply, laneSel_at, select_ite, hx i, hy i]
  exact (apply_ite _ _ _ _).symm

theorem holds_select_row (e : Bool) (hx : Holds x f) (hy : Holds y g) :
    Holds (select (rowSel e) x y) fun r c => if r / 64 = e.toNat then f r c else g r c := fun i => by
  rw [ValueIdx.select_apply, rowSel_at, select_ite, hx i, hy i]
  exact (apply_ite _ _ _ _).symm

theorem holds_swap (hx : Holds x f) : Holds (swap x) fun r c => f r (Spec.sw c) := Holds.of2 fun r c => by
  have h1 : c.val < 128 := c.isLt
  unfold swap
  pointwise
  rw [first_at c, select_ite, Spec.sw]
  split
  · exact hx.at' _ _ rfl (show (c.val + 128 - 96) % 128 = c.val + 32 by omega)
  · exact hx.at' _ _ rfl (show (c.val + 128 - 32) % 128 = c.val - 32 by omega)

theorem holds_stack (hx : Holds x f) (hy : Holds y g) : Holds (stack x y) fun r c => if r < 128 then f r c else g (r - 128) c := Holds.of2 fun r c => by
  unfold stack
  pointwise
  split
  · exact hx.at2 _ _
  · exact hy.at2 _ _

theorem holds_tr (hx : Holds x f) : Holds (tr x) fun r c => f c r := Holds.of2 fun r c => by
  unfold tr
  pointwise
  exact hx _

end

theorem holds_roll {x : FVec Ideal S256x128 .f32} {f : ℕ → ℕ → ℝ} (hx : Holds x f) :
    Holds (roll x) fun r c => f r ((c + 64) % 128) := Holds.of2 fun r c => by
  unfold roll
  pointwise
  exact hx.at' _ _ rfl (show (c.val + 128 - 64) % 128 = (c.val + 64) % 128 by omega)

theorem holds_select_lane2 {x y : FVec Ideal S256x128 .f32} {f g : ℕ → ℕ → ℝ} (hx : Holds x f) (hy : Holds y g) :
    Holds (select laneSel2 x y) fun r c => if c / 64 = 0 then f r c else g r c := fun i => by
  rw [ValueIdx.select_apply, laneSel2_at, select_ite, hx i, hy i]
  exact (apply_ite _ _ _ _).symm

theorem holds_tr2 {x : FVec Ideal S256x128 .f32} {f : ℕ → ℕ → ℝ} (hx : Holds x f) :
    Holds (transpose S128x256 [1, 0] x transposes_S256x128_p1_0_S128x256) fun r c => f c r := Holds.of2 fun r c => by
  pointwise
  exact hx _

theorem holds_spread {x : FVec Ideal S1x128 .f32} {f : ℕ → ℕ → ℝ} (hx : Holds x f) : Holds (spread x) fun _ c => f 0 c := Holds.of2 fun r c => by
  unfold spread
  pointwise
  exact hx _

theorem holds_hi {x : FVec Ideal S256x128 .f32} {f : ℕ → ℕ → ℝ} (hx : Holds x f) : Holds (hi x) fun r c => f (128 + r) c := Holds.of2 fun r c => by
  unfold hi
  pointwise
  rw [hx.at2]

theorem holds_lo {x : FVec Ideal S256x128 .f32} {f : ℕ → ℕ → ℝ} (hx : Holds x f) : Holds (lo x) f := Holds.of2 fun r c => by
  unfold lo
  pointwise
  rw [hx.at2]

/-! ## Sums -/

theorem holds_dot_ks {x : FVec Ideal S256x128 .bf16} {y : FVec Ideal S128x128 .bf16} {f g : ℕ → ℕ → ℝ} (hx : Holds x f) (hy : Holds y g) :
    Holds (matmul dot_S256x128_S128x128_S256x128_1_0_0_1_n_n none x y (constant (F := Ideal) S256x128 .f32 0x00000000#32))
      fun r c => ∑ k ∈ Finset.range 128, f r k * g k c := Holds.of2 fun r c => by
  pointwise
  simp only [hx.at2, hy.at2, ← EReal.coe_mul]
  exact sum_fin_coe 128 fun k => f r.val k * g k c.val

theorem holds_dot_sk {x : FVec Ideal S128x256 .bf16} {y : FVec Ideal S256x128 .bf16} {f g : ℕ → ℕ → ℝ} (hx : Holds x f) (hy : Holds y g) :
    Holds (matmul dot_S128x256_S256x128_S128x128_1_0_0_1_n_n none x y (constant (F := Ideal) S128x128 .f32 0x00000000#32))
      fun r c => ∑ k ∈ Finset.range 256, f r k * g k c := Holds.of2 fun r c => by
  pointwise
  simp only [hx.at2, hy.at2, ← EReal.coe_mul]
  exact sum_fin_coe 256 fun k => f r.val k * g k c.val

theorem holds_prod8 {x : FVec Ideal S256x1024 .bf16} {y : FVec Ideal S1024x128 .bf16} {f g : ℕ → ℕ → ℝ} (hx : Holds x f) (hy : Holds y g) :
    Holds (prod8 x y) fun r c => ∑ k ∈ Finset.range 1024, f r k * g k c := Holds.of2 fun r c => by
  unfold prod8
  pointwise
  simp only [hx.at2, hy.at2, ← EReal.coe_mul]
  exact sum_fin_coe 1024 fun k => f r.val k * g k c.val

theorem holds_sum256 {x : FVec Ideal S256x128 .f32} {f : ℕ → ℕ → ℝ} (hx : Holds x f) :
    Holds (shapeCast S1x128 (multiReduction .add [0] S128 x 0x00000000#32 reduces_S256x128_S128 (.inl rfl) rfl) shapeCasts_S128_S1x128)
      fun _ c => ∑ k ∈ Finset.range 256, f k c := Holds.of2 fun r c => by
  pointwise
  simp only [hx.at2]
  exact sum_fin_coe 256 fun k => f k c.val

theorem holds_sum128 {x : M} {f : ℕ → ℕ → ℝ} (hx : Holds x f) :
    Holds (shapeCast S1x128 (multiReduction .add [0] S128 x 0x00000000#32 reduces_S128x128_S128 (.inl rfl) rfl) shapeCasts_S128_S1x128)
      fun _ c => ∑ k ∈ Finset.range 128, f k c := Holds.of2 fun r c => by
  pointwise
  simp only [hx.at2]
  exact sum_fin_coe 128 fun k => f k c.val

/-- The sum over the lanes of a row, repeated over a row. -/
theorem holds_sum_row {x : FVec Ideal S1x128 .f32} {f : ℕ → ℕ → ℝ} (hx : Holds x f) :
    Holds (broadcast S1x128 (extractAt (s := S1x1x1) ![0, 0, 0] (shapeCast S1x1x1 (multiReduction .add [1, 2] S1
      (shapeCast S1x1x128 x shapeCasts_S1x128_S1x1x128) 0x00000000#32 reduces_S1x1x128_S1 (.inl rfl) rfl)
      shapeCasts_S1_S1x1x1) inpos_S1x1x1_p0_0_0)) fun _ _ => ∑ k ∈ Finset.range 128, f 0 k := Holds.of2 fun r c => by
  pointwise
  simp only [Finset.univ_unique, Finset.sum_singleton, hx.at2]
  exact sum_fin_coe 128 fun k => f 0 k

end Cert.KernelIdeal.Words
-- ==== Proof.Point.lean ====
/- The kernel's words at one grid point hold the gradient of `Spec.lean`'s block. -/
module

public import proofs.«01_k».proof.Proof.Calc

@[expose] public section

set_option maxRecDepth 16384

noncomputable section

namespace Cert.KernelIdeal.Words

open Idealize.ShloMosaic Cert.KernelIdeal Cert.KernelIdeal.Gen Finset

/-- The query head of a pair's half. -/
def hd (j : Bool) (k : Fin 4) (e : ℕ) : ℕ := 8 * j.toNat + 2 * k.val + e

/-- The tiles of a grid point hold a block's numbers. -/
structure HoldsTiles (T : Tiles) (B : Spec.Blk) : Prop where
  q : ∀ j k, Holds (T.q j k) fun t l => B.q (hd j k (l / 64)) t (l % 64)
  z : ∀ j k, Holds (T.z j k) fun t l => B.z (hd j k (l / 64)) t (l % 64)
  d : ∀ j k, Holds (T.d j k) fun t l => B.g (hd j k (l / 64)) t (l % 64)
  sk : ∀ j k e, Holds (T.sk j k e) fun _ _ => B.sk (hd j k e.toNat)
  kc : Holds T.kc fun t l => B.kc (l / 64) t (l % 64)
  vc : Holds T.vc fun t l => B.vc (l / 64) t (l % 64)
  kp : Holds T.kp fun t l => B.kp (l / 64) t (l % 64)
  vp : Holds T.vp fun t l => B.vp (l / 64) t (l % 64)
  cc : Holds T.cc fun t l => B.cc t (l % 64)
  sc : Holds T.sc fun t l => B.sc t (l % 64)
  cp : Holds T.cp fun t l => B.cp t (l % 64)
  sp : Holds T.sp fun t l => B.sp t (l % 64)
  mask : ∀ i : S256x128.Idx, T.mask i = if B.sees (i 0).val (i 1).val = true then 1#1 else 0#1

theorem sw_mod {l : ℕ} : Spec.sw l % 64 = Spec.sw (l % 64) := by
  unfold Spec.sw; split <;> split <;> omega

theorem sw_div {l : ℕ} : Spec.sw l / 64 = l / 64 := by
  unfold Spec.sw; split <;> omega

theorem holds_tab {x : Vec Ideal S128x128 .f32} {f : ℕ → ℕ → ℝ} (h : Holds x f) : Holds (tab x) f := Holds.cast (φ := .f32) h _

section rope

variable {x c s : M} {X : ℕ → ℕ → ℕ → ℝ} {C S : ℕ → ℕ → ℝ}

theorem holds_rope (hx : Holds x fun t l => X (l / 64) t (l % 64)) (hc : Holds c fun t l => C t (l % 64)) (hs : Holds s fun t l => S t (l % 64)) :
    Holds (rope x c s) fun t l => Spec.rope (C t) (S t) (X (l / 64) t) (l % 64) :=
  ((hx.mul hc).add ((holds_swap hx).mul hs)).congr fun t l _ _ => by
    simp only [Spec.rope, sw_mod, sw_div]

theorem holds_ropeb (hx : Holds x fun t l => X (l / 64) t (l % 64)) (hc : Holds c fun t l => C t (l % 64)) (hs : Holds s fun t l => S t (l % 64)) :
    Holds (ropeb x c s) fun t l => Spec.ropeT (C t) (S t) (X (l / 64) t) (l % 64) :=
  ((hx.mul hc).add (holds_swap (hx.mul hs))).congr fun t l _ _ => by
    simp only [Spec.ropeT, sw_mod, sw_div]

end rope

theorem holds_dup (j : Bool) {x : FVec Ideal S256x128 .f32} {X : ℕ → ℕ → ℕ → ℝ} (hx : Holds x fun s l => X (l / 64) s (l % 64)) :
    Holds (dup j x) fun s l => X j.toNat s (l % 64) := by
  cases j
  · exact (holds_select_lane2 hx (holds_roll hx)).congr fun s l _ hl => by
      by_cases h : l / 64 = 0
      · simp [h]
      · rw [if_neg h, show (l + 64) % 128 / 64 = 0 by omega, show (l + 64) % 128 % 64 = l % 64 by omega]; rfl
  · exact (holds_select_lane2 (holds_roll hx) hx).congr fun s l _ hl => by
      by_cases h : l / 64 = 0
      · rw [if_pos h, show (l + 64) % 128 / 64 = 1 by omega, show (l + 64) % 128 % 64 = l % 64 by omega]; rfl
      · rw [if_neg h, show l / 64 = 1 by omega]; rfl

/-- A sum over the lanes that keeps one half. -/
theorem sum_half (e : Bool) (f : ℕ → ℝ) : (∑ l ∈ range 128, if l / 64 = e.toNat then f l else 0) = ∑ d ∈ range 64, f (64 * e.toNat + d) := by
  rw [show 128 = 64 + 64 from rfl, sum_range_add]
  cases e
  · rw [sum_congr rfl fun l hl => if_pos (show l / 64 = false.toNat by have := mem_range.1 hl; simp only [Bool.toNat_false]; omega)]
    rw [sum_eq_zero (s := range 64) (f := fun x => if (64 + x) / 64 = false.toNat then f (64 + x) else 0)
      fun l hl => if_neg (by have := mem_range.1 hl; simp only [Bool.toNat_false]; omega)]
    simp
  · rw [sum_eq_zero fun l hl => if_neg (show ¬l / 64 = true.toNat by have := mem_range.1 hl; simp only [Bool.toNat_true]; omega)]
    rw [sum_congr rfl fun l hl => if_pos (show (64 + l) / 64 = true.toNat by have := mem_range.1 hl; simp only [Bool.toNat_true]; omega)]
    simp

theorem sum_half_mul (e : Bool) (f : ℕ → ℝ) (g : ℕ → ℕ → ℝ) :
    (∑ l ∈ range 128, f (l % 64) * if l / 64 = e.toNat then g (l / 64) (l % 64) else 0) = ∑ d ∈ range 64, f d * g e.toNat d := by
  simp only [mul_ite, mul_zero]
  rw [sum_half e fun l => f (l % 64) * g (l / 64) (l % 64)]
  refine sum_congr rfl fun d hd => ?_
  have := mem_range.1 hd
  rw [show (64 * e.toNat + d) % 64 = d by omega, show (64 * e.toNat + d) / 64 = e.toNat by omega]

theorem hd_div (j : Bool) (k : Fin 4) (e : Bool) : hd j k e.toNat / 8 = j.toNat := by
  revert j k e; decide

variable {T : Tiles} {B : Spec.Blk} (H : HoldsTiles T B)

include H

theorem holds_keys : Holds (keys T) fun s l => B.K (l / 64) s (l % 64) :=
  (holds_stack (holds_rope (X := B.kp) H.kp (holds_tab H.cp) (holds_tab H.sp))
    (holds_rope (X := B.kc) H.kc (holds_tab H.cc) (holds_tab H.sc))).congr fun s l _ _ => by simp only [Spec.Blk.K]

theorem holds_vals : Holds (vals T) fun s l => B.V (l / 64) s (l % 64) :=
  (holds_stack H.vp H.vc).congr fun s l _ _ => by simp only [Spec.Blk.V]

theorem holds_kd (j : Bool) : Holds (kd T j) fun s l => B.K j.toNat s (l % 64) := (holds_dup j (holds_keys H)).trunc _

theorem holds_vd (j : Bool) : Holds (vd T j) fun s l => B.V j.toNat s (l % 64) := (holds_dup j (holds_vals H)).trunc _

theorem holds_kdt (j : Bool) : Holds (kdt T j) fun l s => B.K j.toNat s (l % 64) := (holds_tr2 (holds_dup j (holds_keys H))).trunc _

theorem holds_vdt (j : Bool) : Holds (vdt T j) fun l s => B.V j.toNat s (l % 64) := (holds_tr2 (holds_dup j (holds_vals H))).trunc _

theorem holds_qp (j : Bool) (k : Fin 4) : Holds (qp T j k) fun t l => B.Q (hd j k (l / 64)) t (l % 64) :=
  holds_rope (X := fun u => B.q (hd j k u)) (H.q j k) (holds_tab H.cc) (holds_tab H.sc)

theorem holds_sg (j : Bool) (k : Fin 4) : Holds (sg T j k) fun t l => B.sig (hd j k (l / 64)) t (l % 64) :=
  holds_ones.div (holds_ones.add (holds_zeros.sub (H.z j k)).expf) fun _ _ => (add_pos one_pos (Real.exp_pos _)).ne'

theorem holds_dO (j : Bool) (k : Fin 4) : Holds (dO T j k) fun t l => B.dO (hd j k (l / 64)) t (l % 64) :=
  (H.d j k).mul ((H.z j k).mul (holds_sg H j k))

/-- A head's scores before the mask. -/
theorem holds_dot (j : Bool) (k : Fin 4) (e : Bool) :
    Holds (mulf (matmul dot_S256x128_S128x128_S256x128_1_0_0_1_n_n none (kd T j)
        (truncf .bf16 (select (rowSel e) (tr (qp T j k)) zeros) bitsLt_bf16_f32)
        (constant (F := Ideal) S256x128 .f32 0x00000000#32))
      (broadcast S256x128 (Scalar.ofBits (F := Ideal) .f32 0x3E000000#32))) fun s t => B.score (hd j k e.toNat) s t :=
  ((holds_dot_ks (holds_kd H j) ((holds_select_row e (holds_tr (holds_qp H j k)) holds_zeros).trunc _)).mul
    (Holds.splat _ _ bits_eighth)).congr fun s t _ _ => by
      rw [sum_half_mul e (fun d => B.K j.toNat s d) fun u d => B.Q (hd j k u) t d, Spec.Blk.score, hd_div]

theorem sW_at (j : Bool) (k : Fin 4) (e : Bool) (s : Fin 256) (t : Fin 128) :
    sW T j k e (ix2 s t) = if B.sees s.val t.val = true then ((B.score (hd j k e.toNat) s.val t.val : ℝ) : EReal) else ⊥ := by
  rw [sW, ValueIdx.select_apply, H.mask, select_ite, holds_dot H j k e]
  rfl

theorem holds_sinkW (j : Bool) (k : Fin 4) (e : Bool) : Holds (sinkW T j k e) fun _ _ => B.sk (hd j k e.toNat) := Holds.of2 fun r c => by
  unfold sinkW
  pointwise
  exact (H.sk j k e).at2 _ _

/-- The largest score is a real number. -/
theorem holds_mW (j : Bool) (k : Fin 4) (e : Bool) : ∃ μ : ℕ → ℝ, Holds (mW T j k e) fun _ t => μ t := by
  refine ⟨fun t => if h : t < 128 then (mW T j k e (ix2 (0 : Fin 1) ⟨t, h⟩)).toReal else 0, Holds.of2 fun r c => ?_⟩
  obtain rfl : r = 0 := Subsingleton.elim _ _
  dsimp only
  rw [dif_pos c.isLt]
  refine (EReal.coe_toReal ?_ ?_).symm
  · unfold mW
    pointwise
    refine (max_lt ((fold_max_lt _).2 ⟨?_, fun s _ => ?_⟩) ?_).ne
    · simp [Ideal.ofBits, Ideal.ieee]
    · rw [sW_at H]
      split
      · exact EReal.coe_lt_top _
      · exact bot_lt_top
    · rw [(holds_sinkW H j k e).at2]
      exact EReal.coe_lt_top _
  · refine ne_bot_of_le_ne_bot (EReal.coe_ne_bot (B.sk (hd j k e.toNat))) ?_
    rw [← (holds_sinkW H j k e).at2 0 c]
    exact le_max_right _ _

section soft

variable {j : Bool} {k : Fin 4} {e : Bool} {μ : ℕ → ℝ} (hμ : Holds (mW T j k e) fun _ t => μ t)

include hμ

theorem holds_eW : Holds (eW T j k e) fun s t => B.E (hd j k e.toNat) s t * Real.exp (-μ t) := Holds.of2 fun s t => by
  have h := (holds_spread hμ).at2 s t
  show Ideal.exp (sW T j k e (ix2 s t) - spread (mW T j k e) (ix2 s t)) = _
  rw [h, sW_at H, Spec.Blk.E]
  split
  · rw [← EReal.coe_sub, Ideal.exp_coe, sub_eq_add_neg, Real.exp_add]
  · rw [EReal.bot_sub, Ideal.exp_bot, zero_mul, EReal.coe_zero]

theorem holds_esW : Holds (esW T j k e) fun _ t => Real.exp (B.sk (hd j k e.toNat)) * Real.exp (-μ t) :=
  ((holds_sinkW H j k e).sub hμ).expf.congr fun _ t _ _ => by rw [sub_eq_add_neg, Real.exp_add]

theorem holds_invW : Holds (invW T j k e) fun _ t => 1 / (B.den (hd j k e.toNat) t * Real.exp (-μ t)) :=
  ((Holds.splat _ _ bits_one).div (((holds_sum256 (holds_eW H hμ)).add (holds_esW H hμ)).congr
    (g := fun _ t => B.den (hd j k e.toNat) t * Real.exp (-μ t)) fun _ t _ _ => by rw [Spec.Blk.den, add_mul, sum_mul])
    fun _ t => mul_ne_zero (B.den_pos _ t).ne' (Real.exp_pos _).ne')

end soft

theorem holds_pnW (j : Bool) (k : Fin 4) (e : Bool) : Holds (pnW T j k e) fun s t => B.P (hd j k e.toNat) s t := by
  obtain ⟨μ, hμ⟩ := holds_mW H j k e
  refine ((holds_eW H hμ).mul (holds_spread (holds_invW H hμ))).congr fun s t _ _ => ?_
  have := (B.den_pos (hd j k e.toNat) t).ne'
  have := (Real.exp_pos (-μ t)).ne'
  rw [Spec.Blk.P]; field_simp

theorem holds_psW (j : Bool) (k : Fin 4) (e : Bool) : Holds (psW T j k e) fun _ t => B.Ps (hd j k e.toNat) t := by
  obtain ⟨μ, hμ⟩ := holds_mW H j k e
  refine ((holds_esW H hμ).mul (holds_invW H hμ)).congr fun s t _ _ => ?_
  have := (B.den_pos (hd j k e.toNat) t).ne'
  have := (Real.exp_pos (-μ t)).ne'
  rw [Spec.Blk.Ps]; field_simp

theorem holds_oW (j : Bool) (k : Fin 4) (e : Bool) : Holds (oW T j k e) fun l t => B.O (hd j k e.toNat) t (l % 64) :=
  (holds_dot_sk (holds_vdt H j) ((holds_pnW H j k e).trunc _)).congr fun l t _ _ => by rw [Spec.Blk.O, hd_div]

omit H in
/-- The two heads of a pair side by side. -/
theorem holds_pair {x y : M} {f : ℕ → ℕ → ℕ → ℝ} (hx : Holds x fun l t => f 0 t (l % 64)) (hy : Holds y fun l t => f 1 t (l % 64)) :
    Holds (select (rowSel false) x y) fun l t => f (l / 64) t (l % 64) :=
  (holds_select_row false hx hy).congr fun l t hl _ => by
    by_cases h : l / 64 = 0
    · rw [h]; rfl
    · rw [show l / 64 = 1 by omega]; rfl

theorem holds_ot (j : Bool) (k : Fin 4) : Holds (ot T j k) fun l t => B.O (hd j k (l / 64)) t (l % 64) :=
  holds_pair (f := fun u => B.O (hd j k u)) (holds_oW H j k false) (holds_oW H j k true)

theorem holds_dzW (j : Bool) (k : Fin 4) : Holds (dzW T j k) fun t l => B.dZ (hd j k (l / 64)) t (l % 64) :=
  (((H.d j k).mul (holds_tr (holds_ot H j k))).mul ((holds_sg H j k).mul (holds_ones.add ((H.z j k).mul (holds_ones.sub (holds_sg H j k)))))).trunc _

theorem holds_dotm (j : Bool) (k : Fin 4) (e : Bool) :
    Holds (dotm T j k e) fun l t => if l / 64 = e.toNat then B.dO (hd j k (l / 64)) t (l % 64) else 0 :=
  holds_select_row e (holds_tr (holds_dO H j k)) holds_zeros

theorem holds_deltaW (j : Bool) (k : Fin 4) (e : Bool) : Holds (deltaW T j k e) fun _ t => B.delta (hd j k e.toNat) t :=
  (holds_sum128 ((holds_dotm H j k e).mul (holds_ot H j k))).congr fun _ t _ _ => by
    simp only [ite_mul, zero_mul]
    rw [sum_half e fun l => B.dO (hd j k (l / 64)) t (l % 64) * B.O (hd j k (l / 64)) t (l % 64), Spec.Blk.delta]
    refine sum_congr rfl fun d hd => ?_
    have := mem_range.1 hd
    rw [show (64 * e.toNat + d) % 64 = d by omega, show (64 * e.toNat + d) / 64 = e.toNat by omega]

theorem holds_dsW (j : Bool) (k : Fin 4) (e : Bool) : Holds (dsW T j k e) fun s t => B.dS (hd j k e.toNat) s t :=
  ((((holds_pnW H j k e).mul ((holds_dot_ks (holds_vd H j) ((holds_dotm H j k e).trunc _)).sub (holds_spread (holds_deltaW H j k e)))).mul
    (Holds.splat _ _ bits_eighth)).trunc _).congr fun s t _ _ => by
      rw [sum_half_mul e (fun d => B.V j.toNat s d) fun u d => B.dO (hd j k u) t d, Spec.Blk.dS, hd_div]

theorem holds_dskW (j : Bool) (k : Fin 4) (e : Bool) : Holds (dskW T j k e) fun _ _ => B.dSk (hd j k e.toNat) :=
  (Holds.splat _ _ bits_zero).sub (holds_sum_row ((holds_psW H j k e).mul (holds_deltaW H j k e)))

theorem holds_dqtW (j : Bool) (k : Fin 4) (e : Bool) : Holds (dqtW T j k e) fun l t => B.dQr (hd j k e.toNat) t (l % 64) :=
  (holds_dot_sk (holds_kdt H j) (holds_dsW H j k e)).congr fun l t _ _ => by rw [Spec.Blk.dQr, hd_div]

theorem holds_dqW (j : Bool) (k : Fin 4) : Holds (dqW T j k) fun t l => B.dQ (hd j k (l / 64)) t (l % 64) :=
  (holds_ropeb (X := fun u => B.dQr (hd j k u)) (holds_tr (holds_pair (f := fun u => B.dQr (hd j k u)) (holds_dqtW H j k false)
    (holds_dqtW H j k true))) (holds_tab H.cc) (holds_tab H.sc)).trunc _

end Cert.KernelIdeal.Words
-- ==== Proof.Out.lean ====
/- What a grid point leaves in its output blocks and in the carry, in the numbers of `Spec.lean`. -/
module

public import proofs.«01_k».proof.Proof.Point

@[expose] public section

set_option maxRecDepth 16384

noncomputable section

namespace Cert.KernelIdeal.Words

open Idealize.ShloMosaic Cert.KernelIdeal Cert.KernelIdeal.Gen Finset

/-- The array of extended reals of a matrix of numbers. -/
def arr (n0 n1 : ℕ) (F : ℕ → ℕ → ℝ) : (⟨2, ![n0, n1]⟩ : Shape).Idx → EReal := fun i => ((F (i 0).val (i 1).val : ℝ) : EReal)

/-- A stored tile that holds a part of a matrix is that part of its array. -/
theorem piece {n0 n1 m0 m1 r0 c0 : ℕ} {w : (⟨2, ![m0, m1]⟩ : Shape).Idx → EReal} {f F : ℕ → ℕ → ℝ} (hw : Holds w f)
    (inb : ∀ a, (![r0, c0] : Fin 2 → ℕ) a + (![m0, m1] : Fin 2 → ℕ) a ≤ (⟨2, ![n0, n1]⟩ : Shape).size a)
    (hf : ∀ r c, r < m0 → c < m1 → f r c = F (r0 + r) (c0 + c)) (x : (⟨2, ![m0, m1]⟩ : Shape).Idx) :
    w x = arr n0 n1 F ((Rect.unit (s := ⟨2, ![n0, n1]⟩) ![r0, c0] ![m0, m1] inb).emb x) := by
  rw [hw x, hf _ _ (x 0).isLt (x 1).isLt]
  simp [arr, Rect.emb, Rect.unit]

/-- Stores that hold an array's parts and cover it leave the array, whatever was stored before. -/
theorem canon_of {n0 n1 : ℕ} {φ : EltTy} {L L' : List (View.Piece (Elt Ideal) ⟨2, ![n0, n1]⟩ φ)}
    {G : (⟨2, ![n0, n1]⟩ : Shape).Idx → Elt Ideal φ} (size : Fin 2 → ℕ)
    (hc : View.Piece.tiledL L size = true) (h : View.PiecesOf G L) (i : (⟨2, ![n0, n1]⟩ : Shape).Idx) : View.canon (L ++ L') i = G i :=
  View.canon_append_of_piecesOf G L' L h i (View.cover_of_tiledL L size hc i)

/-- A loaded tile holds its part of a matrix. -/
theorem holds_ld {n0 n1 m0 m1 r0 c0 : ℕ} {x : (⟨2, ![n0, n1]⟩ : Shape).Idx → Elt Ideal .f32} {F : ℕ → ℕ → ℝ} (hx : Holds x F)
    (inb : ∀ a, (![r0, c0] : Fin 2 → ℕ) a + (![m0, m1] : Fin 2 → ℕ) a ≤ (⟨2, ![n0, n1]⟩ : Shape).size a) :
    Holds (n0 := m0) (n1 := m1) (View.ld x (Rect.unit (s := ⟨2, ![n0, n1]⟩) ![r0, c0] ![m0, m1] inb)) fun r c => F (r0 + r) (c0 + c) := fun i => by
  refine (hx _).trans ?_
  simp [LoadRect.idx, Rect.emb, Rect.unit]

theorem sum_blocks (m n : ℕ) (f : ℕ → ℕ → ℝ) (hn : 0 < n) :
    (∑ r ∈ range (m * n), f (r / n) (r % n)) = ∑ g ∈ range m, ∑ t ∈ range n, f g t := by
  induction m with
  | zero => simp
  | succ m ih =>
    rw [Nat.succ_mul, sum_range_add, ih, sum_range_succ]
    congr 1
    refine sum_congr rfl fun t ht => ?_
    have := mem_range.1 ht
    rw [Nat.mul_comm m n, Nat.mul_add_div hn, Nat.div_eq_of_lt this, Nat.mul_add_mod, Nat.mod_eq_of_lt this, Nat.add_zero]

/-- The columns of a head pair's tile inside the whole block. -/
theorem pair_cols (j : Bool) (k : Fin 4) (f : ℕ → ℕ → ℕ → ℝ) (c0 : ℕ) (h0 : c0 = 128 * (4 * j.toNat + k.val)) (r c : ℕ) :
    f (hd j k (c / 64)) r (c % 64) = f ((c0 + c) / 64) (0 + r) ((c0 + c) % 64) := by
  have h1 : hd j k (c / 64) = (c0 + c) / 64 := by unfold hd; omega
  have h2 : c % 64 = (c0 + c) % 64 := by omega
  rw [h1, h2, Nat.zero_add]

variable {T : Tiles} {B : Spec.Blk} (H : HoldsTiles T B)

include H

theorem holds_dq : Holds (View.canon (dqPieces T)) fun t c => B.dQ (c / 64) t (c % 64) := fun i =>
  canon_of (L := dqPieces T) (L' := []) (G := arr 128 1024 fun t c => B.dQ (c / 64) t (c % 64)) S128x128.size (by rfl)
    (by refine ⟨?_, ?_, ?_, ?_, ?_, ?_, ?_, ?_, trivial⟩ <;>
        exact piece (holds_dqW H _ _) (by decide) fun r c _ _ => pair_cols _ _ B.dQ _ rfl r c) i

theorem holds_dz : Holds (View.canon (dzPieces T)) fun t c => B.dZ (c / 64) t (c % 64) := fun i =>
  canon_of (L := dzPieces T) (L' := []) (G := arr 128 1024 fun t c => B.dZ (c / 64) t (c % 64)) S128x128.size (by rfl)
    (by refine ⟨?_, ?_, ?_, ?_, ?_, ?_, ?_, ?_, trivial⟩ <;>
        exact piece (holds_dzW H _ _) (by decide) fun r c _ _ => pair_cols _ _ B.dZ _ rfl r c) i

/-! ## The products over a group's heads -/

omit H in
/-- A load of a whole array reads what the stores left. -/
theorem back_full {n0 n1 : ℕ} {φ : EltTy} (L : List (View.Piece (Elt Ideal) ⟨2, ![n0, n1]⟩ φ))
    (inb : ∀ a, (![0, 0] : Fin 2 → ℕ) a + (![n0, n1] : Fin 2 → ℕ) a ≤ (⟨2, ![n0, n1]⟩ : Shape).size a) (i : (⟨2, ![n0, n1]⟩ : Shape).Idx) :
    back L (Rect.unit (s := ⟨2, ![n0, n1]⟩) ![0, 0] ![n0, n1] inb).toLoadRect i = View.canon L i := by
  unfold back
  congr 1
  funext a
  refine Fin.ext ?_
  fin_cases a <;> simp [LoadRect.idx, Rect.toLoadRect, Rect.unit]

omit H in
/-- The stores of a group stand in front of the earlier group's. -/
theorem both_eq {α : Type} (f : Bool → List α → List α) (h : ∀ j L, f j L = f j [] ++ L) (j : Bool) : ∃ L, both f j = f j [] ++ L := by
  cases j
  · exact ⟨[], (List.append_nil _).symm⟩
  · exact ⟨f false [], h true _⟩

theorem holds_dsSt (j : Bool) (k : Fin 4) (e : Bool) : Holds (dsSt T j k e) fun s t => B.dS (hd j k e.toNat) s t :=
  Holds.cast (φ := .bf16) (holds_dsW H j k e) (by decide)

theorem holds_pnSt (j : Bool) (k : Fin 4) (e : Bool) : Holds (pnSt T j k e) fun s t => B.P (hd j k e.toNat) s t :=
  Holds.cast (φ := .bf16) ((holds_pnW H j k e).trunc _) (by decide)

theorem holds_qSt (j : Bool) (k : Fin 4) (e : Bool) : Holds (qSt T j k e) fun t l => if l / 64 = e.toNat then B.Q (hd j k (l / 64)) t (l % 64) else 0 :=
  Holds.cast (φ := .bf16) ((holds_select_lane e (holds_qp H j k) holds_zeros).trunc _) (by decide)

theorem holds_doSt (j : Bool) (k : Fin 4) (e : Bool) : Holds (doSt T j k e) fun t l => if l / 64 = e.toNat then B.dO (hd j k (l / 64)) t (l % 64) else 0 :=
  Holds.cast (φ := .bf16) ((holds_select_lane e (holds_dO H j k) holds_zeros).trunc _) (by decide)

omit H in
/-- The columns of a head's weights among its group's. -/
theorem head_cols (j : Bool) (k : Fin 4) (e : Bool) (f : ℕ → ℕ → ℕ → ℝ) (c0 : ℕ) (h0 : c0 = 128 * (2 * k.val + e.toNat)) (r c : ℕ) (hc : c < 128) :
    f (hd j k e.toNat) r c = f (8 * j.toNat + (c0 + c) / 128) (0 + r) ((c0 + c) % 128) := by
  have h1 : hd j k e.toNat = 8 * j.toNat + (c0 + c) / 128 := by unfold hd; omega
  have h2 : c = (c0 + c) % 128 := by omega
  rw [h1, ← h2, Nat.zero_add]

omit H in
/-- The rows of a head's queries among its group's. -/
theorem head_rows (j : Bool) (k : Fin 4) (e : Bool) (f : ℕ → ℕ → ℕ → ℝ) (r0 : ℕ) (h0 : r0 = 128 * (2 * k.val + e.toNat)) (r c : ℕ) (hr : r < 128) :
    (if c / 64 = e.toNat then f (hd j k (c / 64)) r (c % 64) else 0) =
      if (0 + c) / 64 = (r0 + r) / 128 % 2 then f (8 * j.toNat + (r0 + r) / 128) ((r0 + r) % 128) ((0 + c) % 64) else 0 := by
  have he := e.toNat_lt
  have h1 : (r0 + r) / 128 % 2 = e.toNat := by omega
  have h2 : r = (r0 + r) % 128 := by omega
  rw [h1, ← h2, Nat.zero_add]
  split
  · rename_i h
    have h3 : hd j k (c / 64) = 8 * j.toNat + (r0 + r) / 128 := by rw [h]; unfold hd; omega
    rw [h3]
  · rfl

theorem holds_dsAll (j : Bool) : Holds (dsAll T j) fun s c => B.dS (8 * j.toNat + c / 128) s (c % 128) := fun i => by
  obtain ⟨L, hL⟩ := both_eq (dsP T) (fun _ _ => rfl) j
  rw [dsAll]
  refine (back_full _ _ i).trans ?_
  rw [hL]
  exact canon_of (L := dsP T j []) (G := arr 256 1024 fun s c => B.dS (8 * j.toNat + c / 128) s (c % 128)) S256x128.size (by rfl)
    (by refine ⟨?_, ?_, ?_, ?_, ?_, ?_, ?_, ?_, trivial⟩ <;>
        exact piece (holds_dsSt H _ _ _) (by decide) fun r c _ hc => head_cols _ _ _ B.dS _ rfl r c hc) i

theorem holds_pnAll (j : Bool) : Holds (pnAll T j) fun s c => B.P (8 * j.toNat + c / 128) s (c % 128) := fun i => by
  obtain ⟨L, hL⟩ := both_eq (pnP T) (fun _ _ => rfl) j
  rw [pnAll]
  refine (back_full _ _ i).trans ?_
  rw [hL]
  exact canon_of (L := pnP T j []) (G := arr 256 1024 fun s c => B.P (8 * j.toNat + c / 128) s (c % 128)) S256x128.size (by rfl)
    (by refine ⟨?_, ?_, ?_, ?_, ?_, ?_, ?_, ?_, trivial⟩ <;>
        exact piece (holds_pnSt H _ _ _) (by decide) fun r c _ hc => head_cols _ _ _ B.P _ rfl r c hc) i

theorem holds_qAll (j : Bool) : Holds (qAll T j) fun r l => if l / 64 = r / 128 % 2 then B.Q (8 * j.toNat + r / 128) (r % 128) (l % 64) else 0 := fun i => by
  obtain ⟨L, hL⟩ := both_eq (qP T) (fun _ _ => rfl) j
  rw [qAll]
  refine (back_full _ _ i).trans ?_
  rw [hL]
  exact canon_of (L := qP T j []) (G := arr 1024 128 fun r l => if l / 64 = r / 128 % 2 then B.Q (8 * j.toNat + r / 128) (r % 128) (l % 64) else 0) S128x128.size (by rfl)
    (by refine ⟨?_, ?_, ?_, ?_, ?_, ?_, ?_, ?_, trivial⟩ <;>
        exact piece (holds_qSt H _ _ _) (by decide) fun r c hr _ => head_rows _ _ _ B.Q _ rfl r c hr) i

theorem holds_doAll (j : Bool) : Holds (doAll T j) fun r l => if l / 64 = r / 128 % 2 then B.dO (8 * j.toNat + r / 128) (r % 128) (l % 64) else 0 := fun i => by
  obtain ⟨L, hL⟩ := both_eq (doP T) (fun _ _ => rfl) j
  rw [doAll]
  refine (back_full _ _ i).trans ?_
  rw [hL]
  exact canon_of (L := doP T j []) (G := arr 1024 128 fun r l => if l / 64 = r / 128 % 2 then B.dO (8 * j.toNat + r / 128) (r % 128) (l % 64) else 0) S128x128.size (by rfl)
    (by refine ⟨?_, ?_, ?_, ?_, ?_, ?_, ?_, ?_, trivial⟩ <;>
        exact piece (holds_doSt H _ _ _) (by decide) fun r c hr _ => head_rows _ _ _ B.dO _ rfl r c hr) i

omit H in
/-- The product over a group's heads, folded: each head's part comes from its own half of the lanes. -/
theorem holds_fold {x : FVec Ideal S256x1024 .bf16} {y : FVec Ideal S1024x128 .bf16} {f g : ℕ → ℕ → ℕ → ℝ}
    (hx : Holds x fun s c => f (c / 128) s (c % 128))
    (hy : Holds y fun r l => if l / 64 = r / 128 % 2 then g (r / 128) (r % 128) (l % 64) else 0) :
    Holds (fold (prod8 x y)) fun s l => ∑ u ∈ range 8, ∑ t ∈ range 128, f u s t * g u t (l % 64) :=
  ((holds_prod8 hx hy).add (holds_roll (holds_prod8 hx hy))).congr fun s l _ hl => by
    rw [← sum_add_distrib, ← sum_blocks 8 128 (fun u t => f u s t * g u t (l % 64)) (by decide)]
    refine sum_congr rfl fun r _ => ?_
    rw [show (l + 64) % 128 % 64 = l % 64 by omega]
    by_cases h : l / 64 = r / 128 % 2
    · rw [if_pos h, if_neg (show ¬ (l + 64) % 128 / 64 = r / 128 % 2 by omega), mul_zero, add_zero]
    · rw [if_neg h, if_pos (show (l + 64) % 128 / 64 = r / 128 % 2 by omega), mul_zero, zero_add]

omit H in
theorem holds_lanes {x y : FVec Ideal S256x128 .f32} {X : ℕ → ℕ → ℕ → ℝ} (hx : Holds x fun s l => X 0 s (l % 64))
    (hy : Holds y fun s l => X 1 s (l % 64)) : Holds (select laneSel2 x y) fun s l => X (l / 64) s (l % 64) :=
  (holds_select_lane2 hx hy).congr fun s l _ hl => by
    by_cases h : l / 64 = 0
    · rw [if_pos h, h]
    · rw [if_neg h, show l / 64 = 1 by omega]

theorem holds_dkW : Holds (dkW T) fun s l => B.dK (l / 64) s (l % 64) :=
  holds_lanes (X := B.dK) (holds_fold (f := fun u => B.dS (8 * 0 + u)) (g := fun u => B.Q (8 * 0 + u)) (holds_dsAll H false) (holds_qAll H false))
    (holds_fold (f := fun u => B.dS (8 * 1 + u)) (g := fun u => B.Q (8 * 1 + u)) (holds_dsAll H true) (holds_qAll H true))

theorem holds_dvW : Holds (dvW T) fun s l => B.dV (l / 64) s (l % 64) :=
  holds_lanes (X := B.dV) (holds_fold (f := fun u => B.P (8 * 0 + u)) (g := fun u => B.dO (8 * 0 + u)) (holds_pnAll H false) (holds_doAll H false))
    (holds_fold (f := fun u => B.P (8 * 1 + u)) (g := fun u => B.dO (8 * 1 + u)) (holds_pnAll H true) (holds_doAll H true))

theorem holds_dkv {carry : Vec Ideal S128x256 .f32} {C : ℕ → ℕ → ℝ} (hC : Holds carry C) :
    Holds (View.canon (dkvPieces T carry)) fun t c => Spec.own B t c + C t c := fun i =>
  canon_of (L := dkvPieces T carry) (L' := []) (G := arr 128 256 fun t c => Spec.own B t c + C t c) S128x128.size (by rfl)
    ⟨piece (((holds_hi (holds_dvW H)).add (holds_ld hC (by decide))).trunc _) (by decide) fun r c _ hc => by
        simp only [Spec.own]
        rw [if_neg (by omega), Nat.zero_add, show 128 + c - 128 = c by omega, show (128 + c) % 64 = c % 64 by omega],
      piece (((holds_ropeb (X := fun j t => B.dK j (128 + t)) (holds_hi (holds_dkW H)) (holds_tab H.cc) (holds_tab H.sc)).add (holds_ld hC (by decide))).trunc _) (by decide)
        fun r c _ hc => by
          simp only [Spec.own, Nat.zero_add]
          rw [if_pos hc, Spec.Blk.dKown], trivial⟩ i

theorem holds_carry (L : List (View.Piece (Elt Ideal) S128x256 .f32)) : Holds (View.canon (carryPieces T L)) (Spec.prev B) := fun i =>
  canon_of (L := carryPieces T []) (L' := L) (G := arr 128 256 (Spec.prev B)) S128x128.size (by rfl)
    ⟨piece (Holds.cast (φ := .f32) (holds_lo (holds_dvW H)) _) (by decide) fun r c _ hc => by
        simp only [Spec.prev]
        rw [if_neg (by omega), Nat.zero_add, show 128 + c - 128 = c by omega, show (128 + c) % 64 = c % 64 by omega],
      piece (Holds.cast (φ := .f32) (holds_ropeb (X := B.dK) (holds_lo (holds_dkW H)) (holds_tab H.cp) (holds_tab H.sp)) _) (by decide) fun r c _ hc => by
        simp only [Spec.prev, Nat.zero_add]
        rw [if_pos hc, Spec.Blk.dKprev], trivial⟩ i

theorem holds_dskRow {acc : Vec Ideal S1x128 .f32} {A : ℕ → ℕ → ℝ} (hA : Holds acc A) (j : Bool) (k : Fin 4) (e : Bool) :
    Holds (dskRow T acc j k e) fun r c => A r c + B.dSk (hd j k e.toNat) :=
  (Holds.cast (φ := .f32) hA _).add (holds_dskW H j k e)

theorem holds_dsk {acc : Vec Ideal S16x128 .f32} {A : ℕ → ℕ → ℝ} (hA : Holds acc A) (L : List (View.Piece (Elt Ideal) S16x128 .f32)) :
    Holds (View.canon (dskPieces T acc L)) fun h c => A h c + B.dSk h := fun i =>
  canon_of (L := dskPieces T acc []) (L' := L) (G := arr 16 128 fun h c => A h c + B.dSk h) S1x128.size (by rfl)
    (by refine ⟨?_, ?_, ?_, ?_, ?_, ?_, ?_, ?_, ?_, ?_, ?_, ?_, ?_, ?_, ?_, ?_, trivial⟩ <;>
        exact piece (holds_dskRow H (holds_ld hA (by decide)) _ _ _) (by decide) fun r c hr _ => by
          obtain rfl : r = 0 := by omega
          rfl) i

end Cert.KernelIdeal.Words
-- ==== Proof.Extract.lean ====
/- What each case of the kernel's grid points leaves, as the words of `Words.lean` over the point's tiles. -/
module

public import proofs.«01_k».proof.Proof.Tiles

@[expose] public section

set_option maxRecDepth 16384

noncomputable section

namespace Cert.KernelIdeal.Words

open Idealize.ShloMosaic Cert.KernelIdeal Cert.KernelIdeal.Gen

section cases

variable (c : Dev nD) (i : grid0.Coords)
    (arg2 : Memref sig .tc .vmem S128x1024 .f32) (harg2 : arg2.IsWhole)
    (arg3 : Memref sig .tc .vmem S128x1024 .f32) (harg3 : arg3.IsWhole)
    (arg4 : Memref sig .tc .vmem S128x256 .f32) (harg4 : arg4.IsWhole)
    (arg5 : Memref sig .tc .vmem S128x256 .f32) (harg5 : arg5.IsWhole)
    (arg6 : Memref sig .tc .vmem S16x128 .f32) (harg6 : arg6.IsWhole)
    (arg7 : Memref sig .tc .vmem S128x128 .f32) (harg7 : arg7.IsWhole)
    (arg8 : Memref sig .tc .vmem S128x128 .f32) (harg8 : arg8.IsWhole)
    (arg9 : Memref sig .tc .vmem S128x128 .f32) (harg9 : arg9.IsWhole)
    (arg10 : Memref sig .tc .vmem S128x128 .f32) (harg10 : arg10.IsWhole)
    (arg11 : Memref sig .tc .vmem S128x1024 .f32) (harg11 : arg11.IsWhole)
    (arg12 : Memref sig .tc .vmem S128x1024 .bf16) (harg12 : arg12.IsWhole)
    (arg13 : Memref sig .tc .vmem S128x1024 .bf16) (harg13 : arg13.IsWhole)
    (arg14 : Memref sig .tc .vmem S128x256 .bf16) (harg14 : arg14.IsWhole)
    (arg15 : Memref sig .tc .vmem S16x128 .f32) (harg15 : arg15.IsWhole)
    (arg16 : Memref sig .tc .vmem S128x256 .f32) (harg16 : arg16.IsWhole)
    (arg17 : Memref sig .tc .vmem S256x1024 .bf16) (harg17 : arg17.IsWhole)
    (arg18 : Memref sig .tc .vmem S256x1024 .bf16) (harg18 : arg18.IsWhole)
    (arg19 : Memref sig .tc .vmem S1024x128 .bf16) (harg19 : arg19.IsWhole)
    (arg20 : Memref sig .tc .vmem S1024x128 .bf16) (harg20 : arg20.IsWhole)
    (x0 : Vec Ideal S128x1024 .f32) (x1 : Vec Ideal S128x1024 .f32) (x2 : Vec Ideal S128x256 .f32) (x3 : Vec Ideal S128x256 .f32) (x4 : Vec Ideal S16x128 .f32) (x5 : Vec Ideal S128x128 .f32) (x6 : Vec Ideal S128x128 .f32) (x7 : Vec Ideal S128x128 .f32) (x8 : Vec Ideal S128x128 .f32) (x9 : Vec Ideal S128x1024 .f32)
    (xo13 : Vec Ideal S16x128 .f32) (xs0 : Vec Ideal S128x256 .f32)

set_option maxHeartbeats 4000000 in
/-- The first point: the carry and the sinks' gradient start from zero. -/
theorem caseA (hc0 : cond0_0 i) (hc1 : cond0_1 i) :
    (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9,
      out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9,
      out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9,
      out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9,
      sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9) =
      pointOut (tilesOf i x0 x1 x2 x3 x4 x5 x6 x7 x8 x9) zeroCarry zeroDsk fillCarry fillDsk := by
  refine congrArg₂ Prod.mk ?_ (congrArg₂ Prod.mk ?_ (congrArg₂ Prod.mk ?_ (congrArg₂ Prod.mk ?_ ?_))) <;>
  · frame_out
    dsimp only [zeroCarry, zeroDsk, fillCarry, fillDsk, prod8, dkW, dvW, fold, hi, lo, dsAll, pnAll, qAll, doAll, both, dqPieces, dzPieces, dkvPieces, carryPieces, dskPieces, dskRow, dsP, pnP, qP, doP, dsSt, pnSt, qSt, doSt, dqW, dqtW, dzW, dsW, dskW, oW, ot, deltaW, dotm, pnW, psW, eW, esW, invW, mW, sinkW, sW, spread, dO, sg, qp, tr, kd, vd, kdt, vdt, keys, vals, dup, roll, ropeb, rope, tab, swap, firstHalf, laneRem, ones, zeros, laneSel2, laneSel, rowSel, rows, lanes, tilesOf, maskW]
    open_payloads
    simp (disch := decide) only [stack_fold, k0_pay1, k0_pay2, k0_pay3, k0_pay4, k0_pay7, k0_pay8, k0_pay9, k0_pay10, k0_pay11,
      ↓View.readCov_skip, ↓View.readCov_fill, readCov_back, k0_pay5, k0_pay6, View.readAt_eq_ld, Memref.IsWhole.read_unread,
      View.ld_unit_lit', Bool.toNat, cond, Fin.coe_ofNat_eq_mod, Nat.reduceMod, Nat.reduceMul, Nat.reduceAdd]
    try with_reducible exact rfl

set_option maxHeartbeats 4000000 in
/-- A point in the middle of a sequence. -/
theorem caseB (hc0 : ¬cond0_0 i) (hc1 : ¬cond0_1 i) :
    (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13 xs0,
      out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13 xs0,
      out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13 xs0,
      out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13 xs0,
      sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13 xs0) =
      pointOut (tilesOf i x0 x1 x2 x3 x4 x5 x6 x7 x8 x9) xs0 xo13 [] [] := by
  refine congrArg₂ Prod.mk ?_ (congrArg₂ Prod.mk ?_ (congrArg₂ Prod.mk ?_ (congrArg₂ Prod.mk ?_ ?_))) <;>
  · frame_out
    dsimp only [zeroCarry, zeroDsk, fillCarry, fillDsk, prod8, dkW, dvW, fold, hi, lo, dsAll, pnAll, qAll, doAll, both, dqPieces, dzPieces, dkvPieces, carryPieces, dskPieces, dskRow, dsP, pnP, qP, doP, dsSt, pnSt, qSt, doSt, dqW, dqtW, dzW, dsW, dskW, oW, ot, deltaW, dotm, pnW, psW, eW, esW, invW, mW, sinkW, sW, spread, dO, sg, qp, tr, kd, vd, kdt, vdt, keys, vals, dup, roll, ropeb, rope, tab, swap, firstHalf, laneRem, ones, zeros, laneSel2, laneSel, rowSel, rows, lanes, tilesOf, maskW]
    open_payloads
    simp (disch := decide) only [stack_fold, k0_pay1, k0_pay2, k0_pay3, k0_pay4, k0_pay7, k0_pay8, k0_pay9, k0_pay10, k0_pay11,
      ↓View.readCov_skip, ↓View.readCov_fill, readCov_back, k0_pay5, k0_pay6, View.readAt_eq_ld, Memref.IsWhole.read_unread,
      View.ld_unit_lit', Bool.toNat, cond, Fin.coe_ofNat_eq_mod, Nat.reduceMod, Nat.reduceMul, Nat.reduceAdd]
    try with_reducible exact rfl

set_option maxHeartbeats 4000000 in
/-- The first point of the second sequence: the carry starts from zero. -/
theorem caseC (hc0 : ¬cond0_0 i) (hc1 : cond0_1 i) :
    (out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13,
      out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13,
      out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13,
      out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13,
      sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1
      x0 x1 x2 x3 x4 x5 x6 x7 x8 x9 xo13) =
      pointOut (tilesOf i x0 x1 x2 x3 x4 x5 x6 x7 x8 x9) zeroCarry xo13 fillCarry [] := by
  refine congrArg₂ Prod.mk ?_ (congrArg₂ Prod.mk ?_ (congrArg₂ Prod.mk ?_ (congrArg₂ Prod.mk ?_ ?_))) <;>
  · frame_out
    dsimp only [zeroCarry, zeroDsk, fillCarry, fillDsk, prod8, dkW, dvW, fold, hi, lo, dsAll, pnAll, qAll, doAll, both, dqPieces, dzPieces, dkvPieces, carryPieces, dskPieces, dskRow, dsP, pnP, qP, doP, dsSt, pnSt, qSt, doSt, dqW, dqtW, dzW, dsW, dskW, oW, ot, deltaW, dotm, pnW, psW, eW, esW, invW, mW, sinkW, sW, spread, dO, sg, qp, tr, kd, vd, kdt, vdt, keys, vals, dup, roll, ropeb, rope, tab, swap, firstHalf, laneRem, ones, zeros, laneSel2, laneSel, rowSel, rows, lanes, tilesOf, maskW]
    open_payloads
    simp (disch := decide) only [stack_fold, k0_pay1, k0_pay2, k0_pay3, k0_pay4, k0_pay7, k0_pay8, k0_pay9, k0_pay10, k0_pay11,
      ↓View.readCov_skip, ↓View.readCov_fill, readCov_back, k0_pay5, k0_pay6, View.readAt_eq_ld, Memref.IsWhole.read_unread,
      View.ld_unit_lit', Bool.toNat, cond, Fin.coe_ofNat_eq_mod, Nat.reduceMod, Nat.reduceMul, Nat.reduceAdd]
    try with_reducible exact rfl

end cases

variable (m : (ℓ : Loc nD τ sig) → Buf (Elt Ideal) ℓ) (c : Dev nD) (t : Fin cfg0.N)

/-- What the point before left. -/
abbrev before : Vec Ideal S128x1024 .bf16 × Vec Ideal S128x1024 .bf16 × Vec Ideal S128x256 .bf16 × Vec Ideal S16x128 .f32 ×
    Vec Ideal S128x256 .f32 := outsAt0 m c (t.val - 1) (Nat.lt_of_le_of_lt (Nat.sub_le _ _) t.isLt)

theorem outsA (h0 : t.val % 32 = 0) (h1 : t.val % 16 = 0) :
    outsAt0 m c t.val t.isLt = pointOut (tilesAt m c t) zeroCarry zeroDsk fillCarry fillDsk :=
  (outsAt0_A m c t h0 h1).trans (caseA ..)

theorem outsB (h0 : ¬t.val % 32 = 0) (h1 : ¬t.val % 16 = 0) :
    outsAt0 m c t.val t.isLt = pointOut (tilesAt m c t) (before m c t).2.2.2.2 (before m c t).2.2.2.1 [] [] :=
  (outsAt0_B m c t h0 h1).trans (caseB ..)

theorem outsC (h0 : ¬t.val % 32 = 0) (h1 : t.val % 16 = 0) :
    outsAt0 m c t.val t.isLt = pointOut (tilesAt m c t) zeroCarry (before m c t).2.2.2.1 fillCarry [] :=
  (outsAt0_C m c t h0 h1).trans (caseC ..)

end Cert.KernelIdeal.Words
-- ==== Proof.Angle.lean ====
/- The rotary tables' angle, as both programs compute it. -/
module

public import proofs.«01_k».proof.Proof.Spec
public import Idealize.ShloMosaic.Lib.Pointwise

@[expose] public section

noncomputable section

namespace Cert.Spec

open Idealize.ShloMosaic

theorem toInt_small (n : ℕ) (h : n < 2 ^ 31) : (BitVec.ofNat 32 n).toInt = n := by
  rw [BitVec.toInt_eq_toNat_cond, BitVec.toNat_ofNat, Nat.mod_eq_of_lt (by omega), if_pos (by omega)]

theorem bits_theta : Ideal.ofBits .f32 0x461C4000#32 = ((10000 : ℝ) : EReal) := by
  simp [Ideal.ofBits, Ideal.ieee]
  rw [← EReal.coe_mul]; norm_num

theorem bits_half : Ideal.ofBits .f32 0x42000000#32 = ((32 : ℝ) : EReal) := by
  simp [Ideal.ofBits, Ideal.ieee]
  rw [← EReal.coe_mul]; norm_num

/-- A position's angle at a lane. -/
theorem ang_word (p d : ℕ) (hp : p < 2048) (hd : d < 32) :
    (FloatOps.sitofp (F := Ideal) .f32 (BitVec.ofNat 32 p) : EReal) * Ideal.pow (Ideal.ofBits .f32 0x461C4000#32)
      (Ideal.div (-(FloatOps.sitofp (F := Ideal) .f32 (BitVec.ofNat 32 d) : EReal)) (Ideal.ofBits .f32 0x42000000#32)) = ((ang p d : ℝ) : EReal) := by
  show ((((BitVec.ofNat 32 p).toInt : ℤ) : ℝ) : EReal) * Ideal.pow _ (Ideal.div (-((((BitVec.ofNat 32 d).toInt : ℤ) : ℝ) : EReal)) _) = _
  rw [toInt_small p (by omega), toInt_small d (by omega), bits_theta, bits_half, Ideal.div_coe (by norm_num), ← EReal.coe_neg, ← EReal.coe_mul,
    Ideal.pow_coe_coe, ← EReal.coe_mul]
  rfl

end Cert.Spec
-- ==== Proof.Blocks.lean ====
/- The numbers the kernel's blocks hold. -/
module

public import proofs.«01_k».proof.Proof.Out
public import proofs.«01_k».proof.Proof.Extract
public import proofs.«01_k».proof.Proof.Angle

@[expose] public section

set_option maxRecDepth 16384

noncomputable section

namespace Cert.KernelIdeal.Words

open Idealize.ShloMosaic Cert.KernelIdeal Cert.KernelIdeal.Gen Finset

theorem idx : ∀ t : Fin cfg0.N, win0_0.index t = ![16 * (t.val / 16) + (15 - t.val % 16), 4] ∧ win0_1.index t = ![16 * (t.val / 16) + (15 - t.val % 16), 5] ∧
    win0_2.index t = ![16 * (t.val / 16) + (15 - t.val % 16), 24] ∧ win0_3.index t = ![16 * (t.val / 16) + (15 - t.val % 16 - 1), 24] ∧
    win0_4.index t = ![0, 0] ∧ win0_5.index t = ![15 - t.val % 16, 0] ∧ win0_6.index t = ![15 - t.val % 16, 0] ∧
    win0_7.index t = ![15 - t.val % 16 - 1, 0] ∧ win0_8.index t = ![15 - t.val % 16 - 1, 0] ∧
    win0_9.index t = ![16 * (t.val / 16) + (15 - t.val % 16), 0] ∧ win0_10.index t = ![16 * (t.val / 16) + (15 - t.val % 16), 0] ∧
    win0_11.index t = ![16 * (t.val / 16) + (15 - t.val % 16), 0] ∧ win0_12.index t = ![16 * (t.val / 16) + (15 - t.val % 16), 0] ∧
    win0_13.index t = ![0, 0] := (by decide +kernel : ∀ t : Fin grid0.N, _)

variable (m : (ℓ : Loc nD τ sig) → Buf (Elt Ideal) ℓ) (c : Dev nD) (t : Fin cfg0.N)

/-- The arrays the kernel's windows read, as extended reals. -/
def arg0 : S4096x6400.Idx → EReal := V m c main_arg0
def arg2 : S4096x1024.Idx → EReal := V m c main_arg2
def sinkB : S16x128.Idx → EReal := V m c main_v24
def cosT : S2048x128.Idx → EReal := V m c main_v17
def sinT : S2048x128.Idx → EReal := V m c main_v22

/-- The kernel's arguments hold the projections `X`, the output's cotangent `D` and the sinks `S`. -/
structure Args (X D : ℕ → ℕ → ℝ) (S : ℕ → ℝ) : Prop where
  x : Holds (arg0 m c) X
  d : Holds (arg2 m c) D
  s : ∀ h : Fin 16, (show S16.Idx → EReal from m (c, Proc.tc.devRef main_arg1)) (ix1 h) = ((S h.val : ℝ) : EReal)

/-! ## The mask and the tables -/

theorem andi_ofBool (a b : Bool) : IntOp.andi (BitVec.ofBool a) (BitVec.ofBool b) = BitVec.ofBool (a && b) := by revert a b; decide

theorem ori_ofBool (a b : Bool) : IntOp.ori (BitVec.ofBool a) (BitVec.ofBool b) = BitVec.ofBool (a || b) := by revert a b; decide

theorem maskW_at (i : S256x128.Idx) : maskW (grid0.coords t) i =
    if decide ((i 1).val < (i 0).val ∧ (i 0).val ≤ (i 1).val + 128 ∧ (128 ≤ (i 0).val ∨ 0 < 15 - t.val % 16)) = true then 1#1 else 0#1 := by
  have h : ((grid0.coords t) 1).val = t.val % 16 := (by decide +kernel : ∀ t : Fin grid0.N, ((grid0.coords t) 1).val = t.val % 16) t
  have hs : (i 0).val < 256 := (i 0).isLt
  have ht : (i 1).val < 128 := (i 1).isLt
  have hn : Scalar.subi 15#32 (BitVec.ofNat 32 (t.val % 16)) = BitVec.ofNat 32 (15 - t.val % 16) :=
    (by decide : ∀ k : Fin 16, Scalar.subi 15#32 (BitVec.ofNat 32 k.val) = BitVec.ofNat 32 (15 - k.val)) ⟨t.val % 16, Nat.mod_lt _ (by decide)⟩
  have ha : IntOp.addi (BitVec.ofNat 32 (i 1).val) 128#32 = BitVec.ofNat 32 ((i 1).val + 128) := (BitVec.ofNat_add _ _).symm
  unfold maskW k0_pay11 k0_pay10
  rw [h]
  pointwise
  rw [hn, ha]
  have hg : Scalar.cmpi CmpIPredicate.sgt (BitVec.ofNat 32 (15 - t.val % 16)) 0#32 = BitVec.ofBool (decide (0 < 15 - t.val % 16)) :=
    (by decide : ∀ k : Fin 16, Scalar.cmpi CmpIPredicate.sgt (BitVec.ofNat 32 k.val) 0#32 = BitVec.ofBool (decide (0 < k.val))) ⟨15 - t.val % 16, by omega⟩
  have h128 : (128#32 : BitVec 32).toInt = 128 := by decide
  rw [hg, WordCmp.cmpi_sgt_eq, WordCmp.cmpi_sle_eq, WordCmp.cmpi_sge_eq, Spec.toInt_small _ (by omega), Spec.toInt_small _ (by omega), Spec.toInt_small _ (by omega),
    h128, ori_ofBool, andi_ofBool, andi_ofBool]
  generalize 15 - t.val % 16 = n
  generalize (i 0).val = s
  generalize (i 1).val = u
  rw [show decide ((u : ℤ) < (s : ℤ)) = decide (u < s) from decide_eq_decide.2 Int.ofNat_lt,
    show decide ((s : ℤ) ≤ ((u + 128 : ℕ) : ℤ)) = decide (s ≤ u + 128) from decide_eq_decide.2 Int.ofNat_le,
    show decide ((128 : ℤ) ≤ (s : ℤ)) = decide (128 ≤ s) from decide_eq_decide.2 (Int.ofNat_le (m := 128))]
  by_cases h1 : u < s <;> by_cases h2 : s ≤ u + 128 <;> by_cases h3 : 128 ≤ s <;> by_cases h4 : 0 < n <;> simp [h1, h2, h3, h4]

theorem holds_sinkB {X D : ℕ → ℕ → ℝ} {S : ℕ → ℝ} (A : Args m c X D S) : Holds (sinkB m c) fun h _ => S h := Holds.of2 fun r l => by
  unfold sinkB V
  after_results
  pointwise
  exact A.s r

theorem holds_cosT : Holds (cosT m c) fun p l => Spec.tcos p (l % 64) := Holds.of2 fun r l => by
  have hr := r.isLt
  unfold cosT V
  after_results
  pointwise
  split
  · rw [Spec.ang_word _ _ hr (by omega), Ideal.cos_coe, Spec.tcos, Nat.mod_eq_of_lt (show l.val % 64 < 32 by assumption)]
  · rw [Spec.ang_word _ _ hr (by omega), Ideal.cos_coe, Spec.tcos, show l.val % 64 - 32 = l.val % 64 % 32 by omega]

theorem holds_sinT : Holds (sinT m c) fun p l => Spec.tsin p (l % 64) := Holds.of2 fun r l => by
  have hr := r.isLt
  unfold sinT V
  after_results
  pointwise
  rw [Spec.tsin]
  split
  · rw [Spec.ang_word _ _ hr (by omega), Ideal.sin_coe, ← EReal.coe_neg]
  · rw [Spec.ang_word _ _ hr (by omega), Ideal.sin_coe]

/-! ## The tiles -/

theorem holds_X0_0 {X : ℕ → ℕ → ℝ} (hX : Holds (arg0 m c) X) :
    Holds (n0 := 128) (n1 := 1024) (X0_0 m c t) fun r l => X ((16 * (t.val / 16) + (15 - t.val % 16)) * 128 + r) (4 * 1024 + l) := fun i => by
  unfold X0_0 Pipeline.Window.fill
  rw [dif_pos (moved0_0 t i)]
  refine (hX _).trans ?_
  blk_simp [idx t]

theorem holds_X0_1 {X : ℕ → ℕ → ℝ} (hX : Holds (arg0 m c) X) :
    Holds (n0 := 128) (n1 := 1024) (X0_1 m c t) fun r l => X ((16 * (t.val / 16) + (15 - t.val % 16)) * 128 + r) (5 * 1024 + l) := fun i => by
  unfold X0_1 Pipeline.Window.fill
  rw [dif_pos (moved0_1 t i)]
  refine (hX _).trans ?_
  blk_simp [idx t]

theorem holds_iblk2 {X : ℕ → ℕ → ℝ} (hX : Holds (arg0 m c) X) :
    Holds (n0 := 128) (n1 := 256) (iblk m c 2 t) fun r l => X ((16 * (t.val / 16) + (15 - t.val % 16)) * 128 + r) (24 * 256 + l) := fun i => by
  refine (hX _).trans ?_
  blk_simp [idx t]

theorem holds_iblk3 {X : ℕ → ℕ → ℝ} (hX : Holds (arg0 m c) X) :
    Holds (n0 := 128) (n1 := 256) (iblk m c 3 t) fun r l => X ((16 * (t.val / 16) + (15 - t.val % 16 - 1)) * 128 + r) (24 * 256 + l) := fun i => by
  refine (hX _).trans ?_
  blk_simp [idx t]

theorem holds_iblk4 {X : ℕ → ℕ → ℝ} (hX : Holds (sinkB m c) X) :
    Holds (n0 := 16) (n1 := 128) (iblk m c 4 t) fun r l => X (r) (l) := fun i => by
  refine (hX _).trans ?_
  blk_simp [idx t]

theorem holds_iblk5 {X : ℕ → ℕ → ℝ} (hX : Holds (cosT m c) X) :
    Holds (n0 := 128) (n1 := 128) (iblk m c 5 t) fun r l => X ((15 - t.val % 16) * 128 + r) (l) := fun i => by
  refine (hX _).trans ?_
  blk_simp [idx t]

theorem holds_iblk6 {X : ℕ → ℕ → ℝ} (hX : Holds (sinT m c) X) :
    Holds (n0 := 128) (n1 := 128) (iblk m c 6 t) fun r l => X ((15 - t.val % 16) * 128 + r) (l) := fun i => by
  refine (hX _).trans ?_
  blk_simp [idx t]

theorem holds_iblk7 {X : ℕ → ℕ → ℝ} (hX : Holds (cosT m c) X) :
    Holds (n0 := 128) (n1 := 128) (iblk m c 7 t) fun r l => X ((15 - t.val % 16 - 1) * 128 + r) (l) := fun i => by
  refine (hX _).trans ?_
  blk_simp [idx t]

theorem holds_iblk8 {X : ℕ → ℕ → ℝ} (hX : Holds (sinT m c) X) :
    Holds (n0 := 128) (n1 := 128) (iblk m c 8 t) fun r l => X ((15 - t.val % 16 - 1) * 128 + r) (l) := fun i => by
  refine (hX _).trans ?_
  blk_simp [idx t]

theorem holds_iblk9 {X : ℕ → ℕ → ℝ} (hX : Holds (arg2 m c) X) :
    Holds (n0 := 128) (n1 := 1024) (iblk m c 9 t) fun r l => X ((16 * (t.val / 16) + (15 - t.val % 16)) * 128 + r) (l) := fun i => by
  refine (hX _).trans ?_
  blk_simp [idx t]

variable {m c} {X D : ℕ → ℕ → ℝ} {S : ℕ → ℝ}

/-- The block a grid point works on. -/
abbrev blkAt (X D : ℕ → ℕ → ℝ) (S : ℕ → ℝ) (t : ℕ) : Spec.Blk := Spec.blk X D S (t / 16) (15 - t % 16)

theorem holds_tilesOf (B : Spec.Blk) {i : grid0.Coords} {x0 x1 : Vec Ideal S128x1024 .f32} {x2 x3 : Vec Ideal S128x256 .f32} {x4 : Vec Ideal S16x128 .f32}
    {x5 x6 x7 x8 : Vec Ideal S128x128 .f32} {x9 : Vec Ideal S128x1024 .f32}
    (h0 : Holds x0 fun r l => B.q (l / 64) r (l % 64)) (h1 : Holds x1 fun r l => B.z (l / 64) r (l % 64))
    (h2 : Holds x2 fun r l => if l < 128 then B.kc (l / 64) r (l % 64) else B.vc ((l - 128) / 64) r (l % 64))
    (h3 : Holds x3 fun r l => if l < 128 then B.kp (l / 64) r (l % 64) else B.vp ((l - 128) / 64) r (l % 64))
    (h4 : Holds x4 fun h _ => B.sk h) (h5 : Holds x5 fun t l => B.cc t (l % 64)) (h6 : Holds x6 fun t l => B.sc t (l % 64))
    (h7 : Holds x7 fun t l => B.cp t (l % 64)) (h8 : Holds x8 fun t l => B.sp t (l % 64)) (h9 : Holds x9 fun r l => B.g (l / 64) r (l % 64))
    (hm : ∀ y : S256x128.Idx, maskW i y = if B.sees (y 0).val (y 1).val = true then 1#1 else 0#1) :
    HoldsTiles (tilesOf i x0 x1 x2 x3 x4 x5 x6 x7 x8 x9) B where
  q j k := (holds_ld h0 (inb_pair j k)).congr fun r l _ _ => (pair_cols j k B.q _ rfl r l).symm
  z j k := (holds_ld h1 (inb_pair j k)).congr fun r l _ _ => (pair_cols j k B.z _ rfl r l).symm
  d j k := (holds_ld h9 (inb_pair j k)).congr fun r l _ _ => (pair_cols j k B.g _ rfl r l).symm
  sk j k e := (holds_ld h4 (inb_sink j k e)).congr fun r l hr _ => congrArg B.sk (by unfold hd; omega)
  kc := (holds_ld h2 inb_S128x256_S128x128_0_0).congr fun r l _ hl => by
    rw [Nat.zero_add, Nat.zero_add, if_pos hl]
  vc := (holds_ld h2 inb_S128x256_S128x128_0_128).congr fun r l _ hl => by
    rw [Nat.zero_add, if_neg (by omega), show 128 + l - 128 = l by omega, show (128 + l) % 64 = l % 64 by omega]
  kp := (holds_ld h3 inb_S128x256_S128x128_0_0).congr fun r l _ hl => by
    rw [Nat.zero_add, Nat.zero_add, if_pos hl]
  vp := (holds_ld h3 inb_S128x256_S128x128_0_128).congr fun r l _ hl => by
    rw [Nat.zero_add, if_neg (by omega), show 128 + l - 128 = l by omega, show (128 + l) % 64 = l % 64 by omega]
  cc := h5
  sc := h6
  cp := h7
  sp := h8
  mask := hm

omit m c in
/-- A column of the keys and values among the projections' columns. -/
theorem kv_cols (f : ℕ → ℝ) (l : ℕ) :
    f (24 * 256 + l) = if l < 128 then f (6144 + (64 * (l / 64) + l % 64)) else f (6272 + (64 * ((l - 128) / 64) + l % 64)) := by
  split <;> congr 1 <;> omega

theorem holds_tiles (A : Args m c X D S) : HoldsTiles (tilesAt m c t) (blkAt X D S t.val) :=
  holds_tilesOf (blkAt X D S t.val)
    ((holds_X0_0 m c t A.x).congr fun r l _ _ => congrArg (X _) (by omega))
    ((holds_X0_1 m c t A.x).congr fun r l _ _ => congrArg (X _) (by omega))
    ((holds_iblk2 m c t A.x).congr fun r l _ _ => kv_cols (X _) l)
    ((holds_iblk3 m c t A.x).congr fun r l _ _ => kv_cols (X _) l)
    (holds_iblk4 m c t (holds_sinkB m c A))
    (holds_iblk5 m c t (holds_cosT m c)) (holds_iblk6 m c t (holds_sinT m c)) (holds_iblk7 m c t (holds_cosT m c)) (holds_iblk8 m c t (holds_sinT m c))
    ((holds_iblk9 m c t A.d).congr fun r l _ _ => congrArg (D _) (by omega))
    (maskW_at t)

/-! ## What every point leaves -/

/-- What a grid point leaves: its block `B`'s gradients, `C` from the point before, and the sinks' gradient `G` so far. -/
structure Left (B : Spec.Blk) (C : ℕ → ℕ → ℝ) (G : ℕ → ℝ) (o : Vec Ideal S128x1024 .bf16 × Vec Ideal S128x1024 .bf16 × Vec Ideal S128x256 .bf16 ×
    Vec Ideal S16x128 .f32 × Vec Ideal S128x256 .f32) : Prop where
  dq : Holds o.1 fun r l => B.dQ (l / 64) r (l % 64)
  dz : Holds o.2.1 fun r l => B.dZ (l / 64) r (l % 64)
  dkv : Holds o.2.2.1 fun r l => Spec.own B r l + C r l
  dsk : Holds o.2.2.2.1 fun h _ => G h
  carry : Holds o.2.2.2.2 (Spec.prev B)

omit m c in
theorem left_point {T : Tiles} {B : Spec.Blk} {C : ℕ → ℕ → ℝ} {G : ℕ → ℝ} (H : HoldsTiles T B) {carry : Vec Ideal S128x256 .f32} {acc : Vec Ideal S16x128 .f32}
    (hc : Holds carry C) (ha : Holds acc fun h _ => G h) (Lc : List (View.Piece (Elt Ideal) S128x256 .f32))
    (Ld : List (View.Piece (Elt Ideal) S16x128 .f32)) : Left B C (fun h => G h + B.dSk h) (pointOut T carry acc Lc Ld) := by
  unfold pointOut
  exact ⟨holds_dq H, holds_dz H, holds_dkv H hc, holds_dsk H ha Ld, holds_carry H Lc⟩

theorem holds_zeroCarry : Holds zeroCarry fun _ _ => 0 := Holds.cast (φ := .f32) (Holds.splat _ _ bits_zero) (by decide)

theorem holds_zeroDsk : Holds zeroDsk fun _ _ => 0 := Holds.splat _ _ bits_zero

/-- The gradient that the point before passes on to a point's keys and values. -/
def carried (X D : ℕ → ℕ → ℝ) (S : ℕ → ℝ) (n r l : ℕ) : ℝ := if n % 16 = 0 then 0 else Spec.prev (blkAt X D S (n - 1)) r l

/-- The sinks' gradient of the points up to one. -/
def sinkSum (X D : ℕ → ℕ → ℝ) (S : ℕ → ℝ) (n h : ℕ) : ℝ := ∑ u ∈ range n, (blkAt X D S u).dSk h

theorem sinkSum_succ (X D : ℕ → ℕ → ℝ) (S : ℕ → ℝ) (n : ℕ) :
    (fun h => sinkSum X D S n h + (blkAt X D S n).dSk h) = sinkSum X D S (n + 1) := funext fun h => (sum_range_succ _ n).symm

theorem left (A : Args m c X D S) (n : ℕ) (hn : n < cfg0.N) :
    Left (blkAt X D S n) (carried X D S n) (sinkSum X D S (n + 1)) (outsAt0 m c n hn) := by
  rw [← sinkSum_succ]
  induction n with
  | zero =>
    rw [outsA m c ⟨0, hn⟩ rfl rfl]
    exact left_point (holds_tiles ⟨0, hn⟩ A) (holds_zeroCarry.congr fun r l _ _ => by simp [carried]) (holds_zeroDsk.congr fun r l _ _ => by simp [sinkSum]) _ _
  | succ n ih =>
    have ih := ih (Nat.lt_of_succ_lt hn)
    rw [sinkSum_succ] at ih
    by_cases h1 : (n + 1) % 16 = 0
    · by_cases h0 : (n + 1) % 32 = 0
      · have : n + 1 < 32 := hn
        omega
      · rw [outsC m c ⟨n + 1, hn⟩ h0 h1]
        exact left_point (holds_tiles ⟨n + 1, hn⟩ A) (holds_zeroCarry.congr fun r l _ _ => by simp [carried, h1]) ih.dsk _ _
    · rw [outsB m c ⟨n + 1, hn⟩ (show ¬(n + 1) % 32 = 0 by omega) h1]
      exact left_point (holds_tiles ⟨n + 1, hn⟩ A) (ih.carry.congr fun r l _ _ => by simp [carried, h1]) ih.dsk _ _

end Cert.KernelIdeal.Words
-- ==== Proof.Arrays.lean ====
/- The arrays the kernel leaves. -/
module

public import proofs.«01_k».proof.Proof.Blocks
public import proofs.«01_k».proof.Proof.Gen.KernelIdeal.Value

@[expose] public section

set_option maxRecDepth 16384

noncomputable section

namespace Cert.KernelIdeal.Words

open Idealize.ShloMosaic Cert.KernelIdeal Cert.KernelIdeal.Gen Finset

variable {m : (ℓ : Loc nD τ sig) → Buf (Elt Ideal) ℓ} {c : Dev nD} {X D : ℕ → ℕ → ℝ} {S : ℕ → ℝ}

/-- A row of a point's block among the batch's rows. -/
theorem row_div (t y : ℕ) (ht : t < 32) (hy : y < 128) : ((16 * (t / 16) + (15 - t % 16)) * 128 + y) / 2048 = t / 16 ∧
    ((16 * (t / 16) + (15 - t % 16)) * 128 + y) / 128 % 16 = 15 - t % 16 ∧ ((16 * (t / 16) + (15 - t % 16)) * 128 + y) % 128 = y := by
  omega

theorem dq_row (t y l : ℕ) (ht : t < 32) (hy : y < 128) :
    (blkAt X D S t).dQ (l / 64) y (l % 64) = Spec.dq X D S ((16 * (t / 16) + (15 - t % 16)) * 128 + y) l := by
  obtain ⟨h1, h2, h3⟩ := row_div t y ht hy
  rw [Spec.dq, h1, h2, h3]

theorem dz_row (t y l : ℕ) (ht : t < 32) (hy : y < 128) :
    (blkAt X D S t).dZ (l / 64) y (l % 64) = Spec.dz X D S ((16 * (t / 16) + (15 - t % 16)) * 128 + y) l := by
  obtain ⟨h1, h2, h3⟩ := row_div t y ht hy
  rw [Spec.dz, h1, h2, h3]

theorem dkv_row (t y l : ℕ) (ht : t < 32) (hy : y < 128) :
    Spec.own (blkAt X D S t) y l + carried X D S t y l = Spec.dkv X D S ((16 * (t / 16) + (15 - t % 16)) * 128 + y) l := by
  obtain ⟨h1, h2, h3⟩ := row_div t y ht hy
  rw [Spec.dkv, h1, h2, h3, carried]
  by_cases h : t % 16 = 0
  · rw [if_pos h, if_pos (by omega)]
  · rw [if_neg h, if_neg (by omega), blkAt, blkAt, show (t - 1) / 16 = t / 16 by omega, show 15 - (t - 1) % 16 = 15 - t % 16 + 1 by omega]

theorem sink_all (h : ℕ) : sinkSum X D S 32 h = Spec.dsink X D S h := by
  rw [sinkSum, Spec.dsink, show 32 = 2 * 16 from rfl, sum_blocks 2 16 (fun b n => (Spec.blk X D S b (15 - n)).dSk h) (by decide),
    sum_blocks 2 16 (fun b n => (Spec.blk X D S b n).dSk h) (by decide)]
  exact sum_congr rfl fun b _ => sum_range_reflect (fun n => (Spec.blk X D S b n).dSk h) 16

theorem final10 (A : Args m c X D S) : (dats m 0 c).arrAt 10 cfg0.N = arr 4096 1024 (Spec.dq X D S) := by
  refine (dats m 0 c).arrAt_eq_of_covers 10 _ (by decide +kernel) fun t _ y => ?_
  have hy : (y 0).val < 128 := (y 0).isLt
  have h := (left A t.val t.isLt).dq y
  blk_simp
  rw [after0_10]
  refine h.trans ((congrArg Real.toEReal (dq_row t.val _ _ t.isLt hy)).trans ?_)
  unfold arr
  blk_simp [idx t]

theorem final11 (A : Args m c X D S) : (dats m 0 c).arrAt 11 cfg0.N = arr 4096 1024 (Spec.dz X D S) := by
  refine (dats m 0 c).arrAt_eq_of_covers 11 _ (by decide +kernel) fun t _ y => ?_
  have hy : (y 0).val < 128 := (y 0).isLt
  have h := (left A t.val t.isLt).dz y
  blk_simp
  rw [after0_11]
  refine h.trans ((congrArg Real.toEReal (dz_row t.val _ _ t.isLt hy)).trans ?_)
  unfold arr
  blk_simp [idx t]

theorem final12 (A : Args m c X D S) : (dats m 0 c).arrAt 12 cfg0.N = arr 4096 256 (Spec.dkv X D S) := by
  refine (dats m 0 c).arrAt_eq_of_covers 12 _ (by decide +kernel) fun t _ y => ?_
  have hy : (y 0).val < 128 := (y 0).isLt
  have h := (left A t.val t.isLt).dkv y
  blk_simp
  rw [after0_12]
  refine h.trans ((congrArg Real.toEReal (dkv_row t.val _ _ t.isLt hy)).trans ?_)
  unfold arr
  blk_simp [idx t]

/-- The last grid point. -/
def tLast : Fin cfg0.N := ⟨31, by decide⟩

theorem tLast_val : tLast.val = 31 := rfl

theorem final13 (A : Args m c X D S) : (dats m 0 c).arrAt 13 cfg0.N = arr 16 128 fun h _ => Spec.dsink X D S h := by
  refine (dats m 0 c).arrAt_eq_of_after_last 13 tLast (by decide +kernel) _ fun y => ?_
  have h := (left A tLast.val tLast.isLt).dsk y
  blk_simp
  rw [after0_13]
  refine h.trans (congrArg Real.toEReal ?_)
  rw [tLast_val]
  exact sink_all _

end Cert.KernelIdeal.Words
-- ==== Proof.RefRope.lean ====
/- The reference's rotary embedding of the queries and the keys, as real numbers. -/
module

public import proofs.«01_k».proof.Proof.Gen.ReferenceIdeal.Read
public import proofs.«01_k».proof.Proof.Angle
public import Idealize.ShloMosaic.Lib.Pointwise

@[expose] public section

set_option maxRecDepth 16384

noncomputable section

namespace Cert.ReferenceIdeal.Value

open Idealize.ShloMosaic Cert.ReferenceIdeal Cert.ReferenceIdeal.Read

/-- The reference's arguments hold the real numbers `X`, `S` and `D`. -/
structure In (x0 : FVec Ideal S4096x6400 .f32) (x1 : FVec Ideal S16 .f32) (x2 : FVec Ideal S4096x1024 .f32) (X D : ℕ → ℕ → ℝ)
    (S : ℕ → ℝ) : Prop where
  x : ∀ r c, x0 (ix2 r c) = ((X r.val c.val : ℝ) : EReal)
  d : ∀ r c, x2 (ix2 r c) = ((D r.val c.val : ℝ) : EReal)
  s : ∀ h, x1 (ix1 h) = ((S h.val : ℝ) : EReal)

variable {x0 : FVec Ideal S4096x6400 .f32} {x1 : FVec Ideal S16 .f32} {x2 : FVec Ideal S4096x1024 .f32} {X D : ℕ → ℕ → ℝ} {S : ℕ → ℝ}

theorem angle_q (p : Fin 2048) (d : Fin 32) : val_main_v17 (F := Ideal) (ix2 p d) = ((Spec.ang p.val d.val : ℝ) : EReal) := by
  unfold val_main_v17 val_main_v16 val_main_v15 val_main_v14 val_main_v13 val_main_v12 val_main_v11 val_main_v10 val_main_v9 val_main_v8
    val_main_v7 val_main_v6 val_main_v4 val_main_cst val_main_cst_0
  pointwise
  exact Spec.ang_word p.val d.val p.isLt d.isLt

theorem angle_k (p : Fin 2048) (d : Fin 32) : val_main_v47 (F := Ideal) (ix2 p d) = ((Spec.ang p.val d.val : ℝ) : EReal) := by
  unfold val_main_v47 val_main_v46 val_main_v45 val_main_v44 val_main_v43 val_main_v42 val_main_v41 val_main_v40 val_main_v39 val_main_v38
    val_main_v37 val_main_v36 val_main_v4 val_main_cst_1 val_main_cst_2
  pointwise
  exact Spec.ang_word p.val d.val p.isLt d.isLt

/-- The four tables. -/
theorem cos_q (p : Fin 2048) (d : Fin 32) (i j : Fin 1) :
    val_main_v19 (F := Ideal) (ix4 i p j d) = ((Real.cos (Spec.ang p.val d.val) : ℝ) : EReal) := by
  unfold val_main_v19 val_main_v18
  pointwise
  rw [angle_q]; exact Ideal.cos_coe _

theorem sin_q (p : Fin 2048) (d : Fin 32) (i j : Fin 1) :
    val_main_v21 (F := Ideal) (ix4 i p j d) = ((Real.sin (Spec.ang p.val d.val) : ℝ) : EReal) := by
  unfold val_main_v21 val_main_v20
  pointwise
  rw [angle_q]; exact Ideal.sin_coe _

theorem cos_k (p : Fin 2048) (d : Fin 32) (i j : Fin 1) :
    val_main_v49 (F := Ideal) (ix4 i p j d) = ((Real.cos (Spec.ang p.val d.val) : ℝ) : EReal) := by
  unfold val_main_v49 val_main_v48
  pointwise
  rw [angle_k]; exact Ideal.cos_coe _

theorem sin_k (p : Fin 2048) (d : Fin 32) (i j : Fin 1) :
    val_main_v51 (F := Ideal) (ix4 i p j d) = ((Real.sin (Spec.ang p.val d.val) : ℝ) : EReal) := by
  unfold val_main_v51 val_main_v50
  pointwise
  rw [angle_k]; exact Ideal.sin_coe _

/-- The rotary embedding, lane by lane of a head's two halves. -/
theorem rope_halves (p : ℕ) (x : ℕ → ℝ) (d : ℕ) (hd : d < 64) :
    Spec.rope (Spec.tcos p) (Spec.tsin p) x d
      = if d < 32 then x d * Real.cos (Spec.ang p d) - x (32 + d) * Real.sin (Spec.ang p d)
        else x d * Real.cos (Spec.ang p (d - 32)) + x (d - 32) * Real.sin (Spec.ang p (d - 32)) := by
  unfold Spec.rope Spec.tcos Spec.tsin Spec.sw
  by_cases h : d < 32
  · rw [if_pos h, if_pos h, if_pos (by omega), Nat.mod_eq_of_lt h, Nat.add_comm 32 d]; ring
  · rw [if_neg h, if_neg h, if_neg (by omega), show d % 32 = d - 32 by omega]

theorem roped_q (A : In x0 x1 x2 X D S) (b : Fin 2) (p : Fin 2048) (h : Fin 16) (d : Fin 64) :
    val_main_v34 (F := Ideal) x0 (ix4 b p h d)
      = ((Spec.rope (Spec.tcos p) (Spec.tsin p) (fun e => X (b.val * 2048 + p.val) (4096 + (h.val * 64 + e))) d.val : ℝ) : EReal) := by
  rw [rope_halves _ _ _ d.isLt]
  unfold val_main_v34 val_main_v33 val_main_v32 val_main_v31 val_main_v30 val_main_v29 val_main_v28 val_main_v27 val_main_v26 val_main_v25
    val_main_v24 val_main_v23 val_main_v22 val_main_v5 val_main_v0
  pointwise
  simp only [cos_q, sin_q, A.x, ← EReal.coe_mul, ← EReal.coe_add, ← EReal.coe_sub]
  split
  · rfl
  · rw [show 32 + (d.val - 32) = d.val by omega]

theorem roped_k (A : In x0 x1 x2 X D S) (b : Fin 2) (p : Fin 2048) (h : Fin 2) (d : Fin 64) :
    val_main_v64 (F := Ideal) x0 (ix4 b p h d)
      = ((Spec.rope (Spec.tcos p) (Spec.tsin p) (fun e => X (b.val * 2048 + p.val) (6144 + (h.val * 64 + e))) d.val : ℝ) : EReal) := by
  rw [rope_halves _ _ _ d.isLt]
  unfold val_main_v64 val_main_v63 val_main_v62 val_main_v61 val_main_v60 val_main_v59 val_main_v58 val_main_v57 val_main_v56 val_main_v55
    val_main_v54 val_main_v53 val_main_v52 val_main_v35 val_main_v2
  pointwise
  simp only [cos_k, sin_k, A.x, ← EReal.coe_mul, ← EReal.coe_add, ← EReal.coe_sub]
  split
  · rfl
  · rw [show 32 + (d.val - 32) = d.val by omega]

end Cert.ReferenceIdeal.Value
-- ==== Proof.Softmax.lean ====
/- The softmax and its derivative, over the real numbers: the shifted exponentials give the weights of the specification, and the
   derivative through quotient and exponential gives its scores' gradient. `V'` and `K'` are windows of values and keys that agree with
   the block's where the query sees them. -/
module

public import proofs.«01_k».proof.Proof.Spec
public import Mathlib.Tactic.FieldSimp
public import Mathlib.Tactic.Ring
public import Mathlib.Algebra.BigOperators.Field

@[expose] public section

noncomputable section

namespace Cert.Spec.Blk

open Finset

variable (B : Blk) (h t : ℕ)

/-- The exponentials of the 257 logits after a shift that multiplies them by `c`: the window's 256 keys, then the sink. -/
def shifted (c : ℝ) (s : ℕ) : ℝ := if s < 256 then B.E h s t * c else Real.exp (B.sk h) * c

theorem sum_shifted (c : ℝ) : ∑ s ∈ range 257, B.shifted h t c s = B.den h t * c := by
  rw [sum_range_succ, den, add_mul, sum_mul]
  refine congrArg₂ _ (sum_congr rfl fun s hs => if_pos (mem_range.1 hs)) ?_
  exact if_neg (by omega)

theorem P_unseen (s : ℕ) (hs : ¬B.sees s t = true) : B.P h s t = 0 := by
  rw [P, E, if_neg hs, zero_div]

theorem P_shifted (c : ℝ) (hc : c ≠ 0) (s : ℕ) (hs : s < 256) : B.shifted h t c s / (B.den h t * c) = B.P h s t := by
  have := (B.den_pos h t).ne'
  rw [shifted, if_pos hs, P]
  field_simp

variable (V' : ℕ → ℕ → ℝ) (hV : ∀ s d, B.sees s t = true → V' s d = B.V (h / 8) s d)

include hV in
theorem P_value (s d : ℕ) : V' s d * B.P h s t = B.V (h / 8) s d * B.P h s t := by
  by_cases hs : B.sees s t = true
  · rw [hV s d hs]
  · rw [B.P_unseen h t s hs, mul_zero, mul_zero]

include hV in
theorem O_value (d : ℕ) : ∑ s ∈ range 256, V' s d * B.P h s t = B.O h t d :=
  sum_congr rfl fun s _ => B.P_value h t V' hV s d

/-- The weights' cotangent, from the window `V'`. -/
def gw (s : ℕ) : ℝ := ∑ d ∈ range 64, B.dO h t d * V' s d

include hV in
theorem delta_value : ∑ s ∈ range 256, B.gw h t V' s * B.P h s t = B.delta h t := by
  unfold gw delta
  simp only [sum_mul]
  rw [sum_comm]
  refine sum_congr rfl fun d _ => ?_
  rw [← B.O_value h t V' hV d, mul_sum]
  exact sum_congr rfl fun s _ => mul_assoc _ _ _

/-- The cotangent of the 257 weights: none for the sink's, which is dropped. -/
def gw0 (s : ℕ) : ℝ := if s < 256 then B.gw h t V' s else 0

include hV in
/-- What the quotient's denominator gets. -/
theorem sum_gw0 (c : ℝ) (hc : c ≠ 0) :
    ∑ s ∈ range 257, B.gw0 h t V' s * (1 / (B.den h t * c * (B.den h t * c))) * B.shifted h t c s = B.delta h t / (B.den h t * c) := by
  have := (B.den_pos h t).ne'
  rw [sum_range_succ, gw0, if_neg (show ¬256 < 256 by omega), zero_mul, zero_mul, add_zero, ← B.delta_value h t V' hV, sum_div]
  refine sum_congr rfl fun s hs => ?_
  rw [gw0, shifted, if_pos (mem_range.1 hs), if_pos (mem_range.1 hs), P]
  field_simp

/-- The logits' gradient. -/
def gl (s : ℕ) : ℝ := B.P h s t * (B.gw h t V' s - B.delta h t)

theorem gl_window (c : ℝ) (hc : c ≠ 0) (s : ℕ) (hs : s < 256) :
    (B.gw0 h t V' s / (B.den h t * c) + -(B.delta h t / (B.den h t * c))) * B.shifted h t c s = B.gl h t V' s := by
  have := (B.den_pos h t).ne'
  rw [gw0, shifted, if_pos hs, if_pos hs, gl, P]
  field_simp
  ring

theorem gl_sink (c : ℝ) (hc : c ≠ 0) :
    (B.gw0 h t V' 256 / (B.den h t * c) + -(B.delta h t / (B.den h t * c))) * B.shifted h t c 256 = -(B.Ps h t * B.delta h t) := by
  have := (B.den_pos h t).ne'
  rw [gw0, shifted, if_neg (by omega), if_neg (by omega), Ps]
  field_simp
  ring

include hV in
theorem dS_value (s : ℕ) : (if B.sees s t = true then B.gl h t V' s else 0) * (1 / 8) = B.dS h s t := by
  unfold dS
  by_cases hs : B.sees s t = true
  · rw [if_pos hs, gl, gw]
    simp only [hV s _ hs, mul_comm (B.dO h t _)]
  · rw [if_neg hs, B.P_unseen h t s hs, zero_mul, zero_mul, zero_mul]

theorem dS_unseen (s : ℕ) (hs : ¬B.sees s t = true) : B.dS h s t = 0 := by
  rw [dS, B.P_unseen h t s hs, zero_mul, zero_mul]

theorem dQr_value (K' : ℕ → ℕ → ℝ) (hK : ∀ s d, B.sees s t = true → K' s d = B.K (h / 8) s d) (d : ℕ) :
    ∑ s ∈ range 256, B.dS h s t * K' s d = B.dQr h t d :=
  sum_congr rfl fun s _ => by
    by_cases hs : B.sees s t = true
    · rw [hK s d hs, mul_comm]
    · rw [B.dS_unseen h t s hs, mul_zero, zero_mul]

end Cert.Spec.Blk
-- ==== Proof.RefScore.lean ====
/- The reference's windows of keys and values, its scores and its mask, as real numbers. -/
module

public import proofs.«01_k».proof.Proof.RefRope
public import proofs.«01_k».proof.Proof.Calc
public import proofs.«01_k».proof.Proof.Softmax
public import Idealize.ShloMosaic.Lib.WordCmp

@[expose] public section

set_option maxRecDepth 16384

noncomputable section

namespace Cert.ReferenceIdeal.Value

open Idealize.ShloMosaic Cert.ReferenceIdeal Cert.ReferenceIdeal.Read
open Cert.KernelIdeal.Words (sum_fin_coe bits_zero bits_one bits_eighth select_ite)

variable {x0 : FVec Ideal S4096x6400 .f32} {x1 : FVec Ideal S16 .f32} {x2 : FVec Ideal S4096x1024 .f32} {X D : ℕ → ℕ → ℝ} {S : ℕ → ℝ}

theorem query (A : In x0 x1 x2 X D S) (b : Fin 2) (n : Fin 16) (t : Fin 128) (j : Fin 2) (g : Fin 8) (d : Fin 64) :
    val_main_v66 (F := Ideal) x0 (ix6 b n t j g d) = (((Spec.blk X D S b n).Q (8 * j.val + g.val) t d : ℝ) : EReal) := by
  unfold val_main_v66
  pointwise
  rw [roped_q A]
  refine congrArg _ (congrArg (fun x => Spec.rope _ _ x d.val) (funext fun e => congrArg₂ X ?_ ?_))
  · show b.val * 2048 + (n.val * 128 + t.val) = (16 * b.val + n.val) * 128 + t.val
    ring
  · show 4096 + ((j.val * 8 + g.val) * 64 + e) = 4096 + (64 * (8 * j.val + g.val) + e)
    ring

/-- A key of a block after the rotary embedding. -/
theorem key_own (A : In x0 x1 x2 X D S) (b : Fin 2) (n : Fin 16) (t : Fin 128) (j : Fin 2) (d : Fin 64) :
    val_main_v67 (F := Ideal) x0 (ix5 b n t j d) = (((Spec.blk X D S b n).K j (t.val + 128) d : ℝ) : EReal) := by
  unfold val_main_v67
  pointwise
  rw [roped_k A, Spec.Blk.K, if_neg (by omega), Nat.add_sub_cancel]
  refine congrArg _ (congrArg (fun x => Spec.rope _ _ x d.val) (funext fun e => congrArg₂ X ?_ ?_))
  · show b.val * 2048 + (n.val * 128 + t.val) = (16 * b.val + n.val) * 128 + t.val
    ring
  · show 6144 + (j.val * 64 + e) = 6144 + (64 * j.val + e)
    ring

theorem value_own (A : In x0 x1 x2 X D S) (b : Fin 2) (n : Fin 16) (t : Fin 128) (j : Fin 2) (d : Fin 64) :
    val_main_v68 (F := Ideal) x0 (ix5 b n t j d) = (((Spec.blk X D S b n).V j (t.val + 128) d : ℝ) : EReal) := by
  unfold val_main_v68 val_main_v65 val_main_v3
  pointwise
  rw [A.x, Spec.Blk.V, if_neg (by omega), Nat.add_sub_cancel]
  refine congrArg _ (congrArg₂ X ?_ ?_)
  · show b.val * 2048 + n.val * 128 + t.val = (16 * b.val + n.val) * 128 + t.val
    ring
  · show 6272 + (j.val * 64 + d.val) = 6272 + (64 * j.val + d)
    ring

/-- The first half of a block's window is the previous block's own half. -/
theorem K_prev (b n j s d : ℕ) (h : s < 128) : (Spec.blk X D S b (n - 1)).K j (s + 128) d = (Spec.blk X D S b n).K j s d := by
  rw [Spec.Blk.K, Spec.Blk.K, if_neg (by omega), if_pos h, Nat.add_sub_cancel]
  rfl

theorem V_prev (b n j s d : ℕ) (h : s < 128) : (Spec.blk X D S b (n - 1)).V j (s + 128) d = (Spec.blk X D S b n).V j s d := by
  rw [Spec.Blk.V, Spec.Blk.V, if_neg (by omega), if_pos h, Nat.add_sub_cancel]
  rfl

/-- The reference's window of keys: before the first block it has zeros. -/
def key' (X D : ℕ → ℕ → ℝ) (S : ℕ → ℝ) (b n j s d : ℕ) : ℝ := if s < 128 ∧ n = 0 then 0 else (Spec.blk X D S b n).K j s d

def value' (X D : ℕ → ℕ → ℝ) (S : ℕ → ℝ) (b n j s d : ℕ) : ℝ := if s < 128 ∧ n = 0 then 0 else (Spec.blk X D S b n).V j s d

theorem key (A : In x0 x1 x2 X D S) (b : Fin 2) (n : Fin 16) (s : Fin 256) (j : Fin 2) (d : Fin 64) :
    val_main_v79 (F := Ideal) x0 (ix5 b n s j d) = ((key' X D S b n j s d : ℝ) : EReal) := by
  unfold val_main_v79 val_main_v72 val_main_v71 val_main_v70 val_main_cst_3
  pointwise
  unfold key'
  split
  · rename_i hs
    split
    · rename_i hn
      rw [if_pos (show s.val < 128 ∧ n.val = 0 from ⟨hs, by omega⟩)]; exact EReal.coe_zero.symm
    · rename_i hn
      rw [if_neg (show ¬(s.val < 128 ∧ n.val = 0) by omega), ← K_prev b n j s d hs]
      exact key_own A b ⟨n.val - 1, _⟩ ⟨s.val, hs⟩ j d
  · rename_i hs
    rw [if_neg (show ¬(s.val < 128 ∧ n.val = 0) by omega)]
    exact (key_own A b n ⟨s.val - 128, _⟩ j d).trans
      (congrArg (fun u => (((Spec.blk X D S b n).K j u d : ℝ) : EReal)) (show s.val - 128 + 128 = s.val by omega))

theorem value (A : In x0 x1 x2 X D S) (b : Fin 2) (n : Fin 16) (s : Fin 256) (j : Fin 2) (d : Fin 64) :
    val_main_v80 (F := Ideal) x0 (ix5 b n s j d) = ((value' X D S b n j s d : ℝ) : EReal) := by
  unfold val_main_v80 val_main_v77 val_main_v76 val_main_v75 val_main_cst_5
  pointwise
  unfold value'
  split
  · rename_i hs
    split
    · rename_i hn
      rw [if_pos (show s.val < 128 ∧ n.val = 0 from ⟨hs, by omega⟩)]; exact EReal.coe_zero.symm
    · rename_i hn
      rw [if_neg (show ¬(s.val < 128 ∧ n.val = 0) by omega), ← V_prev b n j s d hs]
      exact value_own A b ⟨n.val - 1, _⟩ ⟨s.val, hs⟩ j d
  · rename_i hs
    rw [if_neg (show ¬(s.val < 128 ∧ n.val = 0) by omega)]
    exact (value_own A b n ⟨s.val - 128, _⟩ j d).trans
      (congrArg (fun u => (((Spec.blk X D S b n).V j u d : ℝ) : EReal)) (show s.val - 128 + 128 = s.val by omega))

/-- A seen key of the first block's window is not one of the zeros. -/
theorem key_seen (b n j s t d : ℕ) (h : (Spec.blk X D S b n).sees s t = true) : key' X D S b n j s d = (Spec.blk X D S b n).K j s d := by
  have := of_decide_eq_true h
  exact if_neg (by omega)

theorem value_seen (b n j s t d : ℕ) (h : (Spec.blk X D S b n).sees s t = true) : value' X D S b n j s d = (Spec.blk X D S b n).V j s d := by
  have := of_decide_eq_true h
  exact if_neg (by omega)

/-! ## The mask -/

theorem near_word (t s : ℕ) (ht : t < 128) (hs : s < 256) :
    IntOp.andi (IntOp.cmpi CmpIPredicate.sge (IntOp.subi (IntOp.addi (BitVec.ofNat 32 t) 128#32) (BitVec.ofNat 32 s)) 0#32)
      (IntOp.cmpi CmpIPredicate.slt (IntOp.subi (IntOp.addi (BitVec.ofNat 32 t) 128#32) (BitVec.ofNat 32 s)) 128#32)
      = if t < s ∧ s ≤ t + 128 then 1#1 else 0#1 := by
  have e : (IntOp.subi (IntOp.addi (BitVec.ofNat 32 t) 128#32) (BitVec.ofNat 32 s)).toInt = (t : ℤ) + 128 - s := by
    show (BitVec.ofNat 32 t + 128#32 - BitVec.ofNat 32 s).toInt = _
    rw [BitVec.toInt_eq_toNat_cond]
    simp only [BitVec.toNat_sub, BitVec.toNat_add, BitVec.toNat_ofNat]
    split <;> omega
  rw [WordCmp.cmpi_sge_eq, WordCmp.cmpi_slt_eq, e]
  show BitVec.ofBool (decide ((0 : ℤ) ≤ _)) &&& BitVec.ofBool (decide (_ < (128 : ℤ))) = _
  by_cases h1 : (0 : ℤ) ≤ (t : ℤ) + 128 - s <;> by_cases h2 : (t : ℤ) + 128 - s < 128 <;> simp only [h1, h2, decide_true, decide_false]
  · rw [if_pos (by omega)]; rfl
  · rw [if_neg (by omega)]; rfl
  · rw [if_neg (by omega)]; rfl
  · rw [if_neg (by omega)]; rfl

theorem there_word (n s : ℕ) (hn : n < 16) (hs : s < 256) :
    IntOp.cmpi CmpIPredicate.sge (IntOp.addi (IntOp.subi (IntOp.muli (BitVec.ofNat 32 n) 128#32) 128#32) (BitVec.ofNat 32 s)) 0#32
      = if 128 ≤ s ∨ 0 < n then 1#1 else 0#1 := by
  have e : (IntOp.addi (IntOp.subi (IntOp.muli (BitVec.ofNat 32 n) 128#32) 128#32) (BitVec.ofNat 32 s)).toInt = (n : ℤ) * 128 - 128 + s := by
    show (BitVec.ofNat 32 n * 128#32 - 128#32 + BitVec.ofNat 32 s).toInt = _
    rw [BitVec.toInt_eq_toNat_cond]
    simp only [BitVec.toNat_sub, BitVec.toNat_add, BitVec.toNat_mul, BitVec.toNat_ofNat]
    split <;> omega
  rw [WordCmp.cmpi_sge_eq, e]
  show BitVec.ofBool (decide ((0 : ℤ) ≤ _)) = _
  by_cases h1 : (0 : ℤ) ≤ (n : ℤ) * 128 - 128 + s <;> simp only [h1, decide_true, decide_false]
  · rw [if_pos (by omega)]; rfl
  · rw [if_neg (by omega)]; rfl

theorem and_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem near_at (t : Fin 128) (s : Fin 256) : val_main_v98 (F := Ideal) (ix2 t s) = if t.val < s.val ∧ s.val ≤ t.val + 128 then 1#1 else 0#1 := by
  unfold val_main_v98 val_main_v97 val_main_v96 val_main_v95 val_main_v94 val_main_v93 val_main_v92 val_main_v91 val_main_v90 val_main_v89
    val_main_v88 val_main_v87 val_main_v86 val_main_v85 val_main_c val_main_c_8 val_main_c_9
  pointwise
  exact near_word t s t.isLt s.isLt

theorem there_at (n : Fin 16) (s : Fin 256) : val_main_v111 (F := Ideal) (ix2 n s) = if 128 ≤ s.val ∨ 0 < n.val then 1#1 else 0#1 := by
  unfold val_main_v111 val_main_v110 val_main_v109 val_main_v108 val_main_v107 val_main_v106 val_main_v105 val_main_v104 val_main_v103 val_main_v102
    val_main_v101 val_main_v100 val_main_v99 val_main_c_10 val_main_c_11 val_main_c_12
  pointwise
  exact there_word n s n.isLt s.isLt

theorem mask_at (X D : ℕ → ℕ → ℝ) (S : ℕ → ℝ) (b : Fin 2) (n : Fin 16) (j : Fin 2) (g : Fin 8) (t : Fin 128) (s : Fin 256) :
    val_main_v118_1 (F := Ideal) (ix6 b n j g t s) = if (Spec.blk X D S b n).sees s t = true then 1#1 else 0#1 := by
  unfold val_main_v118_1 val_main_v117 val_main_v116 val_main_v115 val_main_v114 val_main_v113 val_main_v112
  pointwise
  rw [near_at, there_at, and_ite]
  exact if_congr (by simp only [Spec.blk, decide_eq_true_eq, and_assoc]) rfl rfl

/-! ## The logits -/

theorem score_at (A : In x0 x1 x2 X D S) (b : Fin 2) (n : Fin 16) (j : Fin 2) (g : Fin 8) (t : Fin 128) (s : Fin 256)
    (h : (Spec.blk X D S b n).sees s t = true) :
    val_main_v84 (F := Ideal) x0 (ix6 b n j g t s) = (((Spec.blk X D S b n).score (8 * j.val + g.val) s t : ℝ) : EReal) := by
  unfold val_main_v84 val_main_v83 val_main_v82 val_main_v81 val_main_cst_7
  pointwise
  simp only [key A, query A, key_seen _ _ _ _ _ _ h, ← EReal.coe_mul]
  rw [sum_fin_coe 64 fun d => (Spec.blk X D S b n).K j s d * (Spec.blk X D S b n).Q (8 * j.val + g.val) t d]
  rw [bits_eighth, ← EReal.coe_mul, Spec.Blk.score, show (8 * j.val + g.val) / 8 = j.val by omega]

theorem window_at (A : In x0 x1 x2 X D S) (b : Fin 2) (n : Fin 16) (j : Fin 2) (g : Fin 8) (t : Fin 128) (s : Fin 256) :
    val_main_v118_0 (F := Ideal) x0 (ix6 b n j g t s)
      = if (Spec.blk X D S b n).sees s t = true then (((Spec.blk X D S b n).score (8 * j.val + g.val) s t : ℝ) : EReal) else ⊥ := by
  unfold val_main_v118_0 val_main_call0_v2 val_main_call0_v0 val_main_cst_13
  pointwise
  rw [mask_at X D S, select_ite]
  split
  · exact score_at A b n j g t s (by assumption)
  · show Ideal.ofBits .f32 0xFF800000#32 = ⊥
    simp [Ideal.ofBits, Ideal.ieee]

theorem logit (A : In x0 x1 x2 X D S) (b : Fin 2) (n : Fin 16) (j : Fin 2) (g : Fin 8) (t : Fin 128) (s : Fin 257) :
    val_main_v122 (F := Ideal) x0 x1 (ix6 b n j g t s) = if s.val < 256 then
      if (Spec.blk X D S b n).sees s t = true then (((Spec.blk X D S b n).score (8 * j.val + g.val) s t : ℝ) : EReal) else ⊥
      else ((S (8 * j.val + g.val) : ℝ) : EReal) := by
  unfold val_main_v122 val_main_v121 val_main_v120 val_main_v119
  pointwise
  split
  · rename_i hs
    exact window_at A b n j g t ⟨s.val, hs⟩
  · rename_i hs
    exact (A.s ⟨j.val * 8 + g.val, _⟩).trans <| congrArg (fun u => ((S u : ℝ) : EReal)) (show j.val * 8 + g.val = 8 * j.val + g.val by ring)

end Cert.ReferenceIdeal.Value
-- ==== Proof.RefMax.lean ====
/- The reference's largest logit is a real number. -/
module

public import proofs.«01_k».proof.Proof.RefScore

@[expose] public section

set_option maxRecDepth 16384

noncomputable section

namespace Cert.ReferenceIdeal.Value

open Idealize.ShloMosaic Cert.ReferenceIdeal Cert.ReferenceIdeal.Read
open Cert.KernelIdeal.Words (sum_fin_coe bits_zero bits_one bits_eighth select_ite)

variable {x0 : FVec Ideal S4096x6400 .f32} {x1 : FVec Ideal S16 .f32} {x2 : FVec Ideal S4096x1024 .f32} {X D : ℕ → ℕ → ℝ} {S : ℕ → ℝ}

theorem logit_lt_top (A : In x0 x1 x2 X D S) (i : S2x16x2x8x128x257.Idx) : val_main_v122 (F := Ideal) x0 x1 i < ⊤ := by
  rw [eq_ix6 i]
  refine lt_of_eq_of_lt (logit A (i 0) (i 1) (i 2) (i 3) (i 4) (i 5)) ?_
  split
  · split
    · exact EReal.coe_lt_top _
    · exact bot_lt_top
  · exact EReal.coe_lt_top _

/-- The maximum of numbers below infinity, one of which is a real number, is a real number. -/
theorem top_real {s t u : Shape} {axes : List (Fin s.rank)} (x : FVec Ideal s .f32) (init : FVec Ideal u .f32) (h : s.ReducesTo axes t)
    (hu : 0 < u.numel) (k : t.Idx) (p : EReal) (hp : p < ⊤) (hq : ∀ i, (init i : EReal) < ⊤) (hx : ∀ i, (x i : EReal) < ⊤) (i : s.Idx)
    (hi : h.drop i = k) (r : ℝ) (hr : x i = (r : EReal)) :
    ∃ μ : ℝ, max p (Host.reduce (FloatOps.maximumf (F := Ideal) (φ := .f32)) x init h hu k : EReal) = (μ : EReal) := by
  rw [Ideal.maximumf_eq_max, Host.reduce_eq_fold]
  refine ⟨(max p ((Finset.univ.filter fun i => h.drop i = k).fold max (init (Shape.Idx.first hu) : EReal) x)).toReal, (EReal.coe_toReal ?_ ?_).symm⟩
  · exact (max_lt hp ((Finset.fold_max_lt _).2 ⟨hq _, fun i _ => hx i⟩)).ne
  · refine ne_bot_of_le_ne_bot (EReal.coe_ne_bot r) ?_
    rw [← hr]
    exact le_max_of_le_right ((Finset.le_fold_max _).2 (.inr ⟨i, Finset.mem_filter.2 ⟨Finset.mem_univ _, hi⟩, le_rfl⟩))

theorem drop_logit (h : S2x16x2x8x128x257.ReducesTo [5] S2x16x2x8x128) (b : Fin 2) (n : Fin 16) (j : Fin 2) (g : Fin 8) (t : Fin 128) (s : Fin 257) :
    h.drop (ix6 b n j g t s) = ix5 b n j g t := funext fun a => match a with
  | ⟨0, _⟩ => Fin.ext (h.drop_apply_val_of_eq _ 0 0)
  | ⟨1, _⟩ => Fin.ext (h.drop_apply_val_of_eq _ 1 1)
  | ⟨2, _⟩ => Fin.ext (h.drop_apply_val_of_eq _ 2 2)
  | ⟨3, _⟩ => Fin.ext (h.drop_apply_val_of_eq _ 3 3)
  | ⟨4, _⟩ => Fin.ext (h.drop_apply_val_of_eq _ 4 4)

theorem bot_lt (i : S_.Idx) : (constant (F := Ideal) S_ .f32 0xFF800000#32 : S_.Idx → EReal) i < ⊤ := by
  show Ideal.ofBits .f32 0xFF800000#32 < ⊤
  simp [Ideal.ofBits, Ideal.ieee]

theorem sink_logit (A : In x0 x1 x2 X D S) (b : Fin 2) (n : Fin 16) (j : Fin 2) (g : Fin 8) (t : Fin 128) (s : Fin 257) (hs : s.val = 256) :
    val_main_v122 (F := Ideal) x0 x1 (ix6 b n j g t s) = ((S (8 * j.val + g.val) : ℝ) : EReal) :=
  (logit A b n j g t s).trans (if_neg (by rw [hs]; decide))

theorem floor_logit (i : S2x16x2x8x128.Idx) : (val_main_v129 (F := Ideal) i : EReal) < ⊤ := by
  show Ideal.ofBits .f32 0xFF800000#32 < ⊤
  simp [Ideal.ofBits, Ideal.ieee]

theorem max_at {s : Shape} (x y : FVec Ideal s .f32) (i : s.Idx) : maximumf x y i = (max (x i : EReal) (y i) : EReal) := rfl

theorem v130_at (x0 : FVec Ideal S4096x6400 .f32) (x1 : FVec Ideal S16 .f32) (i : S2x16x2x8x128.Idx) : val_main_v130 (F := Ideal) x0 x1 i
    = (max (val_main_v129 (F := Ideal) i : EReal) (val_main_v123 (F := Ideal) x0 x1 i) : EReal) := by
  unfold val_main_v130
  exact max_at _ _ i

theorem v123_eq (x0 : FVec Ideal S4096x6400 .f32) (x1 : FVec Ideal S16 .f32) : val_main_v123 (F := Ideal) x0 x1
    = Host.reduce (FloatOps.maximumf (F := Ideal) (φ := .f32)) (val_main_v122 (F := Ideal) x0 x1) (val_main_cst_14 (F := Ideal))
      Gen.reducesTo_S2x16x2x8x128x257_S2x16x2x8x128_d5 Gen.h_S_ := rfl

theorem top_reduce (A : In x0 x1 x2 X D S) (p : EReal) (hp : p < ⊤) (b : Fin 2) (n : Fin 16) (j : Fin 2) (g : Fin 8) (t : Fin 128) :
    ∃ μ : ℝ, max p (Host.reduce (FloatOps.maximumf (F := Ideal) (φ := .f32)) (val_main_v122 (F := Ideal) x0 x1) (val_main_cst_14 (F := Ideal))
      Gen.reducesTo_S2x16x2x8x128x257_S2x16x2x8x128_d5 Gen.h_S_ (ix5 b n j g t) : EReal) = (μ : EReal) :=
  top_real (val_main_v122 (F := Ideal) x0 x1) (val_main_cst_14 (F := Ideal)) Gen.reducesTo_S2x16x2x8x128x257_S2x16x2x8x128_d5 Gen.h_S_
    (ix5 b n j g t) p hp bot_lt (logit_lt_top A) (ix6 b n j g t ⟨256, by decide⟩) (drop_logit _ b n j g t ⟨256, by decide⟩) _
    (sink_logit A b n j g t ⟨256, by decide⟩ rfl)

/-- The largest logit is a real number. -/
theorem top_logit (A : In x0 x1 x2 X D S) (b : Fin 2) (n : Fin 16) (j : Fin 2) (g : Fin 8) (t : Fin 128) :
    ∃ μ : ℝ, val_main_v130 (F := Ideal) x0 x1 (ix5 b n j g t) = (μ : EReal) := by
  obtain ⟨μ, h⟩ := top_reduce A (val_main_v129 (F := Ideal) (ix5 b n j g t)) (floor_logit _) b n j g t
  exact ⟨μ, (v130_at x0 x1 _).trans ((congrArg (fun y : S2x16x2x8x128.Idx → EReal =>
    max (val_main_v129 (F := Ideal) (ix5 b n j g t) : EReal) (y (ix5 b n j g t))) (v123_eq x0 x1)).trans h)⟩

end Cert.ReferenceIdeal.Value
-- ==== Proof.RefSoft.lean ====
/- The reference's softmax, its output and the gradient of its scores, as real numbers. -/
module

public import proofs.«01_k».proof.Proof.RefMax

@[expose] public section

set_option maxRecDepth 16384

noncomputable section

namespace Cert.ReferenceIdeal.Value

open Idealize.ShloMosaic Cert.ReferenceIdeal Cert.ReferenceIdeal.Read
open Cert.KernelIdeal.Words (sum_fin_coe bits_zero bits_one bits_eighth select_ite)

variable {x0 : FVec Ideal S4096x6400 .f32} {x1 : FVec Ideal S16 .f32} {x2 : FVec Ideal S4096x1024 .f32} {X D : ℕ → ℕ → ℝ} {S : ℕ → ℝ}

/-- The shifted exponentials. -/
theorem exps (A : In x0 x1 x2 X D S) (b : Fin 2) (n : Fin 16) (j : Fin 2) (g : Fin 8) (t : Fin 128) :
    ∃ c : ℝ, c ≠ 0 ∧ ∀ s : Fin 257, val_main_v143 (F := Ideal) x0 x1 (ix6 b n j g t s)
      = (((Spec.blk X D S b n).shifted (8 * j.val + g.val) t c s : ℝ) : EReal) := by
  obtain ⟨μ, hμ⟩ := top_logit A b n j g t
  refine ⟨Real.exp (-μ), (Real.exp_pos _).ne', fun s => ?_⟩
  unfold val_main_v143 val_main_v142 val_main_v141 val_main_v140
  pointwise
  rw [hμ, logit A, Spec.Blk.shifted, Spec.Blk.E]
  split
  · split
    · rw [← EReal.coe_sub, Ideal.exp_coe, sub_eq_add_neg, Real.exp_add]
    · rw [EReal.bot_sub, Ideal.exp_bot, zero_mul, EReal.coe_zero]
  · rw [← EReal.coe_sub, Ideal.exp_coe, sub_eq_add_neg, Real.exp_add]; rfl

theorem drop_last {m : ℕ} (h : (⟨6, ![2, 16, 2, 8, 128, m]⟩ : Shape).ReducesTo [5] S2x16x2x8x128) (b : Fin 2) (n : Fin 16) (j : Fin 2) (g : Fin 8)
    (t : Fin 128) (s : Fin m) : h.drop (ix6 b n j g t s) = ix5 b n j g t := funext fun a => match a with
  | ⟨0, _⟩ => Fin.ext (h.drop_apply_val_of_eq _ 0 0 (show 0 < 5 by decide) rfl)
  | ⟨1, _⟩ => Fin.ext (h.drop_apply_val_of_eq _ 1 1 (show 1 < 5 by decide) rfl)
  | ⟨2, _⟩ => Fin.ext (h.drop_apply_val_of_eq _ 2 2 (show 2 < 5 by decide) rfl)
  | ⟨3, _⟩ => Fin.ext (h.drop_apply_val_of_eq _ 3 3 (show 3 < 5 by decide) rfl)
  | ⟨4, _⟩ => Fin.ext (h.drop_apply_val_of_eq _ 4 4 (show 4 < 5 by decide) rfl)

/-- A sum over the last of six axes. -/
theorem sum_last {m : ℕ} (h : (⟨6, ![2, 16, 2, 8, 128, m]⟩ : Shape).ReducesTo [5] S2x16x2x8x128)
    (x : (⟨6, ![2, 16, 2, 8, 128, m]⟩ : Shape).Idx → EReal) (init : EReal) (b : Fin 2) (n : Fin 16) (j : Fin 2) (g : Fin 8) (t : Fin 128) :
    Ideal.hostReduceAdd h x init (ix5 b n j g t) = init + ∑ s : Fin m, x (ix6 b n j g t s) := by
  unfold Ideal.hostReduceAdd
  rw [Finset.sum_filter_eq_sum_of_fiber _ (fun s : Fin m => ix6 b n j g t s) (fun s s' e => congrFun e 5) (fun i => ⟨fun e => ?_, ?_⟩) x]
  · replace e := (drop_last h (i 0) (i 1) (i 2) (i 3) (i 4) (i 5)).symm.trans ((congrArg h.drop (eq_ix6 i)).symm.trans e)
    refine ⟨i 5, ?_⟩
    rw [← show i 0 = b from congrFun e 0, ← show i 1 = n from congrFun e 1, ← show i 2 = j from congrFun e 2,
      ← show i 3 = g from congrFun e 3, ← show i 4 = t from congrFun e 4]
    exact (eq_ix6 i).symm
  · rintro ⟨s, rfl⟩
    exact drop_last h b n j g t s

theorem dens {b : Fin 2} {n : Fin 16} {j : Fin 2} {g : Fin 8} {t : Fin 128} {c : ℝ}
    (hE : ∀ s : Fin 257, val_main_v143 (F := Ideal) x0 x1 (ix6 b n j g t s)
      = (((Spec.blk X D S b n).shifted (8 * j.val + g.val) t c s : ℝ) : EReal)) :
    val_main_v144 (F := Ideal) x0 x1 (ix5 b n j g t) = (((Spec.blk X D S b n).den (8 * j.val + g.val) t * c : ℝ) : EReal) := by
  unfold val_main_v144 val_main_cst_22
  pointwise
  rw [sum_last, zero_add]
  simp only [hE]
  rw [sum_fin_coe 257 fun s => (Spec.blk X D S b n).shifted (8 * j.val + g.val) t c s, Spec.Blk.sum_shifted]

theorem coe_div (x y : ℝ) (h : y ≠ 0) : Ideal.div (x : EReal) (y : EReal) = ((x / y : ℝ) : EReal) := by
  rw [Ideal.div_coe h, ← EReal.coe_mul, mul_one_div]

theorem den_ne (B : Spec.Blk) (h t : ℕ) {c : ℝ} (hc : c ≠ 0) : B.den h t * c ≠ 0 := mul_ne_zero (B.den_pos h t).ne' hc

/-- The weights. -/
theorem weight (A : In x0 x1 x2 X D S) (b : Fin 2) (n : Fin 16) (j : Fin 2) (g : Fin 8) (t : Fin 128) (s : Fin 256) :
    val_main_v151 (F := Ideal) x0 x1 (ix6 b n j g t s) = (((Spec.blk X D S b n).P (8 * j.val + g.val) s t : ℝ) : EReal) := by
  obtain ⟨c, hc, hE⟩ := exps A b n j g t
  unfold val_main_v151 val_main_v147 val_main_v146 val_main_v145
  pointwise
  rw [dens hE, hE, coe_div _ _ (den_ne _ _ _ hc)]
  exact congrArg _ (Spec.Blk.P_shifted _ _ _ _ hc s.val s.isLt)

/-- The attention's output. -/
theorem att (A : In x0 x1 x2 X D S) (b : Fin 2) (n : Fin 16) (j : Fin 2) (d : Fin 64) (g : Fin 8) (t : Fin 128) :
    val_main_v152 (F := Ideal) x0 x1 (ix6 b n j d g t) = (((Spec.blk X D S b n).O (8 * j.val + g.val) t d : ℝ) : EReal) := by
  unfold val_main_v152
  pointwise
  simp only [value A, weight A, ← EReal.coe_mul]
  rw [sum_fin_coe 256 fun s => value' X D S b n j s d * (Spec.blk X D S b n).P (8 * j.val + g.val) s t]
  refine congrArg _ (Spec.Blk.O_value _ _ _ (fun s d => value' X D S b n j s d) (fun s d hs => ?_) _)
  rw [value_seen _ _ _ _ _ _ hs, show (8 * j.val + g.val) / 8 = j.val by omega]

end Cert.ReferenceIdeal.Value
-- ==== Proof.RefGrad.lean ====
/- The gradients the reference forms per block: of the gates, the scores, the queries, and the window's keys and values. -/
module

public import proofs.«01_k».proof.Proof.RefSoft
public import proofs.«01_k».proof.Proof.Softmax

@[expose] public section

set_option maxRecDepth 16384

noncomputable section

namespace Cert.ReferenceIdeal.Value

open Idealize.ShloMosaic Cert.ReferenceIdeal Cert.ReferenceIdeal.Read
open Cert.KernelIdeal.Words (sum_fin_coe bits_zero bits_one bits_eighth select_ite)

variable {x0 : FVec Ideal S4096x6400 .f32} {x1 : FVec Ideal S16 .f32} {x2 : FVec Ideal S4096x1024 .f32} {X D : ℕ → ℕ → ℝ} {S : ℕ → ℝ}

theorem sum2_coe (m n : ℕ) (f : ℕ → ℕ → ℝ) :
    ∑ i : Fin m, ∑ k : Fin n, ((f i k : ℝ) : EReal) = ((∑ i ∈ Finset.range m, ∑ k ∈ Finset.range n, f i k : ℝ) : EReal) := by
  simp only [fun i : Fin m => sum_fin_coe n (f i)]
  exact sum_fin_coe m fun i => ∑ k ∈ Finset.range n, f i k

/-- The sigmoid of the gates. -/
theorem gate (A : In x0 x1 x2 X D S) (r : Fin 4096) (c : Fin 1024) :
    val_main_v156_2 (F := Ideal) x0 (ix2 r c) = ((1 / (1 + Real.exp (0 - X r (5120 + c))) : ℝ) : EReal) := by
  unfold val_main_v156_2 val_main_call1_v4 val_main_call1_cst_0 val_main_call1_v3 val_main_call1_v2 val_main_call1_cst val_main_call1_v1
    val_main_call1_v0 val_main_v1
  pointwise
  rw [A.x, ← EReal.coe_neg, Ideal.exp_coe, ← EReal.coe_one, ← EReal.coe_add, coe_div _ _ (by positivity), zero_sub]

theorem silu (A : In x0 x1 x2 X D S) (r : Fin 4096) (c : Fin 1024) : val_main_v156_0 (F := Ideal) x0 (ix2 r c)
    = ((X r (5120 + c) * (1 / (1 + Real.exp (0 - X r (5120 + c)))) : ℝ) : EReal) := by
  unfold val_main_v156_0 val_main_v1
  pointwise
  rw [A.x, gate A, ← EReal.coe_mul]

/-- The output's cotangent behind the gates. -/
theorem dO_at (A : In x0 x1 x2 X D S) (b : Fin 2) (n : Fin 16) (j : Fin 2) (d : Fin 64) (g : Fin 8) (t : Fin 128) :
    val_main_v163 (F := Ideal) x0 x2 (ix6 b n j d g t) = (((Spec.blk X D S b n).dO (8 * j.val + g.val) t d : ℝ) : EReal) := by
  unfold val_main_v163 val_main_v162 val_main_v161 val_main_v159
  pointwise
  rw [A.d, silu A, ← EReal.coe_mul]
  show ((D (b.val * 2048 + n.val * 128 + t.val) (j.val * 512 + g.val * 64 + d.val)
    * (X (b.val * 2048 + n.val * 128 + t.val) (5120 + (j.val * 512 + g.val * 64 + d.val)) * (1 / (1 + Real.exp (0
      - X (b.val * 2048 + n.val * 128 + t.val) (5120 + (j.val * 512 + g.val * 64 + d.val)))))) : ℝ) : EReal) = _
  rw [show b.val * 2048 + n.val * 128 + t.val = (16 * b.val + n.val) * 128 + t.val by ring,
    show j.val * 512 + g.val * 64 + d.val = 64 * (8 * j.val + g.val) + d.val by ring]
  rfl

/-- The weights' cotangent. -/
theorem gw_at (A : In x0 x1 x2 X D S) (b : Fin 2) (n : Fin 16) (j : Fin 2) (g : Fin 8) (t : Fin 128) (s : Fin 256) :
    val_main_v164 (F := Ideal) x0 x2 (ix6 b n j g t s)
      = (((Spec.blk X D S b n).gw (8 * j.val + g.val) t (value' X D S b n j) s : ℝ) : EReal) := by
  unfold val_main_v164
  pointwise
  simp only [dO_at A, value A, ← EReal.coe_mul]
  exact sum_fin_coe 64 fun d => (Spec.blk X D S b n).dO (8 * j.val + g.val) t d * value' X D S b n j s d

theorem gw0_at (A : In x0 x1 x2 X D S) (b : Fin 2) (n : Fin 16) (j : Fin 2) (g : Fin 8) (t : Fin 128) (s : Fin 257) :
    val_main_v167 (F := Ideal) x0 x2 (ix6 b n j g t s)
      = (((Spec.blk X D S b n).gw0 (8 * j.val + g.val) t (value' X D S b n j) s : ℝ) : EReal) := by
  unfold val_main_v167 val_main_cst_24
  pointwise
  unfold Spec.Blk.gw0
  split
  · exact gw_at A b n j g t ⟨s.val, by assumption⟩
  · exact EReal.coe_zero.symm

theorem seen_value (b n j g t s d : ℕ) (hg : g < 8) (h : (Spec.blk X D S b n).sees s t = true) :
    value' X D S b n j s d = (Spec.blk X D S b n).V ((8 * j + g) / 8) s d := by
  rw [value_seen _ _ _ _ _ _ h, show (8 * j + g) / 8 = j by omega]

/-- The logits' gradient, in the shifted exponentials. -/
theorem dlogit (A : In x0 x1 x2 X D S) {b : Fin 2} {n : Fin 16} {j : Fin 2} {g : Fin 8} {t : Fin 128} {c : ℝ} (hc : c ≠ 0)
    (hE : ∀ s : Fin 257, val_main_v143 (F := Ideal) x0 x1 (ix6 b n j g t s)
      = (((Spec.blk X D S b n).shifted (8 * j.val + g.val) t c s : ℝ) : EReal)) (s : Fin 257) :
    val_main_v179 (F := Ideal) x0 x1 x2 (ix6 b n j g t s)
      = ((((Spec.blk X D S b n).gw0 (8 * j.val + g.val) t (value' X D S b n j) s / ((Spec.blk X D S b n).den (8 * j.val + g.val) t * c)
          + -((Spec.blk X D S b n).delta (8 * j.val + g.val) t / ((Spec.blk X D S b n).den (8 * j.val + g.val) t * c)))
        * (Spec.blk X D S b n).shifted (8 * j.val + g.val) t c s : ℝ) : EReal) := by
  have hs : val_main_v171 (F := Ideal) x0 x1 x2 (ix5 b n j g t)
      = (((Spec.blk X D S b n).delta (8 * j.val + g.val) t / ((Spec.blk X D S b n).den (8 * j.val + g.val) t * c) : ℝ) : EReal) := by
    unfold val_main_v171 val_main_cst_25
    pointwise
    rw [sum_last, zero_add]
    unfold val_main_v170 val_main_v169 val_main_v168 val_main_v150 val_main_v149 val_main_cst_23 val_main_v148 val_main_v145
    pointwise
    simp only [gw0_at A, dens hE, hE, ← EReal.coe_one, ← EReal.coe_mul]
    rw [coe_div _ _ (mul_ne_zero (den_ne _ _ _ hc) (den_ne _ _ _ hc))]
    simp only [← EReal.coe_mul]
    rw [sum_fin_coe 257 fun s => (Spec.blk X D S b n).gw0 (8 * j.val + g.val) t (value' X D S b n j) s
      * (1 / ((Spec.blk X D S b n).den (8 * j.val + g.val) t * c * ((Spec.blk X D S b n).den (8 * j.val + g.val) t * c)))
      * (Spec.blk X D S b n).shifted (8 * j.val + g.val) t c s]
    exact congrArg _ (Spec.Blk.sum_gw0 _ _ _ _ (fun s d h => seen_value b n j g t s d g.isLt h) c hc)
  have hn : val_main_v176 (F := Ideal) x0 x1 x2 (ix5 b n j g t)
      = ((-((Spec.blk X D S b n).delta (8 * j.val + g.val) t / ((Spec.blk X D S b n).den (8 * j.val + g.val) t * c)) : ℝ) : EReal) := by
    unfold val_main_v176 val_main_cst_26
    pointwise
    rw [sum_last, zero_add, Fin.sum_univ_one]
    unfold val_main_v173 val_main_v172
    pointwise
    rw [hs, ← EReal.coe_neg]
  unfold val_main_v179 val_main_v178 val_main_v177 val_main_v175 val_main_v174 val_main_v145
  pointwise
  rw [gw0_at A, dens hE, hE, hn, coe_div _ _ (den_ne _ _ _ hc), ← EReal.coe_add, ← EReal.coe_mul]

/-- The scores' gradient. -/
theorem dS_at (A : In x0 x1 x2 X D S) (b : Fin 2) (n : Fin 16) (j : Fin 2) (g : Fin 8) (t : Fin 128) (s : Fin 256) :
    val_main_v188 (F := Ideal) x0 x1 x2 (ix6 b n j g t s) = (((Spec.blk X D S b n).dS (8 * j.val + g.val) s t : ℝ) : EReal) := by
  obtain ⟨c, hc, hE⟩ := exps A b n j g t
  unfold val_main_v188 val_main_v187 val_main_cst_29 val_main_v186 val_main_call3_v0 val_main_call3_cst val_main_v180
  pointwise
  rw [mask_at X D S, select_ite, dlogit A hc hE, bits_eighth]
  rw [Spec.Blk.gl_window _ _ _ _ c hc s.val s.isLt,
    ← Spec.Blk.dS_value _ _ _ (value' X D S b n j) (fun s d h => seen_value b n j g t s d g.isLt h), EReal.coe_mul]
  split
  · rfl
  · rw [EReal.coe_zero, zero_mul]

/-- The sinks' gradient, query for query. -/
theorem dsink_at (A : In x0 x1 x2 X D S) (b : Fin 2) (n : Fin 16) (j : Fin 2) (g : Fin 8) (t : Fin 128) :
    val_main_v181 (F := Ideal) x0 x1 x2 (ix6 b n j g t 0)
      = ((-((Spec.blk X D S b n).Ps (8 * j.val + g.val) t * (Spec.blk X D S b n).delta (8 * j.val + g.val) t) : ℝ) : EReal) := by
  obtain ⟨c, hc, hE⟩ := exps A b n j g t
  unfold val_main_v181
  pointwise
  exact (dlogit A hc hE ⟨256, by omega⟩).trans (congrArg _ (Spec.Blk.gl_sink _ _ _ _ c hc))

/-- The queries' gradient before the rotary embedding. -/
theorem dQr_at (A : In x0 x1 x2 X D S) (b : Fin 2) (n : Fin 16) (j : Fin 2) (t : Fin 128) (g : Fin 8) (d : Fin 64) :
    val_main_v190 (F := Ideal) x0 x1 x2 (ix6 b n j t g d) = (((Spec.blk X D S b n).dQr (8 * j.val + g.val) t d : ℝ) : EReal) := by
  unfold val_main_v190 val_main_v189
  pointwise
  simp only [dS_at A, key A, ← EReal.coe_mul]
  rw [sum_fin_coe 256 fun s => (Spec.blk X D S b n).dS (8 * j.val + g.val) s t * key' X D S b n j s d]
  refine congrArg _ (Spec.Blk.dQr_value _ _ _ (key' X D S b n j) (fun s d h => ?_) _)
  rw [key_seen _ _ _ _ _ _ h, show (8 * j.val + g.val) / 8 = j.val by omega]

/-- The window's keys' gradient before the rotary embedding. -/
theorem dK_at (A : In x0 x1 x2 X D S) (b : Fin 2) (n : Fin 16) (s : Fin 256) (j : Fin 2) (d : Fin 64) :
    val_main_v193 (F := Ideal) x0 x1 x2 (ix5 b n s j d) = (((Spec.blk X D S b n).dK j s d : ℝ) : EReal) := by
  unfold val_main_v193 val_main_v192 val_main_v189
  pointwise
  simp only [dS_at A, query A, ← EReal.coe_mul]
  rw [sum2_coe 128 8 fun t g => (Spec.blk X D S b n).dS (8 * j.val + g) s t * (Spec.blk X D S b n).Q (8 * j.val + g) t d, Finset.sum_comm]
  rfl

/-- The window's values' gradient. -/
theorem dV_at (A : In x0 x1 x2 X D S) (b : Fin 2) (n : Fin 16) (s : Fin 256) (j : Fin 2) (d : Fin 64) :
    val_main_v166 (F := Ideal) x0 x1 x2 (ix5 b n s j d) = (((Spec.blk X D S b n).dV j s d : ℝ) : EReal) := by
  unfold val_main_v166 val_main_v165
  pointwise
  simp only [dO_at A, weight A, ← EReal.coe_mul]
  rw [sum2_coe 8 128 fun g t => (Spec.blk X D S b n).dO (8 * j.val + g) t d * (Spec.blk X D S b n).P (8 * j.val + g) s t]
  exact congrArg _ (Finset.sum_congr rfl fun g _ => Finset.sum_congr rfl fun t _ => mul_comm _ _)

/-- The gates' gradient. -/
theorem dz_at (A : In x0 x1 x2 X D S) (r : Fin 4096) (c : Fin 1024) :
    val_main_v160 (F := Ideal) x0 x1 x2 (ix2 r c) = ((Spec.dz X D S r c : ℝ) : EReal) := by
  unfold val_main_v160 val_main_call2_v2 val_main_call2_v1 val_main_call2_v0 val_main_v158 val_main_v156_1 val_main_call1_v7 val_main_call1_v6
    val_main_call1_cst_1 val_main_v155 val_main_v154 val_main_v153 val_main_v1
  pointwise
  have hr : (16 * (r.val / 2048) + r.val / 128 % 16) * 128 + r.val % 128 = r.val := by omega
  have hc : 64 * (c.val / 64) + c.val % 64 = c.val := by omega
  have hh : 8 * (c.val / 512) + c.val / 64 % 8 = c.val / 64 := by omega
  rw [att A, gate A, A.d, A.x, ← EReal.coe_one]
  simp only [← EReal.coe_mul, ← EReal.coe_sub, ← EReal.coe_add]
  unfold Spec.dz Spec.Blk.dZ Spec.Blk.sig
  rw [show (Spec.blk X D S (r.val / 2048) (r.val / 128 % 16)).z (c.val / 64) (r.val % 128) (c.val % 64) = X r (5120 + c)
      from congrArg₂ X hr (congrArg (5120 + ·) hc),
    show (Spec.blk X D S (r.val / 2048) (r.val / 128 % 16)).g (c.val / 64) (r.val % 128) (c.val % 64) = D r c from congrArg₂ D hr hc, hh]
  refine congrArg _ ?_
  ring

end Cert.ReferenceIdeal.Value
-- ==== Proof.RefRot.lean ====
/- The rotary embedding's transpose in the reference, and the gradients of the queries, the keys and the values as it returns them. -/
module

public import proofs.«01_k».proof.Proof.RefGrad

@[expose] public section

set_option maxRecDepth 16384

noncomputable section

namespace Cert.ReferenceIdeal.Value

open Idealize.ShloMosaic Cert.ReferenceIdeal Cert.ReferenceIdeal.Read

variable {x0 : FVec Ideal S4096x6400 .f32} {x1 : FVec Ideal S16 .f32} {x2 : FVec Ideal S4096x1024 .f32} {X D : ℕ → ℕ → ℝ} {S : ℕ → ℝ}

/-- The transposed embedding, half for half. -/
theorem ropeT_halves (p : ℕ) (x : ℕ → ℝ) (d : ℕ) (hd : d < 64) : Spec.ropeT (Spec.tcos p) (Spec.tsin p) x d =
    if d < 32 then x (32 + d) * Real.sin (Spec.ang p d) + x d * Real.cos (Spec.ang p d)
    else x (32 + (d - 32)) * Real.cos (Spec.ang p (d - 32)) + -x (d - 32) * Real.sin (Spec.ang p (d - 32)) := by
  unfold Spec.ropeT Spec.tcos Spec.tsin Spec.sw
  by_cases h : d < 32
  · rw [if_pos h, if_pos (show d % 64 < 32 by omega), if_neg (show ¬d + 32 < 32 by omega), Nat.mod_eq_of_lt h, Nat.add_sub_cancel, Nat.add_comm 32 d]
    ring
  · rw [if_neg h, if_neg (show ¬d % 64 < 32 by omega), if_pos (show d - 32 < 32 by omega), show d % 32 = d - 32 by omega,
      show 32 + (d - 32) = d by omega]
    ring

/-- Two halves padded with zeros, added. -/
theorem halves (p : Prop) [Decidable p] (x y : ℝ) : (if p then 0 else y) + (if p then x else 0) = if p then x else y := by
  split <;> simp

/-! Operations lane by lane. -/

theorem neg_at {s : Shape} (y : s.Idx → EReal) (i : s.Idx) : Host.negf (F := Ideal) (φ := .f32) (s := s) y i = -y i := rfl

theorem mul_at {s : Shape} (y z : s.Idx → EReal) (i : s.Idx) : mulf (F := Ideal) (φ := .f32) (s := s) y z i = y i * z i := rfl

theorem add_at {s : Shape} (y z : s.Idx → EReal) (i : s.Idx) : addf (F := Ideal) (φ := .f32) (s := s) y z i = y i + z i := rfl

theorem ropeT_add (c s x y : ℕ → ℝ) (d : ℕ) : Spec.ropeT c s (fun e => x e + y e) d = Spec.ropeT c s x d + Spec.ropeT c s y d := by
  unfold Spec.ropeT
  ring

theorem back_q (x : ℕ → ℝ) (i : Fin 2) (p : Fin 2048) (h : Fin 16)
    (hx : ∀ d : Fin 64, val_main_v208 (F := Ideal) x0 x1 x2 (ix4 i p h d) = ((x d : ℝ) : EReal)) (d : Fin 64) :
    val_main_v242 (F := Ideal) x0 x1 x2 (ix4 i p h d) = ((Spec.ropeT (Spec.tcos p) (Spec.tsin p) x d : ℝ) : EReal) := by
  have cos : ∀ e : Fin 32, val_main_v231 (F := Ideal) (ix4 i p h e) = ((Real.cos (Spec.ang p e) : ℝ) : EReal) := fun e => by
    unfold val_main_v231
    pointwise
    exact cos_q _ _ _ _
  have sin : ∀ e : Fin 32, val_main_v229 (F := Ideal) (ix4 i p h e) = ((Real.sin (Spec.ang p e) : ℝ) : EReal) := fun e => by
    unfold val_main_v229
    pointwise
    exact sin_q _ _ _ _
  have low : ∀ e : Fin 32, val_main_v227 (F := Ideal) x0 x1 x2 (ix4 i p h e) = ((x e : ℝ) : EReal) := fun e => by
    unfold val_main_v227
    pointwise
    exact hx _
  have high : ∀ e : Fin 32, val_main_v228 (F := Ideal) x0 x1 x2 (ix4 i p h e) = ((x (32 + e) : ℝ) : EReal) := fun e => by
    unfold val_main_v228
    pointwise
    exact hx _
  have hh : ∀ e : Fin 32, val_main_v236 (F := Ideal) x0 x1 x2 (ix4 i p h e)
      = ((x (32 + e) * Real.cos (Spec.ang p e) + -x e * Real.sin (Spec.ang p e) : ℝ) : EReal) := fun e => by
    unfold val_main_v236 val_main_v232 val_main_v235 val_main_v233
    rw [add_at, mul_at, mul_at, neg_at, high, low, cos, show val_main_v234 (F := Ideal) (ix4 i p h e) = _ from sin e, ← EReal.coe_neg,
      ← EReal.coe_mul, ← EReal.coe_mul, ← EReal.coe_add]
  have hl : ∀ e : Fin 32, val_main_v239 (F := Ideal) x0 x1 x2 (ix4 i p h e)
      = ((x (32 + e) * Real.sin (Spec.ang p e) + x e * Real.cos (Spec.ang p e) : ℝ) : EReal) := fun e => by
    unfold val_main_v239 val_main_v230 val_main_v238
    rw [add_at, mul_at, mul_at, high, low, sin, show val_main_v237 (F := Ideal) (ix4 i p h e) = _ from cos e,
      ← EReal.coe_mul, ← EReal.coe_mul, ← EReal.coe_add]
  have h₂ : val_main_v240 (F := Ideal) x0 x1 x2 (ix4 i p h d) = ((if d.val < 32 then 0
      else x (32 + (d.val - 32)) * Real.cos (Spec.ang p (d.val - 32)) + -x (d.val - 32) * Real.sin (Spec.ang p (d.val - 32)) : ℝ) : EReal) := by
    unfold val_main_v240 val_main_cst_34
    pointwise
    by_cases h : d.val < 32
    · rw [if_pos h, dif_neg (by omega), EReal.coe_zero]
    · rw [if_neg h, dif_pos (by omega)]
      exact hh ⟨d.val - 32, by omega⟩
  have h₁ : val_main_v241 (F := Ideal) x0 x1 x2 (ix4 i p h d) = ((if d.val < 32 then
      x (32 + d.val) * Real.sin (Spec.ang p d.val) + x d.val * Real.cos (Spec.ang p d.val) else 0 : ℝ) : EReal) := by
    unfold val_main_v241 val_main_cst_35
    pointwise
    by_cases h : d.val < 32
    · rw [if_pos h, dif_pos h]
      exact hl ⟨d.val, h⟩
    · rw [if_neg h, dif_neg h, EReal.coe_zero]
  rw [ropeT_halves _ _ _ d.isLt]
  unfold val_main_v242
  rw [add_at, h₁, h₂, ← EReal.coe_add, halves]

theorem back_k (x : ℕ → ℝ) (i : Fin 2) (p : Fin 2048) (j : Fin 2)
    (hx : ∀ d : Fin 64, val_main_v207 (F := Ideal) x0 x1 x2 (ix4 i p j d) = ((x d : ℝ) : EReal)) (d : Fin 64) :
    val_main_v225 (F := Ideal) x0 x1 x2 (ix4 i p j d) = ((Spec.ropeT (Spec.tcos p) (Spec.tsin p) x d : ℝ) : EReal) := by
  have cos : ∀ e : Fin 32, val_main_v214 (F := Ideal) (ix4 i p j e) = ((Real.cos (Spec.ang p e) : ℝ) : EReal) := fun e => by
    unfold val_main_v214
    pointwise
    exact cos_k _ _ _ _
  have sin : ∀ e : Fin 32, val_main_v212 (F := Ideal) (ix4 i p j e) = ((Real.sin (Spec.ang p e) : ℝ) : EReal) := fun e => by
    unfold val_main_v212
    pointwise
    exact sin_k _ _ _ _
  have low : ∀ e : Fin 32, val_main_v210 (F := Ideal) x0 x1 x2 (ix4 i p j e) = ((x e : ℝ) : EReal) := fun e => by
    unfold val_main_v210
    pointwise
    exact hx _
  have high : ∀ e : Fin 32, val_main_v211 (F := Ideal) x0 x1 x2 (ix4 i p j e) = ((x (32 + e) : ℝ) : EReal) := fun e => by
    unfold val_main_v211
    pointwise
    exact hx _
  have hh : ∀ e : Fin 32, val_main_v219 (F := Ideal) x0 x1 x2 (ix4 i p j e)
      = ((x (32 + e) * Real.cos (Spec.ang p e) + -x e * Real.sin (Spec.ang p e) : ℝ) : EReal) := fun e => by
    unfold val_main_v219 val_main_v215 val_main_v218 val_main_v216
    rw [add_at, mul_at, mul_at, neg_at, high, low, cos, show val_main_v217 (F := Ideal) (ix4 i p j e) = _ from sin e, ← EReal.coe_neg,
      ← EReal.coe_mul, ← EReal.coe_mul, ← EReal.coe_add]
  have hl : ∀ e : Fin 32, val_main_v222 (F := Ideal) x0 x1 x2 (ix4 i p j e)
      = ((x (32 + e) * Real.sin (Spec.ang p e) + x e * Real.cos (Spec.ang p e) : ℝ) : EReal) := fun e => by
    unfold val_main_v222 val_main_v213 val_main_v221
    rw [add_at, mul_at, mul_at, high, low, sin, show val_main_v220 (F := Ideal) (ix4 i p j e) = _ from cos e,
      ← EReal.coe_mul, ← EReal.coe_mul, ← EReal.coe_add]
  have h₂ : val_main_v223 (F := Ideal) x0 x1 x2 (ix4 i p j d) = ((if d.val < 32 then 0
      else x (32 + (d.val - 32)) * Real.cos (Spec.ang p (d.val - 32)) + -x (d.val - 32) * Real.sin (Spec.ang p (d.val - 32)) : ℝ) : EReal) := by
    unfold val_main_v223 val_main_cst_32
    pointwise
    by_cases h : d.val < 32
    · rw [if_pos h, dif_neg (by omega), EReal.coe_zero]
    · rw [if_neg h, dif_pos (by omega)]
      exact hh ⟨d.val - 32, by omega⟩
  have h₁ : val_main_v224 (F := Ideal) x0 x1 x2 (ix4 i p j d) = ((if d.val < 32 then
      x (32 + d.val) * Real.sin (Spec.ang p d.val) + x d.val * Real.cos (Spec.ang p d.val) else 0 : ℝ) : EReal) := by
    unfold val_main_v224 val_main_cst_33
    pointwise
    by_cases h : d.val < 32
    · rw [if_pos h, dif_pos h]
      exact hl ⟨d.val, h⟩
    · rw [if_neg h, dif_neg h, EReal.coe_zero]
  rw [ropeT_halves _ _ _ d.isLt]
  unfold val_main_v225
  rw [add_at, h₁, h₂, ← EReal.coe_add, halves]

/-- The queries' gradient as the reference returns it. -/
theorem dq_at (A : In x0 x1 x2 X D S) (r : Fin 4096) (c : Fin 1024) :
    val_main_v243 (F := Ideal) x0 x1 x2 (ix2 r c) = ((Spec.dq X D S r c : ℝ) : EReal) := by
  unfold val_main_v243
  pointwise
  refine (back_q (fun d => (Spec.blk X D S (r.val / 2048) (r.val / 128 % 16)).dQr (c.val / 64) (r.val % 128) d) _ _ _ (fun d => ?_) _).trans ?_
  · unfold val_main_v208 val_main_v191
    pointwise
    rw [dQr_at A]
    show (((Spec.blk X D S (r.val / 2048) (r.val % 2048 / 128)).dQr (8 * (c.val / 64 / 8) + c.val / 64 % 8) (r.val % 2048 % 128) d.val : ℝ)
      : EReal) = _
    rw [show r.val % 2048 / 128 = r.val / 128 % 16 by omega, show 8 * (c.val / 64 / 8) + c.val / 64 % 8 = c.val / 64 by omega,
      show r.val % 2048 % 128 = r.val % 128 by omega]
  · show ((Spec.ropeT (Spec.tcos (r.val % 2048)) (Spec.tsin (r.val % 2048)) _ (c.val % 64) : ℝ) : EReal) = _
    rw [show r.val % 2048 = r.val / 128 % 16 * 128 + r.val % 128 by omega]
    rfl

/-- What a block's own keys get: from its own queries and from the next block's. -/
def dK' (X D : ℕ → ℕ → ℝ) (S : ℕ → ℝ) (b n j t d : ℕ) : ℝ :=
  (Spec.blk X D S b n).dK j (128 + t) d + if n < 15 then (Spec.blk X D S b (n + 1)).dK j t d else 0

def dV' (X D : ℕ → ℕ → ℝ) (S : ℕ → ℝ) (b n j t d : ℕ) : ℝ :=
  (Spec.blk X D S b n).dV j (128 + t) d + if n < 15 then (Spec.blk X D S b (n + 1)).dV j t d else 0

theorem dK_sum (A : In x0 x1 x2 X D S) (b : Fin 2) (n : Fin 16) (t : Fin 128) (j : Fin 2) (d : Fin 64) :
    val_main_v205 (F := Ideal) x0 x1 x2 (ix5 b n t j d) = ((dK' X D S b n j t d : ℝ) : EReal) := by
  unfold val_main_v205 val_main_v204 val_main_v203 val_main_v197 val_main_v196 val_main_cst_31 dK'
  pointwise
  simp only [dK_at A]
  rw [EReal.coe_add, Nat.add_comm n.val 1]
  by_cases h : n.val < 15
  · rw [dif_pos h, if_pos h]
  · rw [dif_neg h, if_neg h, EReal.coe_zero]

theorem dV_sum (A : In x0 x1 x2 X D S) (b : Fin 2) (n : Fin 16) (t : Fin 128) (j : Fin 2) (d : Fin 64) :
    val_main_v201 (F := Ideal) x0 x1 x2 (ix5 b n t j d) = ((dV' X D S b n j t d : ℝ) : EReal) := by
  unfold val_main_v201 val_main_v200 val_main_v199 val_main_v195 val_main_v194 val_main_cst_30 dV'
  pointwise
  simp only [dV_at A]
  rw [EReal.coe_add, Nat.add_comm n.val 1]
  by_cases h : n.val < 15
  · rw [dif_pos h, if_pos h]
  · rw [dif_neg h, if_neg h, EReal.coe_zero]

end Cert.ReferenceIdeal.Value
-- ==== Proof.RefSink.lean ====
/- The sinks' gradient as the reference returns it: a sum over sequences, blocks and queries. -/
module

public import proofs.«01_k».proof.Proof.RefGrad

@[expose] public section

set_option maxRecDepth 16384

noncomputable section

namespace Cert.ReferenceIdeal.Value

open Idealize.ShloMosaic Cert.ReferenceIdeal Cert.ReferenceIdeal.Read
open Cert.KernelIdeal.Words (sum_fin_coe)

variable {x0 : FVec Ideal S4096x6400 .f32} {x1 : FVec Ideal S16 .f32} {x2 : FVec Ideal S4096x1024 .f32} {X D : ℕ → ℕ → ℝ} {S : ℕ → ℝ}

theorem drop_heads {B N T : ℕ} (h : (⟨6, ![B, N, 2, 8, T, 1]⟩ : Shape).ReducesTo [0, 1, 4, 5] S2x8) (b : Fin B) (n : Fin N) (j : Fin 2)
    (g : Fin 8) (t : Fin T) (z : Fin 1) : h.drop (ix6 b n j g t z) = ix2 j g := funext fun a => match a with
  | ⟨0, _⟩ => Fin.ext (h.drop_apply_val_of_eq _ 0 2 (show 0 < 2 by decide) rfl)
  | ⟨1, _⟩ => Fin.ext (h.drop_apply_val_of_eq _ 1 3 (show 1 < 2 by decide) rfl)

/-- A sum over everything but the heads. -/
theorem sum_heads {B N T : ℕ} (h : (⟨6, ![B, N, 2, 8, T, 1]⟩ : Shape).ReducesTo [0, 1, 4, 5] S2x8)
    (x : (⟨6, ![B, N, 2, 8, T, 1]⟩ : Shape).Idx → EReal) (init : EReal) (j : Fin 2) (g : Fin 8) :
    Ideal.hostReduceAdd h x init (ix2 j g) = init + ∑ b : Fin B, ∑ n : Fin N, ∑ t : Fin T, x (ix6 b n j g t 0) := by
  unfold Ideal.hostReduceAdd
  rw [Finset.sum_filter_eq_sum_of_fiber _ (fun u : Fin B × Fin N × Fin T => ix6 u.1 u.2.1 j g u.2.2 (0 : Fin 1))
    (fun u v e => Prod.ext (congrFun e 0) (Prod.ext (congrFun e 1) (congrFun e 4))) (fun i => ⟨fun e => ?_, ?_⟩) x]
  · rw [Fintype.sum_prod_type]
    simp only [Fintype.sum_prod_type]
  · replace e := (drop_heads h (i 0) (i 1) (i 2) (i 3) (i 4) (i 5)).symm.trans ((congrArg h.drop (eq_ix6 i)).symm.trans e)
    refine ⟨(i 0, i 1, i 4), ?_⟩
    rw [← show i 2 = j from congrFun e 0, ← show i 3 = g from congrFun e 1, ← show i 5 = (0 : Fin 1) from Subsingleton.elim (α := Fin 1) _ _]
    exact (eq_ix6 i).symm
  · rintro ⟨u, rfl⟩
    exact drop_heads h u.1 u.2.1 j g u.2.2 0

theorem sum3_coe (f : ℕ → ℕ → ℕ → ℝ) : ∑ b : Fin 2, ∑ n : Fin 16, ∑ t : Fin 128, ((f b n t : ℝ) : EReal)
    = ((∑ b ∈ Finset.range 2, ∑ n ∈ Finset.range 16, ∑ t ∈ Finset.range 128, f b n t : ℝ) : EReal) := by
  simp only [fun (b : Fin 2) (n : Fin 16) => sum_fin_coe 128 (f b n)]
  exact sum2_coe 2 16 fun b n => ∑ t ∈ Finset.range 128, f b n t

/-- The blocks of both sequences, one after the other. -/
theorem sum_seq (f : ℕ → ℕ → ℝ) : ∑ b ∈ Finset.range 2, ∑ n ∈ Finset.range 16, f b n = ∑ u ∈ Finset.range 32, f (u / 16) (u % 16) := by
  rw [Finset.sum_range_succ, Finset.sum_range_one, ← Finset.sum_range_add_sum_Ico (fun u => f (u / 16) (u % 16)) (show 16 ≤ 32 by omega),
    Finset.sum_Ico_eq_sum_range]
  refine congrArg₂ _ (Finset.sum_congr rfl fun n hn => ?_) (Finset.sum_congr rfl fun n hn => ?_)
  · have := Finset.mem_range.1 hn
    rw [show n / 16 = 0 by omega, show n % 16 = n by omega]
  · have : n < 16 := Finset.mem_range.1 hn
    rw [show (16 + n) / 16 = 1 by omega, show (16 + n) % 16 = n by omega]

theorem sink_at (A : In x0 x1 x2 X D S) (h : Fin 16) : val_main_v185 (F := Ideal) x0 x1 x2 (ix1 h) = ((Spec.dsink X D S h : ℝ) : EReal) := by
  have hs : ∀ (j : Fin 2) (g : Fin 8), val_main_v182 (F := Ideal) x0 x1 x2 (ix2 j g) = ((Spec.dsink X D S (8 * j.val + g.val) : ℝ) : EReal) := by
    intro j g
    unfold val_main_v182 val_main_cst_27
    pointwise
    rw [sum_heads, zero_add]
    simp only [dsink_at A]
    rw [sum3_coe fun b n t => -((Spec.blk X D S b n).Ps (8 * j.val + g.val) t * (Spec.blk X D S b n).delta (8 * j.val + g.val) t)]
    rw [Spec.dsink, ← sum_seq fun b n => (Spec.blk X D S b n).dSk (8 * j.val + g.val)]
    refine congrArg _ (Finset.sum_congr rfl fun b _ => Finset.sum_congr rfl fun n _ => ?_)
    rw [Spec.Blk.dSk, Finset.sum_neg_distrib, zero_sub]
  unfold val_main_v185
  pointwise
  unfold val_main_v184 val_main_cst_28
  pointwise
  rw [sum_heads, zero_add, Fin.sum_univ_one, Fin.sum_univ_one, Fin.sum_univ_one]
  unfold val_main_v183
  pointwise
  rw [hs]
  exact congrArg (fun h => ((Spec.dsink X D S h : ℝ) : EReal)) (show 8 * (h.val / 8) + h.val % 8 = h.val by omega)

end Cert.ReferenceIdeal.Value
-- ==== Proof.RefOut.lean ====
/- The gradient of the keys and values as the reference returns it, and its four results together. -/
module

public import proofs.«01_k».proof.Proof.RefRot
public import proofs.«01_k».proof.Proof.RefSink
public import proofs.«01_k».proof.Proof.Out

@[expose] public section

set_option maxRecDepth 16384

noncomputable section

namespace Cert.ReferenceIdeal.Value

open Idealize.ShloMosaic Cert.ReferenceIdeal Cert.ReferenceIdeal.Read

variable {x0 : FVec Ideal S4096x6400 .f32} {x1 : FVec Ideal S16 .f32} {x2 : FVec Ideal S4096x1024 .f32} {X D : ℕ → ℕ → ℝ} {S : ℕ → ℝ}

/-- Whether a block has a next one. -/
theorem last_block (n : ℕ) (hn : n < 16) (x : ℝ) : (if n < 15 then x else 0) = if n = 15 then 0 else x := by
  by_cases h : n = 15
  · rw [if_pos h, if_neg (by omega)]
  · rw [if_neg h, if_pos (by omega)]

/-- The transposed embedding of a block's rows. -/
theorem turned (X D : ℕ → ℕ → ℝ) (S : ℕ → ℝ) (b n j t d : ℕ) (hn : n < 16) :
    Spec.ropeT (Spec.tcos (n * 128 + t)) (Spec.tsin (n * 128 + t)) (dK' X D S b n j t) d
      = (Spec.blk X D S b n).dKown j t d + if n = 15 then 0 else (Spec.blk X D S b (n + 1)).dKprev j t d := by
  rw [← last_block n hn]
  show Spec.ropeT _ _ (fun e => (Spec.blk X D S b n).dK j (128 + t) e + if n < 15 then (Spec.blk X D S b (n + 1)).dK j t e else 0) d = _
  rw [ropeT_add]
  refine congrArg₂ _ rfl ?_
  by_cases h : n < 15
  · rw [if_pos h]
    simp only [if_pos h]
    rfl
  · rw [if_neg h]
    simp only [if_neg h]
    unfold Spec.ropeT
    rw [zero_mul, zero_mul, add_zero]

theorem dk_at (A : In x0 x1 x2 X D S) (r : Fin 4096) (c : Fin 128) : val_main_v226 (F := Ideal) x0 x1 x2 (ix2 r c)
    = (((Spec.blk X D S (r.val / 2048) (r.val / 128 % 16)).dKown (c.val / 64) (r.val % 128) (c.val % 64)
      + if r.val / 128 % 16 = 15 then 0
        else (Spec.blk X D S (r.val / 2048) (r.val / 128 % 16 + 1)).dKprev (c.val / 64) (r.val % 128) (c.val % 64) : ℝ) : EReal) := by
  rw [← turned _ _ _ _ _ _ _ _ (by omega)]
  unfold val_main_v226
  pointwise
  refine (back_k (dK' X D S (r.val / 2048) (r.val / 128 % 16) (c.val / 64) (r.val % 128)) _ _ _ (fun d => ?_) _).trans ?_
  · unfold val_main_v207
    pointwise
    refine (dK_sum A _ _ _ _ _).trans ?_
    show ((dK' X D S (r.val / 2048) (r.val % 2048 / 128) (c.val / 64) (r.val % 2048 % 128) d.val : ℝ) : EReal) = _
    rw [show r.val % 2048 / 128 = r.val / 128 % 16 by omega, show r.val % 2048 % 128 = r.val % 128 by omega]
  · show ((Spec.ropeT (Spec.tcos (r.val % 2048)) (Spec.tsin (r.val % 2048)) _ (c.val % 64) : ℝ) : EReal) = _
    rw [show r.val % 2048 = r.val / 128 % 16 * 128 + r.val % 128 by omega]

theorem dv_at (A : In x0 x1 x2 X D S) (r : Fin 4096) (c : Fin 128) : val_main_v209 (F := Ideal) x0 x1 x2 (ix2 r c)
    = (((Spec.blk X D S (r.val / 2048) (r.val / 128 % 16)).dV (c.val / 64) (128 + r.val % 128) (c.val % 64)
      + if r.val / 128 % 16 = 15 then 0
        else (Spec.blk X D S (r.val / 2048) (r.val / 128 % 16 + 1)).dV (c.val / 64) (r.val % 128) (c.val % 64) : ℝ) : EReal) := by
  rw [← last_block _ (show r.val / 128 % 16 < 16 by omega)]
  unfold val_main_v209 val_main_v206
  pointwise
  exact dV_sum A _ _ _ _ _

/-- The gradient of the keys and values. -/
theorem dkv_at (A : In x0 x1 x2 X D S) (r : Fin 4096) (c : Fin 256) :
    val_main_v244 (F := Ideal) x0 x1 x2 (ix2 r c) = ((Spec.dkv X D S r c : ℝ) : EReal) := by
  unfold val_main_v244 Spec.dkv Spec.own Spec.prev
  pointwise
  by_cases h : c.val < 128
  · rw [dif_pos h, if_pos h, if_pos h]
    exact dk_at A r ⟨c.val, h⟩
  · rw [dif_neg h, if_neg h, if_neg h]
    refine (dv_at A r ⟨c.val - 128, by omega⟩).trans ?_
    show (((Spec.blk X D S (r.val / 2048) (r.val / 128 % 16)).dV ((c.val - 128) / 64) (128 + r.val % 128) ((c.val - 128) % 64)
      + if r.val / 128 % 16 = 15 then 0
        else (Spec.blk X D S (r.val / 2048) (r.val / 128 % 16 + 1)).dV ((c.val - 128) / 64) (r.val % 128) ((c.val - 128) % 64) : ℝ) : EReal) = _
    rw [show (c.val - 128) % 64 = c.val % 64 by omega]

end Cert.ReferenceIdeal.Value
-- ==== Proof.Result.lean ====
/- The reference's run: its four results are the gradients of the specification. -/
module

public import proofs.«01_k».proof.Proof.RefOut

@[expose] public section

set_option maxRecDepth 16384

noncomputable section

namespace Cert.ReferenceIdeal.Value

open Idealize.ShloMosaic Idealize.SL.Sem Cert.ReferenceIdeal Cert.ReferenceIdeal.Gen Cert.ReferenceIdeal.Read
open Cert.KernelIdeal.Words (arr)

section results

variable {x0 : FVec Ideal S4096x6400 .f32} {x1 : FVec Ideal S16 .f32} {x2 : FVec Ideal S4096x1024 .f32} {X D : ℕ → ℕ → ℝ} {S : ℕ → ℝ}

theorem result_q (A : In x0 x1 x2 X D S) : val_main_v245 (F := Ideal) x0 x1 x2 = arr 4096 1024 (Spec.dq X D S) := funext fun i => by
  rw [eq_ix2 i, val_main_v245_apply]
  exact dq_at A _ _

theorem result_z (A : In x0 x1 x2 X D S) : val_main_v246 (F := Ideal) x0 x1 x2 = arr 4096 1024 (Spec.dz X D S) := funext fun i => by
  rw [eq_ix2 i, val_main_v246_apply]
  exact dz_at A _ _

theorem result_kv (A : In x0 x1 x2 X D S) : val_main_v247 (F := Ideal) x0 x1 x2 = arr 4096 256 (Spec.dkv X D S) := funext fun i => by
  rw [eq_ix2 i, val_main_v247_apply]
  exact dkv_at A _ _

theorem result_sink (A : In x0 x1 x2 X D S) : val_main_v249 (F := Ideal) x0 x1 x2 = arr 16 128 fun h _ => Spec.dsink X D S h :=
  funext fun i => by
    rw [eq_ix2 i, val_main_v249_apply, val_main_v248_apply, eq_ix1 (idx_main_v248 _)]
    exact sink_at A _

end results

/-- The reference's run on arguments that hold real numbers. -/
theorem reference_run (m : (ℓ : Loc nD τ sig) → Buf (Elt Ideal) ℓ) (ρ : Dev nD → PrngReg) (X D : Dev nD → ℕ → ℕ → ℝ) (S : Dev nD → ℕ → ℝ)
    (A : ∀ c : Dev nD, In (m ((c.tc : Thread nD τ).loc main_arg0)) (m ((c.tc : Thread nD τ).loc main_arg1)) (m ((c.tc : Thread nD τ).loc main_arg2))
      (X c) (D c) (S c)) :
    θ_run (defs (F := Ideal)) (onTc (τ := τ) (main (F := Ideal))) ⟨m, fun _ => 0, ρ⟩ fun r => ∀ c : Dev nD,
      r.2.mem ((c.tc : Thread nD τ).loc main_v245) = arr 4096 1024 (Spec.dq (X c) (D c) (S c))
      ∧ r.2.mem ((c.tc : Thread nD τ).loc main_v246) = arr 4096 1024 (Spec.dz (X c) (D c) (S c))
      ∧ r.2.mem ((c.tc : Thread nD τ).loc main_v247) = arr 4096 256 (Spec.dkv (X c) (D c) (S c))
      ∧ r.2.mem ((c.tc : Thread nD τ).loc main_v249) = (arr 16 128 fun h _ => Spec.dsink (X c) (D c) (S c) h)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v245_eq (StableHlo.launchContents m c)).trans (result_q (A c))),
      (h c).2.1.trans ((val_main_v246_eq (StableHlo.launchContents m c)).trans (result_z (A c))),
      (h c).2.2.1.trans ((val_main_v247_eq (StableHlo.launchContents m c)).trans (result_kv (A c))),
      (h c).2.2.2.1.trans ((val_main_v249_eq (StableHlo.launchContents m c)).trans (result_sink (A c))), (h c).2.2.2.2⟩)
    (run m ρ)

end Cert.ReferenceIdeal.Value
-- ==== Proof.Finite.lean ====
/- The precondition read element by element, and the real matrices behind finite arguments. -/
module

public import proofs.«01_k».proof.Pre_finite
public import Idealize.ShloMosaic.PureOps.Ideal
public import Idealize.ShloMosaic.Lib.Pointwise

@[expose] public section

noncomputable section

namespace Cert.Finite

open Idealize.ShloMosaic

theorem facts : Cert.Pre_finite.Facts := ⟨by decide, by decide, by decide⟩

/-- A number whose magnitude is below infinity is real. -/
theorem real (x : EReal) (h : Ideal.cmp .olt (max x (-x)) (Ideal.ofBits .f32 0x7F800000#32) = 1#1) : x = ((x.toReal : ℝ) : EReal) := by
  have top : Ideal.ofBits .f32 0x7F800000#32 = ⊤ := by simp [Ideal.ofBits, Ideal.ieee]
  rw [top] at h
  refine (EReal.coe_toReal ?_ ?_).symm
  · rintro rfl
    simp [Ideal.cmp] at h
  · rintro rfl
    simp [Ideal.cmp] at h

theorem real_of {s : Shape} (hb : (⟨0, ![]⟩ : Shape).BroadcastsInDim s (![] : Fin 0 → Fin s.rank)) (x : FVec Ideal s .f32)
    (e : cmpf .olt (Host.absf x) (broadcastInDim s ![] hb (constant (F := Ideal) ⟨0, ![]⟩ .f32 0x7F800000#32)) = fun _ => 1#1) (i : s.Idx) :
    x i = (((x i).toReal : ℝ) : EReal) := real (x i) (congrFun e i)

/-- The real matrix of an array. -/
def mat {a b : ℕ} (x : (⟨2, ![a, b]⟩ : Shape).Idx → EReal) (r k : ℕ) : ℝ := if h : r < a ∧ k < b then (x (ix2 ⟨r, h.1⟩ ⟨k, h.2⟩)).toReal else 0

theorem mat_at {a b : ℕ} (x : (⟨2, ![a, b]⟩ : Shape).Idx → EReal) (hx : ∀ i, x i = (((x i).toReal : ℝ) : EReal)) (r : Fin a) (k : Fin b) :
    x (ix2 r k) = ((mat x r k : ℝ) : EReal) := by
  rw [mat, dif_pos ⟨r.isLt, k.isLt⟩]
  exact hx _

/-- The real vector of an array. -/
def vec {a : ℕ} (x : (⟨1, ![a]⟩ : Shape).Idx → EReal) (r : ℕ) : ℝ := if h : r < a then (x (ix1 ⟨r, h⟩)).toReal else 0

theorem vec_at {a : ℕ} (x : (⟨1, ![a]⟩ : Shape).Idx → EReal) (hx : ∀ i, x i = (((x i).toReal : ℝ) : EReal)) (r : Fin a) :
    x (ix1 r) = ((vec x r : ℝ) : EReal) := by
  rw [vec, dif_pos r.isLt]
  exact hx _

end Cert.Finite
-- ==== Proof.Join.lean ====
/- Seven pieces side by side: the gradient of the projection, from the gradients of its parts. -/
module

public import Idealize.ShloMosaic.Lib.Pointwise

@[expose] public section

set_option maxRecDepth 16384

noncomputable section

namespace Cert.Join

open Idealize.ShloMosaic

abbrev Wide : Shape := ⟨2, ![4096, 1024]⟩
abbrev Slim : Shape := ⟨2, ![4096, 256]⟩
abbrev All : Shape := ⟨2, ![4096, 6400]⟩

/-- The pieces side by side. -/
def joined (p0 p1 p2 p3 p4 : FVec Ideal Wide .bf16) (p5 : FVec Ideal Slim .bf16) (p6 : FVec Ideal Wide .bf16)
    (r : Fin 4096) (e : ℕ) : EReal :=
  if h : e < 1024 then p0 (ix2 r ⟨e, h⟩) else if h : e - 1024 < 1024 then p1 (ix2 r ⟨e - 1024, h⟩) else
  if h : e - 2048 < 1024 then p2 (ix2 r ⟨e - 2048, h⟩) else if h : e - 3072 < 1024 then p3 (ix2 r ⟨e - 3072, h⟩) else
  if h : e - 4096 < 1024 then p4 (ix2 r ⟨e - 4096, h⟩) else if h : e - 5120 < 256 then p5 (ix2 r ⟨e - 5120, h⟩) else
  if h : e - 5376 < 1024 then p6 (ix2 r ⟨e - 5376, h⟩) else 0

variable (p0 p1 p2 p3 p4 : FVec Ideal Wide .bf16) (p5 : FVec Ideal Slim .bf16) (p6 : FVec Ideal Wide .bf16)

theorem joined_at (hc : Shape.Concatenates [Wide, Wide, Wide, Wide, Wide, Slim, Wide] All 1) (r : Fin 4096) (e : Fin 6400) :
    concatenate All 1 [⟨Wide, p0⟩, ⟨Wide, p1⟩, ⟨Wide, p2⟩, ⟨Wide, p3⟩, ⟨Wide, p4⟩, ⟨Slim, p5⟩, ⟨Wide, p6⟩] hc (ix2 r e) =
      joined p0 p1 p2 p3 p4 p5 p6 r e.val := by
  have he := e.isLt
  have h6 : ¬ e.val - 5120 < 256 → e.val - 5376 < 1024 := by omega
  pointwise
  unfold joined
  simp only [Nat.sub_sub, Nat.reduceAdd]
  refine dite_congr rfl (fun _ => rfl) fun _ => dite_congr rfl (fun _ => rfl) fun _ => dite_congr rfl (fun _ => rfl) fun _ =>
    dite_congr rfl (fun _ => rfl) fun _ => dite_congr rfl (fun _ => rfl) fun _ => dite_congr rfl (fun _ => rfl) fun h => ?_
  rw [dif_pos (h6 h)]

variable (r : Fin 4096) (l : ℕ)

theorem joined_0 (h : l < 1024) : joined p0 p1 p2 p3 p4 p5 p6 r l = p0 (ix2 r ⟨l, h⟩) := by
  unfold joined
  rw [dif_pos h]

theorem joined_1 (h : l < 1024) : joined p0 p1 p2 p3 p4 p5 p6 r (1024 + l) = p1 (ix2 r ⟨l, h⟩) := by
  unfold joined
  rw [dif_neg (by omega), dif_pos (by omega)]
  simp only [Nat.add_sub_cancel_left]

theorem joined_2 (h : l < 1024) : joined p0 p1 p2 p3 p4 p5 p6 r (2048 + l) = p2 (ix2 r ⟨l, h⟩) := by
  unfold joined
  rw [dif_neg (by omega), dif_neg (by omega), dif_pos (by omega)]
  simp only [Nat.add_sub_cancel_left]

theorem joined_3 (h : l < 1024) : joined p0 p1 p2 p3 p4 p5 p6 r (3072 + l) = p3 (ix2 r ⟨l, h⟩) := by
  unfold joined
  rw [dif_neg (by omega), dif_neg (by omega), dif_neg (by omega), dif_pos (by omega)]
  simp only [Nat.add_sub_cancel_left]

theorem joined_4 (h : l < 1024) : joined p0 p1 p2 p3 p4 p5 p6 r (4096 + l) = p4 (ix2 r ⟨l, h⟩) := by
  unfold joined
  rw [dif_neg (by omega), dif_neg (by omega), dif_neg (by omega), dif_neg (by omega), dif_pos (by omega)]
  simp only [Nat.add_sub_cancel_left]

theorem joined_5 (h : l < 256) : joined p0 p1 p2 p3 p4 p5 p6 r (5120 + l) = p5 (ix2 r ⟨l, h⟩) := by
  unfold joined
  rw [dif_neg (by omega), dif_neg (by omega), dif_neg (by omega), dif_neg (by omega), dif_neg (by omega),
    dif_pos (by omega)]
  simp only [Nat.add_sub_cancel_left]

theorem joined_6 (h : l < 1024) : joined p0 p1 p2 p3 p4 p5 p6 r (5376 + l) = p6 (ix2 r ⟨l, h⟩) := by
  unfold joined
  rw [dif_neg (by omega), dif_neg (by omega), dif_neg (by omega), dif_neg (by omega), dif_neg (by omega),
    dif_neg (by omega), dif_pos (by omega)]
  simp only [Nat.add_sub_cancel_left]

/-- A sum over the first `a` and the next `b` numbers. -/
theorem sum_two (f : ℕ → EReal) (a b : ℕ) :
    ∑ e : Fin (a + b), f e.val = (∑ e : Fin a, f e.val) + ∑ e : Fin b, f (a + e.val) := by
  simpa using Fin.sum_univ_add (fun e : Fin (a + b) => f e.val)

/-- A sum over all columns is the sum over the pieces of the sums over their columns. -/
theorem sum_joined (w : ℕ → EReal) :
    ∑ e : Fin 6400, joined p0 p1 p2 p3 p4 p5 p6 r e.val * w e.val =
      (∑ e : Fin 1024, p0 (ix2 r e) * w e.val) + (∑ e : Fin 1024, p1 (ix2 r e) * w (1024 + e.val)) +
      (∑ e : Fin 1024, p2 (ix2 r e) * w (2048 + e.val)) + (∑ e : Fin 1024, p3 (ix2 r e) * w (3072 + e.val)) +
      (∑ e : Fin 1024, p4 (ix2 r e) * w (4096 + e.val)) + (∑ e : Fin 256, p5 (ix2 r e) * w (5120 + e.val)) +
      ∑ e : Fin 1024, p6 (ix2 r e) * w (5376 + e.val) := by
  set f : ℕ → EReal := fun e => joined p0 p1 p2 p3 p4 p5 p6 r e * w e with hf
  rw [show ∑ e : Fin 6400, joined p0 p1 p2 p3 p4 p5 p6 r e.val * w e.val = ∑ e : Fin (5376 + 1024), f e.val from rfl,
    sum_two f 5376 1024, sum_two f 5120 256, sum_two f 4096 1024, sum_two f 3072 1024, sum_two f 2048 1024,
    sum_two f 1024 1024]
  simp only [hf, joined_0 p0 p1 p2 p3 p4 p5 p6 r _ (Fin.isLt _), joined_1 p0 p1 p2 p3 p4 p5 p6 r _ (Fin.isLt _),
    joined_2 p0 p1 p2 p3 p4 p5 p6 r _ (Fin.isLt _), joined_3 p0 p1 p2 p3 p4 p5 p6 r _ (Fin.isLt _),
    joined_4 p0 p1 p2 p3 p4 p5 p6 r _ (Fin.isLt _), joined_5 p0 p1 p2 p3 p4 p5 p6 r _ (Fin.isLt _),
    joined_6 p0 p1 p2 p3 p4 p5 p6 r _ (Fin.isLt _)]

end Cert.Join
-- ==== Proof.GradW.lean ====
/- The gradient of the projection's weights: what the kernel's grid leaves. -/
module

public import proofs.«01_k».proof.Proof.Join
public import Idealize.ShloMosaic.Lib.Pipeline.ValueKit
public import proofs.«01_k».proof.Proof.Gen.KernelWIdeal.Value

@[expose] public section

set_option maxRecDepth 16384

noncomputable section

namespace Cert.KernelWIdeal.Words

open Idealize.ShloMosaic Cert.KernelWIdeal Cert.KernelWIdeal.Gen Cert.Join

/-- One tile of columns against the hidden rows. -/
def tile (h : S4096x1024.Idx → EReal) (p : S4096x256.Idx → EReal) : S256x1024.Idx → EReal := k0_pay1 (F := Ideal) p h

theorem tile_at (h : S4096x1024.Idx → EReal) (p : S4096x256.Idx → EReal) (i : S256x1024.Idx) :
    tile h p i = ∑ r : Fin 4096, p (ix2 r (i 0)) * h (ix2 r (i 1)) := by
  rw [eq_ix2 i]
  unfold tile k0_pay1
  pointwise

variable (m : (ℓ : Loc nD τ sig) → Buf (Elt Ideal) ℓ) (c : Dev nD) (t : Fin cfg0.N)

theorem idx : ∀ t : Fin cfg0.N, win0_0.index t = ![0, 0] ∧ win0_1.index t = ![0, min t.val 3] ∧
    win0_2.index t = ![0, min (t.val - 4) 3] ∧ win0_3.index t = ![0, min (t.val - 8) 3] ∧
    win0_4.index t = ![0, min (t.val - 12) 3] ∧ win0_5.index t = ![0, min (t.val - 16) 3] ∧ win0_6.index t = ![0, 0] ∧
    win0_7.index t = ![0, min (t.val - 21) 3] ∧ win0_8.index t = ![t.val, 0] := (by decide +kernel : ∀ t : Fin grid0.N, _)

/-- The hidden rows and the pieces, as extended reals. -/
def hid : S4096x1024.Idx → EReal := V m c main_arg0
def grads (r : Fin 4096) (e : ℕ) : EReal :=
  joined (V m c main_arg1) (V m c main_arg2) (V m c main_arg3) (V m c main_arg4) (V m c main_arg5) (V m c main_arg6) (V m c main_arg7) r e

/-- What the grid leaves: every column of the gradient against the hidden rows. -/
def grad (i : S6400x1024.Idx) : EReal := ∑ r : Fin 4096, grads m c r (i 0).val * hid m c (ix2 r (i 1))

theorem hid_at (i : S4096x1024.Idx) : (iblk m c 0 t : S4096x1024.Idx → EReal) i = hid m c i := by
  unfold hid
  blk_simp [iblk]
  exact congrArg _ (by blk_ext [idx t])

theorem piece1 (h : t.val < 4) (r : Fin 4096) (e : Fin 256) :
    (iblk m c 1 t : S4096x256.Idx → EReal) (ix2 r e) = grads m c r (256 * t.val + e.val) := by
  have he := e.isLt
  unfold grads
  rw [show 256 * t.val + e.val = min t.val 3 * 256 + e.val by omega, joined_0 _ _ _ _ _ _ _ _ _ (by omega)]
  blk_simp [iblk]
  exact congrArg _ (by blk_ext [idx t])

theorem piece2 (h : 4 ≤ t.val ∧ t.val ≤ 7) (r : Fin 4096) (e : Fin 256) :
    (iblk m c 2 t : S4096x256.Idx → EReal) (ix2 r e) = grads m c r (256 * t.val + e.val) := by
  have he := e.isLt
  unfold grads
  rw [show 256 * t.val + e.val = 1024 + (min (t.val - 4) 3 * 256 + e.val) by omega, joined_1 _ _ _ _ _ _ _ _ _ (by omega)]
  blk_simp [iblk]
  exact congrArg _ (by blk_ext [idx t])

theorem piece3 (h : 8 ≤ t.val ∧ t.val ≤ 11) (r : Fin 4096) (e : Fin 256) :
    (iblk m c 3 t : S4096x256.Idx → EReal) (ix2 r e) = grads m c r (256 * t.val + e.val) := by
  have he := e.isLt
  unfold grads
  rw [show 256 * t.val + e.val = 2048 + (min (t.val - 8) 3 * 256 + e.val) by omega, joined_2 _ _ _ _ _ _ _ _ _ (by omega)]
  blk_simp [iblk]
  exact congrArg _ (by blk_ext [idx t])

theorem piece4 (h : 12 ≤ t.val ∧ t.val ≤ 15) (r : Fin 4096) (e : Fin 256) :
    (iblk m c 4 t : S4096x256.Idx → EReal) (ix2 r e) = grads m c r (256 * t.val + e.val) := by
  have he := e.isLt
  unfold grads
  rw [show 256 * t.val + e.val = 3072 + (min (t.val - 12) 3 * 256 + e.val) by omega, joined_3 _ _ _ _ _ _ _ _ _ (by omega)]
  blk_simp [iblk]
  exact congrArg _ (by blk_ext [idx t])

theorem piece5 (h : 16 ≤ t.val ∧ t.val ≤ 19) (r : Fin 4096) (e : Fin 256) :
    (iblk m c 5 t : S4096x256.Idx → EReal) (ix2 r e) = grads m c r (256 * t.val + e.val) := by
  have he := e.isLt
  unfold grads
  rw [show 256 * t.val + e.val = 4096 + (min (t.val - 16) 3 * 256 + e.val) by omega, joined_4 _ _ _ _ _ _ _ _ _ (by omega)]
  blk_simp [iblk]
  exact congrArg _ (by blk_ext [idx t])

theorem piece6 (h : t.val = 20) (r : Fin 4096) (e : Fin 256) :
    (iblk m c 6 t : S4096x256.Idx → EReal) (ix2 r e) = grads m c r (256 * t.val + e.val) := by
  have he := e.isLt
  unfold grads
  rw [show 256 * t.val + e.val = 5120 + (e.val) by omega, joined_5 _ _ _ _ _ _ _ _ _ (by omega)]
  blk_simp [iblk]
  exact congrArg _ (by blk_ext [idx t])

theorem piece7 (h : 21 ≤ t.val) (r : Fin 4096) (e : Fin 256) :
    (iblk m c 7 t : S4096x256.Idx → EReal) (ix2 r e) = grads m c r (256 * t.val + e.val) := by
  have he := e.isLt
  have ht : t.val < 25 := t.isLt
  unfold grads
  rw [show 256 * t.val + e.val = 5376 + (min (t.val - 21) 3 * 256 + e.val) by omega, joined_6 _ _ _ _ _ _ _ _ _ (by omega)]
  blk_simp [iblk]
  exact congrArg _ (by blk_ext [idx t])

/-- A point whose tile of columns is `p`. -/
theorem tile_grad (p : S4096x256.Idx → EReal) (hp : ∀ (r : Fin 4096) (e : Fin 256), p (ix2 r e) = grads m c r (256 * t.val + e.val)) :
    tile (iblk m c 0 t) p = fun i => ∑ r : Fin 4096, grads m c r (256 * t.val + (i 0).val) * hid m c (ix2 r (i 1)) := by
  funext i
  rw [tile_at]
  exact Finset.sum_congr rfl fun r _ => congrArg₂ _ (hp r _) (hid_at m c t _)

set_option maxHeartbeats 1000000 in
theorem left : outsAt0 m c t.val t.isLt = fun i => ∑ r : Fin 4096, grads m c r (256 * t.val + (i 0).val) * hid m c (ix2 r (i 1)) := by
  have ht : t.val < 25 := t.isLt
  obtain h | h | h | h | h | h | h : (t.val < 4) ∨ (4 ≤ t.val ∧ t.val ≤ 7) ∨ (8 ≤ t.val ∧ t.val ≤ 11) ∨ (12 ≤ t.val ∧ t.val ≤ 15) ∨ (16 ≤ t.val ∧ t.val ≤ 19) ∨ (t.val = 20) ∨ (21 ≤ t.val) := by omega
  · rw [outsAt0_A m c t (by omega) (by omega) (by omega) (by omega) (by omega) (by omega) (by omega)]
    frame_out
    exact tile_grad m c t _ (piece1 m c t h)
  · rw [outsAt0_B m c t (by omega) (by omega) (by omega) (by omega) (by omega) (by omega) (by omega)]
    frame_out
    exact tile_grad m c t _ (piece2 m c t h)
  · rw [outsAt0_C m c t (by omega) (by omega) (by omega) (by omega) (by omega) (by omega) (by omega)]
    frame_out
    exact tile_grad m c t _ (piece3 m c t h)
  · rw [outsAt0_D m c t (by omega) (by omega) (by omega) (by omega) (by omega) (by omega) (by omega)]
    frame_out
    exact tile_grad m c t _ (piece4 m c t h)
  · rw [outsAt0_E m c t (by omega) (by omega) (by omega) (by omega) (by omega) (by omega) (by omega)]
    frame_out
    exact tile_grad m c t _ (piece5 m c t h)
  · rw [outsAt0_F m c t (by omega) (by omega) (by omega) (by omega) (by omega) (by omega) (by omega)]
    frame_out
    exact tile_grad m c t _ (piece6 m c t h)
  · rw [outsAt0_G m c t (by omega) (by omega) (by omega) (by omega) (by omega) (by omega) (by omega)]
    frame_out
    exact tile_grad m c t _ (piece7 m c t h)

theorem grad_of (i : S6400x1024.Idx) (a : ℕ) (b : Fin 1024) (ha : a = (i 0).val) (hb : b = i 1) :
    ∑ r : Fin 4096, grads m c r a * hid m c (ix2 r b) = grad m c i := by
  subst ha hb
  rfl

theorem final8 : (dats m 0 c).arrAt 8 cfg0.N = grad m c := by
  refine (dats m 0 c).arrAt_eq_of_covers 8 _ (by decide +kernel) fun t _ y => ?_
  blk_simp
  rw [after0_8, left]
  exact grad_of m c _ _ _ (by blk_simp [idx t]; omega) (Fin.ext (by blk_simp [idx t]))

end Cert.KernelWIdeal.Words
-- ==== Proof.RefGradW.lean ====
/- The gradient of the projection's weights: what the reference returns. -/
module

public import proofs.«01_k».proof.Proof.Join
public import proofs.«01_k».proof.Proof.Gen.ReferenceWIdeal.Read

@[expose] public section

set_option maxRecDepth 16384

noncomputable section

namespace Cert.ReferenceWIdeal.Value

open Idealize.ShloMosaic Idealize.SL.Sem Cert.ReferenceWIdeal Cert.ReferenceWIdeal.Gen Cert.ReferenceWIdeal.Read Cert.Join

/-- Every column of the gradient against the hidden rows. -/
def grad (h p0 p1 p2 p3 p4 : S4096x1024.Idx → EReal) (p5 : S4096x256.Idx → EReal) (p6 : S4096x1024.Idx → EReal) (i : S6400x1024.Idx) : EReal :=
  ∑ r : Fin 4096, joined p0 p1 p2 p3 p4 p5 p6 r (i 0).val * h (ix2 r (i 1))

theorem result (h p0 p1 p2 p3 p4 : S4096x1024.Idx → EReal) (p5 : S4096x256.Idx → EReal) (p6 : S4096x1024.Idx → EReal) :
    val_main_v7 (F := Ideal) h p0 p1 p2 p3 p4 p5 p6 = grad h p0 p1 p2 p3 p4 p5 p6 := funext fun i => by
  rw [val_main_v7_apply, val_main_v6_apply, val_main_v5_apply]
  refine Finset.sum_congr rfl fun r _ => congrArg₂ (fun a b : EReal => a * b) ?_ ?_
  · exact (congrArg (val_main_v0 (F := Ideal) p0 p1 p2 p3 p4 p5 p6) (eq_ix2 _)).trans (joined_at p0 p1 p2 p3 p4 p5 p6 _ r (i 0))
  · exact congrArg h (eq_ix2 _)

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = grad (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((val_main_v7_eq (F := Ideal) _ _ _ _ _ _ _ _).trans (result _ _ _ _ _ _ _ _)), (h c).2⟩)
    (run m ρ)

end Cert.ReferenceWIdeal.Value
-- ==== Proof.Norm.lean ====
/- The gradient of the root-mean-square norm, on the extended reals. -/
module

public import Idealize.ShloMosaic.Lib.Pointwise

@[expose] public section

set_option maxRecDepth 16384

noncomputable section

namespace Cert.Norm

open Idealize.ShloMosaic

/-- The number of columns and the constant under the root, as both programs print them. -/
def size : EReal := Ideal.ofBits .f32 0x44800000#32
def tiny : EReal := Ideal.ofBits .f32 0x358637BD#32
def mhalf : EReal := Ideal.ofBits .f32 0xBF000000#32

theorem size_eq : size = ((1024 : ℝ) : EReal) := by
  simp [size, Ideal.ofBits, Ideal.ieee]
  rw [← EReal.coe_mul]; norm_num

theorem mhalf_eq : mhalf = ((-(1 / 2) : ℝ) : EReal) := by
  simp [mhalf, Ideal.ofBits, Ideal.ieee, -EReal.coe_mul]; norm_num

theorem tiny_pos : 0 < tiny := by
  have h : ∃ e : ℝ, 0 < e ∧ tiny = (e : EReal) := by
    simp only [tiny, Ideal.ofBits, Ideal.ieee]
    simp [-EReal.coe_mul]
  obtain ⟨e, he, h⟩ := h
  rw [h]; exact_mod_cast he

theorem div_size (a : EReal) : Ideal.div a size = a * size⁻¹ := by
  unfold Ideal.div
  rw [if_neg (by rw [size_eq]; exact_mod_cast (by norm_num : (1024 : ℝ) ≠ 0))]

/-- A row's mean square and its reciprocal root. -/
def meanSq (x : Fin 1024 → EReal) : EReal := Ideal.div (∑ k, x k * x k) size + tiny
def scale (x : Fin 1024 → EReal) : EReal := Ideal.rsqrt (meanSq x)

theorem sq_nonneg (a : EReal) : 0 ≤ a * a := by
  induction a using EReal.rec with
  | bot => simp
  | top => simp
  | coe r => rw [← EReal.coe_mul]; exact_mod_cast mul_self_nonneg r

theorem meanSq_pos (x : Fin 1024 → EReal) : 0 < meanSq x := by
  refine lt_of_lt_of_le tiny_pos (le_add_of_nonneg_left ?_)
  rw [div_size]
  refine mul_nonneg (Finset.sum_nonneg fun k _ => sq_nonneg _) ?_
  rw [size_eq, ← EReal.coe_inv]
  exact_mod_cast (by norm_num : (0 : ℝ) ≤ 1024⁻¹)

theorem rsqrt_top : Ideal.rsqrt ⊤ = 0 := rfl

theorem rsqrt_coe (r : ℝ) : Ideal.rsqrt (r : EReal) = if r < 0 then (⊥ : EReal) else if r = 0 then (⊤ : EReal) else (((Real.sqrt r)⁻¹ : ℝ) : EReal) := rfl

/-- The reciprocal root over its radicand is the reciprocal root's cube, at infinity as well. -/
theorem div_rsqrt (a : EReal) (h : 0 < a) : Ideal.div (Ideal.rsqrt a) a = Ideal.rsqrt a * Ideal.rsqrt a * Ideal.rsqrt a := by
  unfold Ideal.div
  rw [if_neg h.ne']
  induction a using EReal.rec with
  | bot => simp at h
  | top => simp [rsqrt_top]
  | coe r =>
    have hr : 0 < r := by exact_mod_cast h
    rw [rsqrt_coe, if_neg (not_lt.2 hr.le), if_neg hr.ne', ← EReal.coe_inv, ← EReal.coe_mul, ← EReal.coe_mul, ← EReal.coe_mul]
    have hs : Real.sqrt r * Real.sqrt r = r := Real.mul_self_sqrt hr.le
    congr 1
    rw [← mul_inv, ← mul_inv, ← mul_inv, hs, mul_comm]

theorem halves (a : EReal) : mhalf * a + mhalf * a = -a := by
  rw [mhalf_eq]
  induction a using EReal.rec with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- One row of the gradient: what comes past the norm, the scaled gradient, and the mean's share. -/
def dxRow (dh g x past : Fin 1024 → EReal) (c : Fin 1024) : EReal :=
  past c + scale x * (dh c * g c) - x c * (scale x * scale x * scale x) * Ideal.div (∑ k, dh k * g k * x k) size

/-- The same row, as the derivative of the quotient gives it. -/
theorem dxRow_eq (dh g x past : Fin 1024 → EReal) (c : Fin 1024) (k : EReal)
    (hk : k = Ideal.div ((∑ k, x k * (dh k * g k)) * (mhalf * Ideal.div (scale x) (meanSq x))) size) :
    past c + dh c * g c * scale x + x c * k + k * x c = dxRow dh g x past c := by
  have hs : ∑ k, x k * (dh k * g k) = ∑ k, dh k * g k * x k := Finset.sum_congr rfl fun k _ => mul_comm _ _
  rw [hs, scale, div_rsqrt _ (meanSq_pos x), div_size] at hk
  unfold dxRow
  rw [div_size, sub_eq_add_neg, ← halves, mul_comm k, add_assoc (_ + _), mul_comm (scale x) (dh c * g c), scale, hk]
  congr 2 <;> ac_rfl

end Cert.Norm
-- ==== Proof.SpecX.lean ====
/- The gradient of the projection's input and of the norm's gain: the specification. -/
module

public import proofs.«01_k».proof.Proof.Join
public import proofs.«01_k».proof.Proof.Norm

@[expose] public section

set_option maxRecDepth 16384

noncomputable section

namespace Cert.SpecX

open Idealize.ShloMosaic Cert.Join Cert.Norm

/-- The arguments: the seven pieces, the weights, the norm's input and gain, and the gradient that comes past the norm. -/
structure Arrays where
  p0 : FVec Ideal Wide .bf16
  p1 : FVec Ideal Wide .bf16
  p2 : FVec Ideal Wide .bf16
  p3 : FVec Ideal Wide .bf16
  p4 : FVec Ideal Wide .bf16
  p5 : FVec Ideal Slim .bf16
  p6 : FVec Ideal Wide .bf16
  w : FVec Ideal ⟨3, ![1, 6400, 1024]⟩ .bf16
  x : FVec Ideal Wide .f32
  g : FVec Ideal ⟨2, ![1, 1024]⟩ .f32
  past : FVec Ideal Wide .f32

variable (A : Arrays)

/-- The gradient of the normed rows: the pieces side by side times the weights. -/
def dh (r : Fin 4096) (l : Fin 1024) : EReal := ∑ e : Fin 6400, joined A.p0 A.p1 A.p2 A.p3 A.p4 A.p5 A.p6 r e.val * A.w (ix3 0 e l)

def row (r : Fin 4096) : Fin 1024 → EReal := fun k => A.x (ix2 r k)

/-- The gradient of the input. -/
def dx (r : Fin 4096) (l : Fin 1024) : EReal := dxRow (dh A r) (fun k => A.g (ix2 0 k)) (row A r) (fun k => A.past (ix2 r k)) l

/-- A row's share of the gain's gradient. -/
def share (l : Fin 1024) (n : ℕ) : EReal := if h : n < 4096 then dh A ⟨n, h⟩ l * A.x (ix2 ⟨n, h⟩ l) * scale (row A ⟨n, h⟩) else 0

/-- The gradient of the gain. -/
def dg (l : Fin 1024) : EReal := ∑ r : Fin 4096, share A l r.val

theorem share_of (l : Fin 1024) (n : ℕ) (h : n < 4096) : share A l n = dh A ⟨n, h⟩ l * A.x (ix2 ⟨n, h⟩ l) * scale (row A ⟨n, h⟩) := dif_pos h

/-- A row of the product, piece by piece. -/
theorem dh_pieces (r : Fin 4096) (l : Fin 1024) : dh A r l =
    (∑ e : Fin 1024, A.p0 (ix2 r e) * A.w (ix3 0 ⟨0 + e.val, by omega⟩ l)) +
    (∑ e : Fin 1024, A.p1 (ix2 r e) * A.w (ix3 0 ⟨1024 + e.val, by omega⟩ l)) +
    (∑ e : Fin 1024, A.p2 (ix2 r e) * A.w (ix3 0 ⟨2048 + e.val, by omega⟩ l)) +
    (∑ e : Fin 1024, A.p3 (ix2 r e) * A.w (ix3 0 ⟨3072 + e.val, by omega⟩ l)) +
    (∑ e : Fin 1024, A.p4 (ix2 r e) * A.w (ix3 0 ⟨4096 + e.val, by omega⟩ l)) +
    (∑ e : Fin 256, A.p5 (ix2 r e) * A.w (ix3 0 ⟨5120 + e.val, by omega⟩ l)) +
    ∑ e : Fin 1024, A.p6 (ix2 r e) * A.w (ix3 0 ⟨5376 + e.val, by omega⟩ l) := by
  have h := sum_joined A.p0 A.p1 A.p2 A.p3 A.p4 A.p5 A.p6 r fun e => if h : e < 6400 then A.w (ix3 0 ⟨e, h⟩ l) else 0
  have hl (e : Fin 6400) : (if h : e.val < 6400 then A.w (ix3 0 ⟨e.val, h⟩ l) else 0) = A.w (ix3 0 e l) := dif_pos e.isLt
  have hp (n s : ℕ) (hs : s + n ≤ 6400) (e : Fin n) : (if h : s + e.val < 6400 then A.w (ix3 0 ⟨s + e.val, h⟩ l) else 0) =
      A.w (ix3 0 ⟨s + e.val, by omega⟩ l) := dif_pos (by omega)
  have h0 (e : Fin 1024) : (if h : e.val < 6400 then A.w (ix3 0 ⟨e.val, h⟩ l) else 0) = A.w (ix3 0 ⟨0 + e.val, by omega⟩ l) := by
    simp only [Nat.zero_add]
    exact dif_pos (by omega)
  simp only [hl, h0, hp 1024 1024 (by decide), hp 1024 2048 (by decide), hp 1024 3072 (by decide), hp 1024 4096 (by decide),
    hp 256 5120 (by decide), hp 1024 5376 (by decide)] at h
  exact h

end Cert.SpecX
-- ==== Proof.GradX.lean ====
/- The gradient of the projection's input: what the kernel's grid leaves. -/
module

public import proofs.«01_k».proof.Proof.SpecX
public import Idealize.ShloMosaic.Lib.Pipeline.ReadBack
public import Idealize.ShloMosaic.Lib.Pipeline.ValueKit
public import proofs.«01_k».proof.Proof.Gen.KernelXIdeal.Value

@[expose] public section

set_option maxRecDepth 16384

noncomputable section

namespace Cert.KernelXIdeal.Words

open Idealize.ShloMosaic Cert.KernelXIdeal Cert.KernelXIdeal.Gen Cert.Join Cert.Norm Cert.SpecX

/-! ## The stored values at an index -/

section tiles

variable (v3 : Vec Ideal S512x1024 .bf16) (v4 : Vec Ideal S1x1024x1024 .bf16) (v7 : Vec Ideal S512x1024 .bf16) (v8 : Vec Ideal S1x1024x1024 .bf16)
  (v12 : Vec Ideal S512x1024 .bf16) (v13 : Vec Ideal S1x1024x1024 .bf16) (v17 : Vec Ideal S512x1024 .bf16) (v18 : Vec Ideal S1x1024x1024 .bf16)
  (v22 : Vec Ideal S512x1024 .bf16) (v23 : Vec Ideal S1x1024x1024 .bf16) (v27 : Vec Ideal S512x256 .bf16) (v28 : Vec Ideal S1x256x1024 .bf16)
  (v32 : Vec Ideal S512x1024 .bf16) (v33 : Vec Ideal S1x1024x1024 .bf16) (v21 v25 : FVec Ideal S512x1024 .f32)
  (x past d : Vec Ideal S512x1024 .f32) (g acc : Vec Ideal S1x1024 .f32) (r : Fin 512) (a : Fin 1) (l : Fin 1024)

/-- A point's rows times the weights: the sum of the pieces' products. -/
theorem prod_at : k0_pay6 (F := Ideal) (k0_pay4 (F := Ideal) v3 v4 v7 v8 v12 v13 v17 v18) (k0_pay5 (F := Ideal) v22 v23) v27 v28 v32 v33 (ix2 r l) =
      (∑ e : Fin 1024, v3 (ix2 r e) * v4 (ix3 0 e l)) + (∑ e : Fin 1024, v7 (ix2 r e) * v8 (ix3 0 e l)) +
      (∑ e : Fin 1024, v12 (ix2 r e) * v13 (ix3 0 e l)) + (∑ e : Fin 1024, v17 (ix2 r e) * v18 (ix3 0 e l)) +
      (∑ e : Fin 1024, v22 (ix2 r e) * v23 (ix3 0 e l)) + (∑ e : Fin 256, v27 (ix2 r e) * v28 (ix3 0 e l)) +
      ∑ e : Fin 1024, v32 (ix2 r e) * v33 (ix3 0 e l) := by
  unfold k0_pay6 k0_pay5 k0_pay4
  pointwise

theorem scale_at : k0_pay7 (F := Ideal) x (ix2 r a) = scale fun k => x (ix2 r k) := by
  unfold k0_pay7
  pointwise
  rfl

theorem dx_at : k0_pay1 (F := Ideal) (k0_pay9 (F := Ideal) v21 v25 v27 v28 v32 v33 x g past) (k0_pay10 (F := Ideal) x)
      (k0_pay11 (F := Ideal) v21 v25 v27 v28 v32 v33 x g) (ix2 r l) =
    dxRow (fun k => k0_pay6 (F := Ideal) v21 v25 v27 v28 v32 v33 (ix2 r k)) (fun k => g (ix2 0 k)) (fun k => x (ix2 r k)) (fun k => past (ix2 r k)) l := by
  unfold k0_pay1 k0_pay9 k0_pay11 k0_pay10 k0_pay8 dxRow
  rw [← scale_at x r 0]
  generalize k0_pay6 (F := Ideal) v21 v25 v27 v28 v32 v33 = d
  generalize k0_pay7 (F := Ideal) x = s
  pointwise
  rfl

theorem dg_at : k0_pay2 (F := Ideal) d x (k0_pay7 (F := Ideal) x) acc (ix2 a l) =
    acc (ix2 a l) + ∑ r : Fin 512, d (ix2 r l) * x (ix2 r l) * scale fun k => x (ix2 r k) := by
  simp only [← scale_at x _ 0]
  generalize k0_pay7 (F := Ideal) x = s
  unfold k0_pay2
  pointwise

end tiles

/-- A part of the weights' rows. -/
theorem ld_rows {X : S1x6400x1024.Idx → Elt Ideal .bf16} (s n : ℕ) (inb : ∀ a, (![0, s, 0] : Fin 3 → ℕ) a + (![1, n, 1024] : Fin 3 → ℕ) a ≤ S1x6400x1024.size a)
    (k : Fin n) (l : Fin 1024) (h : s + k.val < 6400) :
    View.ld X (Rect.unit (s := S1x6400x1024) ![0, s, 0] ![1, n, 1024] inb) (ix3 0 k l) = X (ix3 0 ⟨s + k.val, h⟩ l) := by
  refine congrArg X (funext fun a => Fin.ext ?_)
  match a with
  | ⟨0, _⟩ => simp [LoadRect.idx, Rect.emb, Rect.unit]
  | ⟨1, _⟩ => simp [LoadRect.idx, Rect.emb, Rect.unit]
  | ⟨2, _⟩ => simp [LoadRect.idx, Rect.emb, Rect.unit]

/-! ## The grid -/

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![0, 0, 0] ∧ win0_8.index t = ![t.val, 0] ∧ win0_9.index t = ![0, 0] ∧ win0_10.index t = ![t.val, 0] ∧
    win0_11.index t = ![t.val, 0] ∧ win0_12.index t = ![0, 0] := (by decide +kernel : ∀ t : Fin grid0.N, _)

/-- The kernel's arguments. -/
def args : Arrays := ⟨V m c main_arg0, V m c main_arg1, V m c main_arg2, V m c main_arg3, V m c main_arg4, V m c main_arg5, V m c main_arg6,
  V m c main_arg7, V m c main_arg8, V m c main_arg9, V m c main_arg10⟩

/-- A row of a point's block among all rows. -/
def rowOf (r : Fin 512) : Fin 4096 := ⟨512 * t.val + r.val, by have : t.val < 8 := t.isLt; omega⟩

theorem blk0 (r : Fin 512) (k : Fin 1024) : (iblk m c 0 t : S512x1024.Idx → EReal) (ix2 r k) = (args m c).p0 (ix2 (rowOf t r) k) := by
  unfold args
  blk_simp [iblk]
  exact congrArg _ (by unfold rowOf; blk_ext [idx t])

theorem blk1 (r : Fin 512) (k : Fin 1024) : (iblk m c 1 t : S512x1024.Idx → EReal) (ix2 r k) = (args m c).p1 (ix2 (rowOf t r) k) := by
  unfold args
  blk_simp [iblk]
  exact congrArg _ (by unfold rowOf; blk_ext [idx t])

theorem blk2 (r : Fin 512) (k : Fin 1024) : (iblk m c 2 t : S512x1024.Idx → EReal) (ix2 r k) = (args m c).p2 (ix2 (rowOf t r) k) := by
  unfold args
  blk_simp [iblk]
  exact congrArg _ (by unfold rowOf; blk_ext [idx t])

theorem blk3 (r : Fin 512) (k : Fin 1024) : (iblk m c 3 t : S512x1024.Idx → EReal) (ix2 r k) = (args m c).p3 (ix2 (rowOf t r) k) := by
  unfold args
  blk_simp [iblk]
  exact congrArg _ (by unfold rowOf; blk_ext [idx t])

theorem blk4 (r : Fin 512) (k : Fin 1024) : (iblk m c 4 t : S512x1024.Idx → EReal) (ix2 r k) = (args m c).p4 (ix2 (rowOf t r) k) := by
  unfold args
  blk_simp [iblk]
  exact congrArg _ (by unfold rowOf; blk_ext [idx t])

theorem blk5 (r : Fin 512) (k : Fin 256) : (iblk m c 5 t : S512x256.Idx → EReal) (ix2 r k) = (args m c).p5 (ix2 (rowOf t r) k) := by
  unfold args
  blk_simp [iblk]
  exact congrArg _ (by unfold rowOf; blk_ext [idx t])

theorem blk6 (r : Fin 512) (k : Fin 1024) : (iblk m c 6 t : S512x1024.Idx → EReal) (ix2 r k) = (args m c).p6 (ix2 (rowOf t r) k) := by
  unfold args
  blk_simp [iblk]
  exact congrArg _ (by unfold rowOf; blk_ext [idx t])

theorem blk8 (r : Fin 512) (k : Fin 1024) : (iblk m c 8 t : S512x1024.Idx → EReal) (ix2 r k) = (args m c).x (ix2 (rowOf t r) k) := by
  unfold args
  blk_simp [iblk]
  exact congrArg _ (by unfold rowOf; blk_ext [idx t])

theorem blk10 (r : Fin 512) (k : Fin 1024) : (iblk m c 10 t : S512x1024.Idx → EReal) (ix2 r k) = (args m c).past (ix2 (rowOf t r) k) := by
  unfold args
  blk_simp [iblk]
  exact congrArg _ (by unfold rowOf; blk_ext [idx t])

theorem blk7 (e : Fin 6400) (l : Fin 1024) : (iblk m c 7 t : S1x6400x1024.Idx → EReal) (ix3 0 e l) = (args m c).w (ix3 0 e l) := by
  unfold args
  blk_simp [iblk]
  exact congrArg _ (by blk_ext [idx t])

theorem blk9 (l : Fin 1024) : (iblk m c 9 t : S1x1024.Idx → EReal) (ix2 0 l) = (args m c).g (ix2 0 l) := by
  unfold args
  blk_simp [iblk]
  exact congrArg _ (by blk_ext [idx t])

/-- A part of the weights, as the arguments give it. -/
theorem ld7 (s n : ℕ) (inb : ∀ a, (![0, s, 0] : Fin 3 → ℕ) a + (![1, n, 1024] : Fin 3 → ℕ) a ≤ S1x6400x1024.size a) (k : Fin n) (l : Fin 1024)
    (h : s + k.val < 6400) :
    View.ld (iblk m c 7 t) (Rect.unit (s := S1x6400x1024) ![0, s, 0] ![1, n, 1024] inb) (ix3 0 k l) = (args m c).w (ix3 0 ⟨s + k.val, h⟩ l) :=
  (ld_rows (X := iblk m c 7 t) s n inb k l h).trans (blk7 m c t _ _)

/-- A point's product. -/
def prod : FVec Ideal S512x1024 .f32 := k0_pay6 (F := Ideal)
  (k0_pay4 (F := Ideal) (iblk m c 0 t) (View.ld (iblk m c 7 t) (Rect.unit ![0, 0, 0] ![1, 1024, 1024] inb_S1x6400x1024_S1x1024x1024_0_0_0))
    (iblk m c 1 t) (View.ld (iblk m c 7 t) (Rect.unit ![0, 1024, 0] ![1, 1024, 1024] inb_S1x6400x1024_S1x1024x1024_0_1024_0))
    (iblk m c 2 t) (View.ld (iblk m c 7 t) (Rect.unit ![0, 2048, 0] ![1, 1024, 1024] inb_S1x6400x1024_S1x1024x1024_0_2048_0))
    (iblk m c 3 t) (View.ld (iblk m c 7 t) (Rect.unit ![0, 3072, 0] ![1, 1024, 1024] inb_S1x6400x1024_S1x1024x1024_0_3072_0)))
  (k0_pay5 (F := Ideal) (iblk m c 4 t) (View.ld (iblk m c 7 t) (Rect.unit ![0, 4096, 0] ![1, 1024, 1024] inb_S1x6400x1024_S1x1024x1024_0_4096_0)))
  (iblk m c 5 t) (View.ld (iblk m c 7 t) (Rect.unit ![0, 5120, 0] ![1, 256, 1024] inb_S1x6400x1024_S1x256x1024_0_5120_0))
  (iblk m c 6 t) (View.ld (iblk m c 7 t) (Rect.unit ![0, 5376, 0] ![1, 1024, 1024] inb_S1x6400x1024_S1x1024x1024_0_5376_0))

theorem prod_eq (r : Fin 512) (l : Fin 1024) : prod m c t (ix2 r l) = dh (args m c) (rowOf t r) l := by
  unfold prod
  rw [prod_at, dh_pieces]
  simp only [blk0, blk1, blk2, blk3, blk4, blk5, blk6]
  refine congrArg₂ (· + ·) (congrArg₂ (· + ·) (congrArg₂ (· + ·) (congrArg₂ (· + ·) (congrArg₂ (· + ·) (congrArg₂ (· + ·) ?_ ?_) ?_) ?_) ?_) ?_) ?_ <;>
    exact Finset.sum_congr rfl fun e _ => congrArg (_ * ·) (ld7 m c t _ _ _ e l _)

/-- What a point leaves in its rows. -/
theorem rows_eq (r : Fin 512) (l : Fin 1024) : (outsAt0 m c t.val t.isLt).1 (ix2 r l) = dx (args m c) (rowOf t r) l := by
  have h : (outsAt0 m c t.val t.isLt).1 (ix2 r l) = dxRow (fun k => prod m c t (ix2 r k))
      (fun k => (iblk m c 9 t : S1x1024.Idx → EReal) (ix2 0 k)) (fun k => (iblk m c 8 t : S512x1024.Idx → EReal) (ix2 r k))
      (fun k => (iblk m c 10 t : S512x1024.Idx → EReal) (ix2 r k)) l := by
    by_cases h : t.val % 8 = 0
    · rw [outsAt0_A m c t h]
      dsimp only
      frame_out
      exact dx_at ..
    · rw [outsAt0_B m c t h]
      dsimp only
      frame_out
      exact dx_at ..
  refine h.trans ?_
  simp only [prod_eq, blk8, blk9, blk10]
  rfl

/-- What a point adds to the gain's gradient. -/
theorem added (l : Fin 1024) : (∑ r : Fin 512, prod m c t (ix2 r l) * (iblk m c 8 t : S512x1024.Idx → EReal) (ix2 r l) *
      scale fun k => (iblk m c 8 t : S512x1024.Idx → EReal) (ix2 r k)) = ∑ r : Fin 512, share (args m c) l (512 * t.val + r.val) :=
  Finset.sum_congr rfl fun r _ => by
    refine Eq.trans ?_ (share_of (args m c) l (512 * t.val + r.val) (rowOf t r).isLt).symm
    simp only [prod_eq, blk8]
    rfl

theorem gain_first (h : t.val % 8 = 0) (l : Fin 1024) : (outsAt0 m c t.val t.isLt).2 (ix2 0 l) =
    ∑ r : Fin 512, share (args m c) l (512 * t.val + r.val) := by
  rw [← added, outsAt0_A m c t h]
  dsimp only
  frame_out
  refine (dg_at ..).trans ?_
  have h0 : k0_pay3 (F := Ideal) (ix2 0 l) = 0 := by
    unfold k0_pay3
    pointwise
  rw [h0, zero_add]
  rfl

theorem gain_next (h : ¬t.val % 8 = 0) (l : Fin 1024) : (outsAt0 m c t.val t.isLt).2 (ix2 0 l) =
    (outsAt0 m c (t.val - 1) (Nat.lt_of_le_of_lt (Nat.sub_le _ _) t.isLt)).2 (ix2 0 l) + ∑ r : Fin 512, share (args m c) l (512 * t.val + r.val) := by
  rw [← added, outsAt0_B m c t h]
  dsimp only
  frame_out
  exact dg_at ..

/-- The gain's gradient after a point: the shares of the rows so far. -/
theorem gain_eq (l : Fin 1024) : ∀ (n : ℕ) (hn : n < cfg0.N), (outsAt0 m c n hn).2 (ix2 0 l) =
    ∑ r : Fin (512 * n + 512), share (args m c) l r.val := by
  intro n
  induction n with
  | zero =>
    intro hn
    refine (gain_first m c ⟨0, hn⟩ rfl l).trans ?_
    simp
  | succ n ih =>
    intro hn
    have h8 : n + 1 < 8 := hn
    refine (gain_next m c ⟨n + 1, hn⟩ (by dsimp only; omega) l).trans ?_
    rw [sum_two (share (args m c) l)]
    exact congrArg (· + _) (ih _)

theorem final11 : (dats m 0 c).arrAt 11 cfg0.N = fun i => dx (args m c) (i 0) (i 1) := by
  refine (dats m 0 c).arrAt_eq_of_covers 11 _ (by decide +kernel) fun t _ y => ?_
  blk_simp
  rw [after0_11]
  refine (congrArg (outsAt0 m c t.val t.isLt).1 (eq_ix2 y)).trans ((rows_eq m c t (y 0) (y 1)).trans (congrArg₂ (dx (args m c)) (Fin.ext ?_) (Fin.ext ?_)))
  · show 512 * t.val + (y 0).val = _
    blk_simp [idx t]
    omega
  · blk_simp [idx t]

/-- The last grid point. -/
def tLast : Fin cfg0.N := ⟨7, by decide⟩

theorem gain_last (i : S1x1024.Idx) : (outsAt0 m c 7 (by decide)).2 i = dg (args m c) (i 1) := by
  have h : i = ix2 0 (i 1) := (eq_ix2 i).trans (congrArg (ix2 · (i 1)) (Subsingleton.elim (α := Fin 1) _ _))
  rw [h]
  exact gain_eq m c (i 1) 7 (by decide)

theorem final12 : (dats m 0 c).arrAt 12 cfg0.N = fun i => dg (args m c) (i 1) := by
  refine (dats m 0 c).arrAt_eq_of_after_last 12 tLast (by decide +kernel) _ fun y => ?_
  blk_simp
  rw [after0_12]
  exact gain_last m c y

end Cert.KernelXIdeal.Words
-- ==== Proof.RefGradX.lean ====
/- The gradient of the projection's input and of the norm's gain: what the reference returns. -/
module

public import proofs.«01_k».proof.Proof.SpecX
public import proofs.«01_k».proof.Proof.Gen.ReferenceXIdeal.Read

@[expose] public section

set_option maxRecDepth 16384

noncomputable section

namespace Cert.ReferenceXIdeal.Value

open Idealize.ShloMosaic Idealize.SL.Sem Cert.ReferenceXIdeal Cert.ReferenceXIdeal.Gen Cert.ReferenceXIdeal.Read Cert.Join Cert.Norm Cert.SpecX

variable (A : Arrays)

theorem joined_eq (r : Fin 4096) (e : Fin 6400) : val_main_v0 (F := Ideal) A.p0 A.p1 A.p2 A.p3 A.p4 A.p5 A.p6 (ix2 r e) =
    joined A.p0 A.p1 A.p2 A.p3 A.p4 A.p5 A.p6 r e.val := joined_at A.p0 A.p1 A.p2 A.p3 A.p4 A.p5 A.p6 _ r e

theorem weight_eq (e : Fin 6400) (l : Fin 1024) : val_main_v4 (F := Ideal) A.w (ix2 l e) = A.w (ix3 0 e l) := by
  show val_main_v3 (F := Ideal) A.w (ix2 l e) = _
  rw [val_main_v3_apply, val_main_v2_apply]
  refine congrArg A.w (funext fun a => Fin.ext ?_)
  have he := e.isLt
  have hl := l.isLt
  match a with
  | ⟨0, _⟩ => rfl
  | ⟨1, _⟩ => show (e.val * 1024 + l.val) / 1024 % 6400 = e.val; omega
  | ⟨2, _⟩ => show (e.val * 1024 + l.val) % 1024 = l.val; omega

theorem prod_eq (r : Fin 4096) (l : Fin 1024) : val_main_v21 (F := Ideal) A.p0 A.p1 A.p2 A.p3 A.p4 A.p5 A.p6 A.w (ix2 r l) = dh A r l := by
  rw [val_main_v21_apply]
  refine Finset.sum_congr rfl fun e _ => congrArg₂ (fun a b : EReal => a * b) ?_ ?_
  · exact (congrArg (val_main_v0 (F := Ideal) A.p0 A.p1 A.p2 A.p3 A.p4 A.p5 A.p6) (eq_ix2 _)).trans (joined_eq A r e)
  · exact (congrArg (val_main_v4 (F := Ideal) A.w) (eq_ix2 _)).trans (weight_eq A e l)

theorem meanSq_at (r : Fin 4096) (a : Fin 1) : val_main_v11 (F := Ideal) A.x (ix2 r a) = meanSq (row A r) := by
  have h : val_main_v6 (F := Ideal) A.x (ix1 r) = ∑ k, row A r k * row A r k := by
    rw [val_main_v6_apply]
    refine (congrArg (· + _) Ideal.ofBits_zero_f32).trans ((zero_add _).trans (Finset.sum_congr rfl fun k _ => ?_))
    exact congrArg₂ (fun a b : EReal => a * b) (congrArg A.x (eq_ix2 _)) (congrArg A.x (eq_ix2 _))
  rw [val_main_v11_apply, val_main_v9_apply, val_main_v7_apply, val_main_v8_apply, val_main_v10_apply,
    show idx_main_v7 (ix2 r a) = ix1 r from eq_ix1 _, h]
  rfl

theorem scale_at (r : Fin 4096) (a : Fin 1) : val_main_v12 (F := Ideal) A.x (ix2 r a) = scale (row A r) :=
  congrArg Ideal.rsqrt (meanSq_at A r a)

theorem scaled_at (r : Fin 4096) (l : Fin 1024) : val_main_v17 (F := Ideal) A.x (ix2 r l) = A.x (ix2 r l) * scale (row A r) := by
  rw [val_main_v17_apply, val_main_v16_apply, show idx_main_v16 (ix2 r l) = ix2 r 0 from eq_ix2 _, scale_at]
  rfl

theorem gain_at (a : Fin 1) (l : Fin 1024) : val_main_v24 (F := Ideal) A.p0 A.p1 A.p2 A.p3 A.p4 A.p5 A.p6 A.w A.x (ix2 a l) = dg A l := by
  have h0 := a.isLt
  rw [val_main_v24_apply, show idx_main_v24 (ix2 a l) = ix1 l from (eq_ix1 _).trans (congrArg ix1 (Fin.ext (by show a.val * 1024 + l.val = _; omega))),
    val_main_v23_apply]
  refine (congrArg (· + _) Ideal.ofBits_zero_f32).trans ((zero_add _).trans (Finset.sum_congr rfl fun r _ => ?_))
  rw [val_main_v22_apply, show idx_main_v23 (ix1 l) r = ix2 r l from eq_ix2 _, scaled_at, prod_eq, share_of _ _ _ r.isLt]
  show A.x (ix2 r l) * scale (row A r) * dh A r l = dh A r l * A.x (ix2 r l) * scale (row A r)
  ac_rfl

theorem gained_at (r : Fin 4096) (l : Fin 1024) : val_main_v26 (F := Ideal) A.p0 A.p1 A.p2 A.p3 A.p4 A.p5 A.p6 A.w A.g (ix2 r l) =
    dh A r l * A.g (ix2 0 l) := by
  rw [val_main_v26_apply, val_main_v25_apply, show idx_main_v25 (ix2 r l) = ix2 0 l from eq_ix2 _, prod_eq]
  rfl

/-- The factor the mean's share has in every column of a row. -/
theorem factor_at (r : Fin 4096) : val_main_v36 (F := Ideal) A.p0 A.p1 A.p2 A.p3 A.p4 A.p5 A.p6 A.w A.x A.g (ix1 r) =
    Ideal.div ((∑ k, row A r k * (dh A r k * A.g (ix2 0 k))) * (mhalf * Ideal.div (scale (row A r)) (meanSq (row A r)))) size := by
  have h : val_main_v28 (F := Ideal) A.p0 A.p1 A.p2 A.p3 A.p4 A.p5 A.p6 A.w A.x A.g (ix1 r) = ∑ k, row A r k * (dh A r k * A.g (ix2 0 k)) := by
    rw [val_main_v28_apply]
    refine (congrArg (· + _) Ideal.ofBits_zero_f32).trans ((zero_add _).trans (Finset.sum_congr rfl fun k _ => ?_))
    rw [show idx_main_v28 (ix1 r) k = ix2 r k from eq_ix2 _, val_main_v27_apply, gained_at]
    rfl
  have h' : val_main_v29 (F := Ideal) A.p0 A.p1 A.p2 A.p3 A.p4 A.p5 A.p6 A.w A.x A.g (ix2 r 0) = ∑ k, row A r k * (dh A r k * A.g (ix2 0 k)) := by
    rw [val_main_v29_apply, ← h]
    exact congrArg _ ((eq_ix1 _).trans (congrArg ix1 (Fin.ext (by have := r.isLt; simp))))
  rw [val_main_v36_apply, Fin.sum_univ_one, show idx_main_v36 (ix1 r) 0 = ix2 r 0 from eq_ix2 _, val_main_v35_apply, val_main_v33_apply, h',
    val_main_v34_apply, val_main_v15_apply, val_main_v14_apply, val_main_v13_apply, scale_at, meanSq_at]
  exact (congrArg (· + _) Ideal.ofBits_zero_f32).trans (zero_add _)

theorem input_at (r : Fin 4096) (l : Fin 1024) : val_main_v41 (F := Ideal) A.p0 A.p1 A.p2 A.p3 A.p4 A.p5 A.p6 A.w A.x A.g A.past (ix2 r l) = dx A r l := by
  rw [val_main_v41_apply, val_main_v39_apply, val_main_v40_apply, val_main_v38_apply, val_main_v37_apply,
    val_main_v32_apply, val_main_v31_apply, val_main_v30_apply, show idx_main_v30 (ix2 r l) = ix2 r 0 from eq_ix2 _,
    show idx_main_v37 (ix2 r l) = ix1 r from eq_ix1 _, scale_at, gained_at]
  exact dxRow_eq (dh A r) (fun k => A.g (ix2 0 k)) (row A r) (fun k => A.past (ix2 r k)) l _ (factor_at A r)

theorem gain (i : S1x1024.Idx) : val_main_v24 (F := Ideal) A.p0 A.p1 A.p2 A.p3 A.p4 A.p5 A.p6 A.w A.x i = dg A (i 1) :=
  (congrArg _ (eq_ix2 i)).trans (gain_at A (i 0) (i 1))

theorem input (i : S4096x1024.Idx) : val_main_v41 (F := Ideal) A.p0 A.p1 A.p2 A.p3 A.p4 A.p5 A.p6 A.w A.x A.g A.past i = dx A (i 0) (i 1) :=
  (congrArg _ (eq_ix2 i)).trans (input_at A (i 0) (i 1))

/-- The reference's arguments. -/
def args (m : (ℓ : Loc nD τ sig) → Buf (Elt Ideal) ℓ) (c : Dev nD) : Arrays :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = (fun i => dx (args m c) (i 0) (i 1))
      ∧ r.2.mem ((c.tc : Thread nD τ).loc main_v24) = (fun i => dg (args m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans ((val_main_v41_eq m c).trans (funext (input (args m c)))),
      (h c).2.1.trans ((val_main_v24_eq (F := Ideal) _ _ _ _ _ _ _ _ _).trans (funext (gain (args m c)))), (h c).2.2⟩)
    (run m ρ)

end Cert.ReferenceXIdeal.Value
-- ==== Proof.SpecO.lean ====
/- The gradients of the output projection and of the norm after it: the specification. -/
module

public import proofs.«01_k».proof.Proof.Norm

@[expose] public section

set_option maxRecDepth 16384

noncomputable section

namespace Cert.SpecO

open Idealize.ShloMosaic Cert.Norm

abbrev Wide : Shape := ⟨2, ![4096, 1024]⟩

/-- The arguments: the gradient of the layer's output, the norm's input and gain, the weights, and the two groups of heads. -/
structure Arrays where
  d : FVec Ideal Wide .f32
  y : FVec Ideal Wide .f32
  g : FVec Ideal ⟨2, ![1, 1024]⟩ .f32
  w : FVec Ideal ⟨3, ![1, 2048, 1024]⟩ .bf16
  a : FVec Ideal Wide .bf16
  b : FVec Ideal Wide .bf16

/-- The two groups of heads side by side. -/
def both (a b : FVec Ideal Wide .bf16) (r : Fin 4096) (j : ℕ) : EReal :=
  if h : j < 1024 then a (ix2 r ⟨j, h⟩) else if h : j - 1024 < 1024 then b (ix2 r ⟨j - 1024, h⟩) else 0

theorem both_at (a b : FVec Ideal Wide .bf16) (hc : Shape.Concatenates [Wide, Wide] ⟨2, ![4096, 2048]⟩ 1) (r : Fin 4096) (j : Fin 2048) :
    concatenate ⟨2, ![4096, 2048]⟩ 1 [⟨Wide, a⟩, ⟨Wide, b⟩] hc (ix2 r j) = both a b r j.val := by
  have hj := j.isLt
  have h1 : ¬ j.val < 1024 → j.val - 1024 < 1024 := by omega
  pointwise
  unfold both
  refine dite_congr rfl (fun _ => rfl) fun h => ?_
  rw [dif_pos (h1 h)]

theorem both_left (a b : FVec Ideal Wide .bf16) (r : Fin 4096) (j : Fin 1024) : both a b r j.val = a (ix2 r j) := dif_pos j.isLt

theorem both_right (a b : FVec Ideal Wide .bf16) (r : Fin 4096) (j : Fin 1024) : both a b r (1024 + j.val) = b (ix2 r j) := by
  unfold both
  rw [dif_neg (by omega), dif_pos (by omega)]
  simp only [Nat.add_sub_cancel_left]

/-- The rows of the weights' gradient in its two halves. -/
def top (k : Fin 1024) : Fin 2048 := ⟨k.val, by omega⟩
def low (k : Fin 1024) : Fin 2048 := ⟨1024 + k.val, by omega⟩

theorem top_or_low (j : Fin 2048) : (∃ k, j = top k) ∨ ∃ k, j = low k := by
  have := j.isLt
  by_cases h : j.val < 1024
  · exact .inl ⟨⟨j.val, h⟩, rfl⟩
  · exact .inr ⟨⟨j.val - 1024, by omega⟩, Fin.ext (by show j.val = 1024 + (j.val - 1024); omega)⟩

variable (A : Arrays)

def row (r : Fin 4096) : Fin 1024 → EReal := fun k => A.y (ix2 r k)

/-- The gradient of the norm's input. -/
def dy (r : Fin 4096) (l : Fin 1024) : EReal := dxRow (fun k => A.d (ix2 r k)) (fun k => A.g (ix2 0 k)) (row A r) (fun _ => 0) l

/-- The gradient of the heads: the norm's gradient times the weights' rows. -/
def dh (r : Fin 4096) (j : Fin 2048) : EReal := ∑ l : Fin 1024, dy A r l * A.w (ix3 0 j l)

/-- A row's share of the weights' gradient, and of the gain's. -/
def shareW (j : ℕ) (l : Fin 1024) (n : ℕ) : EReal := if h : n < 4096 then both A.a A.b ⟨n, h⟩ j * dy A ⟨n, h⟩ l else 0
def share (l : Fin 1024) (n : ℕ) : EReal := if h : n < 4096 then A.d (ix2 ⟨n, h⟩ l) * A.y (ix2 ⟨n, h⟩ l) * scale (row A ⟨n, h⟩) else 0

/-- The gradients of the weights and of the gain. -/
def dw (j : Fin 2048) (l : Fin 1024) : EReal := ∑ r : Fin 4096, shareW A j.val l r.val
def dg (l : Fin 1024) : EReal := ∑ r : Fin 4096, share A l r.val

theorem shareW_of (j : ℕ) (l : Fin 1024) (n : ℕ) (h : n < 4096) : shareW A j l n = both A.a A.b ⟨n, h⟩ j * dy A ⟨n, h⟩ l := dif_pos h

theorem share_of (l : Fin 1024) (n : ℕ) (h : n < 4096) : share A l n = A.d (ix2 ⟨n, h⟩ l) * A.y (ix2 ⟨n, h⟩ l) * scale (row A ⟨n, h⟩) := dif_pos h

end Cert.SpecO
-- ==== Proof.GradO.lean ====
/- The gradients of the output projection and of the norm after it: what the kernel's grid leaves. -/
module

public import proofs.«01_k».proof.Proof.SpecO
public import proofs.«01_k».proof.Proof.Join
public import Idealize.ShloMosaic.Lib.Pipeline.ReadBack
public import Idealize.ShloMosaic.Lib.Pipeline.ValueKit
public import proofs.«01_k».proof.Proof.Gen.KernelOIdeal.Value

@[expose] public section

set_option maxRecDepth 16384

noncomputable section

namespace Cert.KernelOIdeal.Words

open Idealize.ShloMosaic Cert.KernelOIdeal Cert.KernelOIdeal.Gen Cert.Join Cert.Norm Cert.SpecO

/-! ## The stored values at an index -/

section tiles

variable (dy : FVec Ideal S512x1024 .f32) (y d : Vec Ideal S512x1024 .f32) (g acc : Vec Ideal S1x1024 .f32) (w : Vec Ideal S1x1024x1024 .bf16)
  (old : Vec Ideal S1024x1024 .f32) (o : Vec Ideal S512x1024 .bf16) (r : Fin 512) (a : Fin 1) (j l : Fin 1024)

theorem scale_at : k0_pay8 (F := Ideal) y (ix2 r a) = scale fun k => y (ix2 r k) := by
  unfold k0_pay8
  pointwise
  rfl

theorem dy_at : k0_pay9 (F := Ideal) y d g (ix2 r l) =
    dxRow (fun k => d (ix2 r k)) (fun k => g (ix2 0 k)) (fun k => y (ix2 r k)) (fun _ => 0) l := by
  unfold k0_pay9 dxRow
  rw [← scale_at y r 0, zero_add]
  generalize k0_pay8 (F := Ideal) y = s
  pointwise
  rfl

theorem dg_at : k0_pay10 (F := Ideal) y d acc (ix2 a l) =
    acc (ix2 a l) + ∑ r : Fin 512, d (ix2 r l) * y (ix2 r l) * scale fun k => y (ix2 r k) := by
  simp only [← scale_at y _ 0]
  unfold k0_pay10
  generalize k0_pay8 (F := Ideal) y = s
  pointwise

theorem left_at : k0_pay2 (F := Ideal) dy w (ix2 r j) = ∑ l : Fin 1024, dy (ix2 r l) * w (ix3 0 j l) := by
  unfold k0_pay2 k0_pay1
  pointwise

theorem right_at : k0_pay3 (F := Ideal) dy w (ix2 r j) = ∑ l : Fin 1024, dy (ix2 r l) * w (ix3 0 j l) := by
  unfold k0_pay3 k0_pay1
  pointwise

theorem upper_at : k0_pay4 (F := Ideal) dy old o (ix2 j l) = old (ix2 j l) + ∑ r : Fin 512, o (ix2 r j) * dy (ix2 r l) := by
  unfold k0_pay4 k0_pay1
  pointwise

theorem lower_at : k0_pay5 (F := Ideal) dy old o (ix2 j l) = old (ix2 j l) + ∑ r : Fin 512, o (ix2 r j) * dy (ix2 r l) := by
  unfold k0_pay5 k0_pay1
  pointwise

end tiles

section halves

variable (u v : Vec Ideal S1024x1024 .f32) (L : List (View.Piece (Elt Ideal) S2048x1024 .f32)) (k l : Fin 1024)

/-- Two stored halves, as one array. -/
def glued (i : S2048x1024.Idx) : EReal :=
  if h : (i 0).val < 1024 then u (ix2 ⟨(i 0).val, h⟩ (i 1)) else v (ix2 ⟨(i 0).val - 1024, by have : (i 0).val < 2048 := (i 0).isLt; omega⟩ (i 1))

theorem canon_glued (i : S2048x1024.Idx) :
    View.canon (⟨Rect.unit (s := S2048x1024) ![1024, 0] ![1024, 1024] inb_S2048x1024_S1024x1024_1024_0, v⟩ ::
      ⟨Rect.unit (s := S2048x1024) ![0, 0] ![1024, 1024] inb_S2048x1024_S1024x1024_0_0, u⟩ :: L) i = glued u v i := by
  let L' : List (View.Piece (Elt Ideal) S2048x1024 .f32) :=
    [⟨Rect.unit (s := S2048x1024) ![1024, 0] ![1024, 1024] inb_S2048x1024_S1024x1024_1024_0, v⟩,
      ⟨Rect.unit (s := S2048x1024) ![0, 0] ![1024, 1024] inb_S2048x1024_S1024x1024_0_0, u⟩]
  refine View.canon_append_of_piecesOf (glued u v) L L' ?_ i (View.cover_of_tiledL L' S1024x1024.size (by rfl) i)
  refine ⟨fun x => ?_, fun x => ?_, trivial⟩
  · unfold glued
    have hx : (x 0).val < 1024 := (x 0).isLt
    have h : ¬((Rect.unit (s := S2048x1024) ![1024, 0] ![1024, 1024] inb_S2048x1024_S1024x1024_1024_0).emb x 0).val < 1024 := by
      simp [Rect.emb, Rect.unit]
    rw [dif_neg h]
    refine congrArg v ((eq_ix2 x).trans (congrArg₂ ix2 (Fin.ext ?_) (Fin.ext ?_))) <;> simp [Rect.emb, Rect.unit]
  · unfold glued
    have hx : (x 0).val < 1024 := (x 0).isLt
    have h : ((Rect.unit (s := S2048x1024) ![0, 0] ![1024, 1024] inb_S2048x1024_S1024x1024_0_0).emb x 0).val < 1024 := by
      simpa [Rect.emb, Rect.unit] using hx
    rw [dif_pos h]
    refine congrArg u ((eq_ix2 x).trans (congrArg₂ ix2 (Fin.ext ?_) (Fin.ext ?_))) <;> simp [Rect.emb, Rect.unit]

theorem glued_top : glued u v (ix2 (top k) l) = u (ix2 k l) := dif_pos k.isLt

theorem glued_low : glued u v (ix2 (low k) l) = v (ix2 k l) :=
  (dif_neg (show ¬1024 + k.val < 1024 by omega)).trans
    (congrArg v (congrArg₂ ix2 (Fin.ext (by show 1024 + k.val - 1024 = k.val; omega)) rfl))

theorem ld_top (X : S2048x1024.Idx → Elt Ideal .f32) :
    View.ld X (Rect.unit (s := S2048x1024) ![0, 0] ![1024, 1024] inb_S2048x1024_S1024x1024_0_0) (ix2 k l) = X (ix2 (top k) l) := by
  refine congrArg X (funext fun a => Fin.ext ?_)
  match a with
  | ⟨0, _⟩ => simp [LoadRect.idx, Rect.emb, Rect.unit, top]
  | ⟨1, _⟩ => simp [LoadRect.idx, Rect.emb, Rect.unit]

theorem ld_low (X : S2048x1024.Idx → Elt Ideal .f32) :
    View.ld X (Rect.unit (s := S2048x1024) ![1024, 0] ![1024, 1024] inb_S2048x1024_S1024x1024_1024_0) (ix2 k l) = X (ix2 (low k) l) := by
  refine congrArg X (funext fun a => Fin.ext ?_)
  match a with
  | ⟨0, _⟩ => simp [LoadRect.idx, Rect.emb, Rect.unit, low]
  | ⟨1, _⟩ => simp [LoadRect.idx, Rect.emb, Rect.unit]

theorem zero_at (i : S2048x1024.Idx) : k0_pay6 (F := Ideal) i = 0 := by
  rw [eq_ix2 i]
  unfold k0_pay6
  pointwise

end halves

/-! ## The grid -/

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![0, 0] ∧
    win0_3.index t = ![0, 0, 0] ∧ win0_4.index t = ![t.val, 0] ∧ win0_5.index t = ![t.val, 0] ∧ win0_6.index t = ![t.val, 0] ∧
    win0_7.index t = ![t.val, 0] ∧ win0_8.index t = ![0, 0] ∧ win0_9.index t = ![0, 0] := (by decide +kernel : ∀ t : Fin grid0.N, _)

/-- The kernel's arguments. -/
def args : Arrays := ⟨V m c main_arg0, V m c main_arg1, V m c main_arg2, V m c main_arg3, V m c main_arg4, V m c main_arg5⟩

/-- A row of a point's block among all rows. -/
def rowOf (r : Fin 512) : Fin 4096 := ⟨512 * t.val + r.val, by have : t.val < 8 := t.isLt; omega⟩

theorem blk0 (r : Fin 512) (k : Fin 1024) : (iblk m c 0 t : S512x1024.Idx → EReal) (ix2 r k) = (args m c).d (ix2 (rowOf t r) k) := by
  unfold args
  blk_simp [iblk]
  exact congrArg _ (by unfold rowOf; blk_ext [idx t])

theorem blk1 (r : Fin 512) (k : Fin 1024) : (iblk m c 1 t : S512x1024.Idx → EReal) (ix2 r k) = (args m c).y (ix2 (rowOf t r) k) := by
  unfold args
  blk_simp [iblk]
  exact congrArg _ (by unfold rowOf; blk_ext [idx t])

theorem blk2 (l : Fin 1024) : (iblk m c 2 t : S1x1024.Idx → EReal) (ix2 0 l) = (args m c).g (ix2 0 l) := by
  unfold args
  blk_simp [iblk]
  exact congrArg _ (by blk_ext [idx t])

theorem blk3 (e : Fin 2048) (l : Fin 1024) : (iblk m c 3 t : S1x2048x1024.Idx → EReal) (ix3 0 e l) = (args m c).w (ix3 0 e l) := by
  unfold args
  blk_simp [iblk]
  exact congrArg _ (by blk_ext [idx t])

theorem blk4 (r : Fin 512) (k : Fin 1024) : (iblk m c 4 t : S512x1024.Idx → EReal) (ix2 r k) = (args m c).a (ix2 (rowOf t r) k) := by
  unfold args
  blk_simp [iblk]
  exact congrArg _ (by unfold rowOf; blk_ext [idx t])

theorem blk5 (r : Fin 512) (k : Fin 1024) : (iblk m c 5 t : S512x1024.Idx → EReal) (ix2 r k) = (args m c).b (ix2 (rowOf t r) k) := by
  unfold args
  blk_simp [iblk]
  exact congrArg _ (by unfold rowOf; blk_ext [idx t])

/-- A half of the weights' rows, as the arguments give it. -/
theorem ld3 (s : ℕ) (inb : ∀ a, (![0, s, 0] : Fin 3 → ℕ) a + (![1, 1024, 1024] : Fin 3 → ℕ) a ≤ S1x2048x1024.size a) (k l : Fin 1024)
    (h : s + k.val < 2048) :
    View.ld (iblk m c 3 t) (Rect.unit (s := S1x2048x1024) ![0, s, 0] ![1, 1024, 1024] inb) (ix3 0 k l) = (args m c).w (ix3 0 ⟨s + k.val, h⟩ l) := by
  refine Eq.trans (congrArg (iblk m c 3 t : S1x2048x1024.Idx → EReal) (funext fun a => Fin.ext ?_)) (blk3 m c t ⟨s + k.val, h⟩ l)
  match a with
  | ⟨0, _⟩ => simp [LoadRect.idx, Rect.emb, Rect.unit]
  | ⟨1, _⟩ => simp [LoadRect.idx, Rect.emb, Rect.unit]
  | ⟨2, _⟩ => simp [LoadRect.idx, Rect.emb, Rect.unit]

/-- A point's gradient of the norm's input. -/
def grad : FVec Ideal S512x1024 .f32 := k0_pay9 (F := Ideal) (iblk m c 1 t) (iblk m c 0 t) (iblk m c 2 t)

theorem grad_eq (r : Fin 512) (l : Fin 1024) : grad m c t (ix2 r l) = dy (args m c) (rowOf t r) l := by
  refine (dy_at ..).trans ?_
  simp only [blk0, blk1, blk2]
  rfl

/-- What a point leaves in its rows of the two groups' gradients. -/
theorem left_eq (r : Fin 512) (j : Fin 1024) : (outsAt0 m c t.val t.isLt).1 (ix2 r j) = dh (args m c) (rowOf t r) (top j) := by
  have h : (outsAt0 m c t.val t.isLt).1 (ix2 r j) = k0_pay2 (F := Ideal) (grad m c t)
      (View.ld (iblk m c 3 t) (Rect.unit ![0, 0, 0] ![1, 1024, 1024] inb_S1x2048x1024_S1x1024x1024_0_0_0)) (ix2 r j) := by
    by_cases h : t.val % 8 = 0
    · rw [outsAt0_A m c t h]
      dsimp only
      frame_out
      rfl
    · rw [outsAt0_B m c t h]
      dsimp only
      frame_out
      rfl
  refine h.trans ((left_at ..).trans (Finset.sum_congr rfl fun l _ => ?_))
  rw [grad_eq]
  refine congrArg (_ * ·) ((ld3 m c t 0 _ j l (by omega)).trans ?_)
  exact congrArg (args m c).w (congrArg (ix3 0 · l) (Fin.ext (Nat.zero_add _)))

theorem right_eq (r : Fin 512) (j : Fin 1024) : (outsAt0 m c t.val t.isLt).2.1 (ix2 r j) = dh (args m c) (rowOf t r) (low j) := by
  have h : (outsAt0 m c t.val t.isLt).2.1 (ix2 r j) = k0_pay3 (F := Ideal) (grad m c t)
      (View.ld (iblk m c 3 t) (Rect.unit ![0, 1024, 0] ![1, 1024, 1024] inb_S1x2048x1024_S1x1024x1024_0_1024_0)) (ix2 r j) := by
    by_cases h : t.val % 8 = 0
    · rw [outsAt0_A m c t h]
      dsimp only
      frame_out
      rfl
    · rw [outsAt0_B m c t h]
      dsimp only
      frame_out
      rfl
  refine h.trans ((right_at ..).trans (Finset.sum_congr rfl fun l _ => ?_))
  rw [grad_eq]
  exact congrArg (_ * ·) (ld3 m c t 1024 _ j l (by omega))

/-- What a point adds to the weights' gradient. -/
theorem added_top (o : S512x1024.Idx → EReal) (ho : ∀ r k, o (ix2 r k) = (args m c).a (ix2 (rowOf t r) k)) (k l : Fin 1024) :
    (∑ r : Fin 512, o (ix2 r k) * grad m c t (ix2 r l)) = ∑ r : Fin 512, shareW (args m c) (top k).val l (512 * t.val + r.val) :=
  Finset.sum_congr rfl fun r _ => by
    refine Eq.trans ?_ (shareW_of (args m c) (top k).val l (512 * t.val + r.val) (rowOf t r).isLt).symm
    rw [grad_eq, ho]
    exact congrArg (· * _) (both_left _ _ _ k).symm

theorem added_low (o : S512x1024.Idx → EReal) (ho : ∀ r k, o (ix2 r k) = (args m c).b (ix2 (rowOf t r) k)) (k l : Fin 1024) :
    (∑ r : Fin 512, o (ix2 r k) * grad m c t (ix2 r l)) = ∑ r : Fin 512, shareW (args m c) (low k).val l (512 * t.val + r.val) :=
  Finset.sum_congr rfl fun r _ => by
    refine Eq.trans ?_ (shareW_of (args m c) (low k).val l (512 * t.val + r.val) (rowOf t r).isLt).symm
    rw [grad_eq, ho]
    exact congrArg (· * _) (both_right _ _ _ k).symm

theorem weights_first (h : t.val % 8 = 0) (j : Fin 2048) (l : Fin 1024) : (outsAt0 m c t.val t.isLt).2.2.1 (ix2 j l) =
    ∑ r : Fin 512, shareW (args m c) j.val l (512 * t.val + r.val) := by
  rw [outsAt0_A m c t h]
  dsimp only
  frame_out
  simp (disch := decide) only [↓View.readCov_skip, ↓View.readCov_fill]
  refine (canon_glued _ _ _ _).trans ?_
  rcases top_or_low j with ⟨k, rfl⟩ | ⟨k, rfl⟩
  · rw [glued_top]
    refine (upper_at ..).trans ((congrArg₂ (· + ·) ((ld_top k l _).trans (zero_at _)) (added_top m c t _ (blk4 m c t) k l)).trans (zero_add _))
  · rw [glued_low]
    refine (lower_at ..).trans ((congrArg₂ (· + ·) ((ld_low k l _).trans (zero_at _)) (added_low m c t _ (blk5 m c t) k l)).trans (zero_add _))

theorem weights_next (h : ¬t.val % 8 = 0) (j : Fin 2048) (l : Fin 1024) : (outsAt0 m c t.val t.isLt).2.2.1 (ix2 j l) =
    (outsAt0 m c (t.val - 1) (Nat.lt_of_le_of_lt (Nat.sub_le _ _) t.isLt)).2.2.1 (ix2 j l) +
      ∑ r : Fin 512, shareW (args m c) j.val l (512 * t.val + r.val) := by
  rw [outsAt0_B m c t h]
  dsimp only
  frame_out
  refine (canon_glued _ _ _ _).trans ?_
  rcases top_or_low j with ⟨k, rfl⟩ | ⟨k, rfl⟩
  · rw [glued_top]
    exact (upper_at ..).trans (congrArg₂ (· + ·) (ld_top k l _) (added_top m c t _ (blk4 m c t) k l))
  · rw [glued_low]
    exact (lower_at ..).trans (congrArg₂ (· + ·) (ld_low k l _) (added_low m c t _ (blk5 m c t) k l))

/-- What a point adds to the gain's gradient. -/
theorem added (d y : S512x1024.Idx → EReal) (hd : ∀ r k, d (ix2 r k) = (args m c).d (ix2 (rowOf t r) k))
    (hy : ∀ r k, y (ix2 r k) = (args m c).y (ix2 (rowOf t r) k)) (l : Fin 1024) :
    (∑ r : Fin 512, d (ix2 r l) * y (ix2 r l) * scale fun k => y (ix2 r k)) = ∑ r : Fin 512, share (args m c) l (512 * t.val + r.val) :=
  Finset.sum_congr rfl fun r _ => by
    refine Eq.trans ?_ (share_of (args m c) l (512 * t.val + r.val) (rowOf t r).isLt).symm
    simp only [hd, hy]
    rfl

theorem gain_first (h : t.val % 8 = 0) (l : Fin 1024) : (outsAt0 m c t.val t.isLt).2.2.2 (ix2 0 l) =
    ∑ r : Fin 512, share (args m c) l (512 * t.val + r.val) := by
  rw [outsAt0_A m c t h]
  dsimp only
  frame_out
  have h0 : k0_pay7 (F := Ideal) (ix2 0 l) = 0 := by
    unfold k0_pay7
    pointwise
  exact (dg_at ..).trans ((congrArg₂ (· + ·) h0 (added m c t _ _ (blk0 m c t) (blk1 m c t) l)).trans (zero_add _))

theorem gain_next (h : ¬t.val % 8 = 0) (l : Fin 1024) : (outsAt0 m c t.val t.isLt).2.2.2 (ix2 0 l) =
    (outsAt0 m c (t.val - 1) (Nat.lt_of_le_of_lt (Nat.sub_le _ _) t.isLt)).2.2.2 (ix2 0 l) +
      ∑ r : Fin 512, share (args m c) l (512 * t.val + r.val) := by
  rw [outsAt0_B m c t h]
  dsimp only
  frame_out
  exact (dg_at ..).trans (congrArg (_ + ·) (added m c t _ _ (blk0 m c t) (blk1 m c t) l))

/-- The two carried gradients after a point: the shares of the rows so far. -/
theorem weights_eq (j : Fin 2048) (l : Fin 1024) : ∀ (n : ℕ) (hn : n < cfg0.N), (outsAt0 m c n hn).2.2.1 (ix2 j l) =
    ∑ r : Fin (512 * n + 512), shareW (args m c) j.val l r.val := by
  intro n
  induction n with
  | zero =>
    intro hn
    refine (weights_first m c ⟨0, hn⟩ rfl j l).trans ?_
    simp
  | succ n ih =>
    intro hn
    have h8 : n + 1 < 8 := hn
    refine (weights_next m c ⟨n + 1, hn⟩ (by dsimp only; omega) j l).trans ?_
    rw [sum_two (shareW (args m c) j.val l)]
    exact congrArg (· + _) (ih _)

theorem gain_eq (l : Fin 1024) : ∀ (n : ℕ) (hn : n < cfg0.N), (outsAt0 m c n hn).2.2.2 (ix2 0 l) =
    ∑ r : Fin (512 * n + 512), share (args m c) l r.val := by
  intro n
  induction n with
  | zero =>
    intro hn
    refine (gain_first m c ⟨0, hn⟩ rfl l).trans ?_
    simp
  | succ n ih =>
    intro hn
    have h8 : n + 1 < 8 := hn
    refine (gain_next m c ⟨n + 1, hn⟩ (by dsimp only; omega) l).trans ?_
    rw [sum_two (share (args m c) l)]
    exact congrArg (· + _) (ih _)

theorem final6 : (dats m 0 c).arrAt 6 cfg0.N = fun i => dh (args m c) (i 0) (top (i 1)) := by
  refine (dats m 0 c).arrAt_eq_of_covers 6 _ (by decide +kernel) fun t _ y => ?_
  blk_simp
  rw [after0_6]
  refine (congrArg (outsAt0 m c t.val t.isLt).1 (eq_ix2 y)).trans ((left_eq m c t (y 0) (y 1)).trans
    (congrArg₂ (fun a b => dh (args m c) a (top b)) (Fin.ext ?_) (Fin.ext ?_)))
  · show 512 * t.val + (y 0).val = _
    blk_simp [idx t]
    omega
  · blk_simp [idx t]

theorem final7 : (dats m 0 c).arrAt 7 cfg0.N = fun i => dh (args m c) (i 0) (low (i 1)) := by
  refine (dats m 0 c).arrAt_eq_of_covers 7 _ (by decide +kernel) fun t _ y => ?_
  blk_simp
  rw [after0_7]
  refine (congrArg (outsAt0 m c t.val t.isLt).2.1 (eq_ix2 y)).trans ((right_eq m c t (y 0) (y 1)).trans
    (congrArg₂ (fun a b => dh (args m c) a (low b)) (Fin.ext ?_) (Fin.ext ?_)))
  · show 512 * t.val + (y 0).val = _
    blk_simp [idx t]
    omega
  · blk_simp [idx t]

/-- The last grid point. -/
def tLast : Fin cfg0.N := ⟨7, by decide⟩

theorem weights_last (i : S2048x1024.Idx) : (outsAt0 m c 7 (by decide)).2.2.1 i = dw (args m c) (i 0) (i 1) :=
  (congrArg _ (eq_ix2 i)).trans (weights_eq m c (i 0) (i 1) 7 (by decide))

theorem gain_last (i : S1x1024.Idx) : (outsAt0 m c 7 (by decide)).2.2.2 i = dg (args m c) (i 1) := by
  have h : i = ix2 0 (i 1) := (eq_ix2 i).trans (congrArg (ix2 · (i 1)) (Subsingleton.elim (α := Fin 1) _ _))
  rw [h]
  exact gain_eq m c (i 1) 7 (by decide)

theorem final8 : (dats m 0 c).arrAt 8 cfg0.N = fun i => dw (args m c) (i 0) (i 1) := by
  refine (dats m 0 c).arrAt_eq_of_after_last 8 tLast (by decide +kernel) _ fun y => ?_
  blk_simp
  rw [after0_8]
  exact weights_last m c y

theorem final9 : (dats m 0 c).arrAt 9 cfg0.N = fun i => dg (args m c) (i 1) := by
  refine (dats m 0 c).arrAt_eq_of_after_last 9 tLast (by decide +kernel) _ fun y => ?_
  blk_simp
  rw [after0_9]
  exact gain_last m c y

end Cert.KernelOIdeal.Words
-- ==== Proof.RefGradO.lean ====
/- The gradients of the output projection and of the norm after it: what the reference returns. -/
module

public import proofs.«01_k».proof.Proof.SpecO
public import proofs.«01_k».proof.Proof.Gen.ReferenceOIdeal.Read

@[expose] public section

set_option maxRecDepth 16384

noncomputable section

namespace Cert.ReferenceOIdeal.Value

open Idealize.ShloMosaic Idealize.SL.Sem Cert.ReferenceOIdeal Cert.ReferenceOIdeal.Gen Cert.ReferenceOIdeal.Read Cert.Norm Cert.SpecO

variable (A : Arrays)

theorem both_eq (r : Fin 4096) (j : Fin 2048) : val_main_v35 (F := Ideal) A.a A.b (ix2 r j) = both A.a A.b r j.val := both_at A.a A.b concatenates_S4096x1024_S4096x1024_S4096x2048_d1 r j

theorem weight_eq (e : Fin 2048) (l : Fin 1024) : val_main_v37 (F := Ideal) A.w (ix2 e l) = A.w (ix3 0 e l) := by
  show val_main_v36 (F := Ideal) A.w (ix2 e l) = _
  rw [val_main_v36_apply]
  refine congrArg A.w (funext fun a => Fin.ext ?_)
  have he := e.isLt
  have hl := l.isLt
  match a with
  | ⟨0, _⟩ => rfl
  | ⟨1, _⟩ => show (e.val * 1024 + l.val) / 1024 % 2048 = e.val; omega
  | ⟨2, _⟩ => show (e.val * 1024 + l.val) % 1024 = l.val; omega

theorem meanSq_at (r : Fin 4096) (a : Fin 1) : val_main_v6 (F := Ideal) A.y (ix2 r a) = meanSq (row A r) := by
  have h : val_main_v1 (F := Ideal) A.y (ix1 r) = ∑ k, row A r k * row A r k := by
    rw [val_main_v1_apply]
    refine (congrArg (· + _) Ideal.ofBits_zero_f32).trans ((zero_add _).trans (Finset.sum_congr rfl fun k _ => ?_))
    exact congrArg₂ (fun a b : EReal => a * b) (congrArg A.y (eq_ix2 _)) (congrArg A.y (eq_ix2 _))
  rw [val_main_v6_apply, val_main_v4_apply, val_main_v2_apply, val_main_v3_apply, val_main_v5_apply,
    show idx_main_v2 (ix2 r a) = ix1 r from eq_ix1 _, h]
  rfl

theorem scale_at (r : Fin 4096) (a : Fin 1) : val_main_v7 (F := Ideal) A.y (ix2 r a) = scale (row A r) :=
  congrArg Ideal.rsqrt (meanSq_at A r a)

theorem scaled_at (r : Fin 4096) (l : Fin 1024) : val_main_v12 (F := Ideal) A.y (ix2 r l) = A.y (ix2 r l) * scale (row A r) := by
  rw [val_main_v12_apply, val_main_v11_apply, show idx_main_v11 (ix2 r l) = ix2 r 0 from eq_ix2 _, scale_at]
  rfl

theorem gain_at (a : Fin 1) (l : Fin 1024) : val_main_v17 (F := Ideal) A.d A.y (ix2 a l) = dg A l := by
  have h0 := a.isLt
  rw [val_main_v17_apply, show idx_main_v17 (ix2 a l) = ix1 l from (eq_ix1 _).trans (congrArg ix1 (Fin.ext (by show a.val * 1024 + l.val = _; omega))),
    val_main_v16_apply]
  refine (congrArg (· + _) Ideal.ofBits_zero_f32).trans ((zero_add _).trans (Finset.sum_congr rfl fun r _ => ?_))
  rw [val_main_v15_apply, show idx_main_v16 (ix1 l) r = ix2 r l from eq_ix2 _, scaled_at, share_of _ _ _ r.isLt]
  show A.y (ix2 r l) * scale (row A r) * A.d (ix2 r l) = A.d (ix2 r l) * A.y (ix2 r l) * scale (row A r)
  ac_rfl

theorem gained_at (r : Fin 4096) (l : Fin 1024) : val_main_v19 (F := Ideal) A.d A.g (ix2 r l) = A.d (ix2 r l) * A.g (ix2 0 l) := by
  rw [val_main_v19_apply, val_main_v18_apply, show idx_main_v18 (ix2 r l) = ix2 0 l from eq_ix2 _]
  rfl

/-- The factor the mean's share has in every column of a row. -/
theorem factor_at (r : Fin 4096) : val_main_v28 (F := Ideal) A.d A.y A.g (ix1 r) =
    Ideal.div ((∑ k, row A r k * (A.d (ix2 r k) * A.g (ix2 0 k))) * (mhalf * Ideal.div (scale (row A r)) (meanSq (row A r)))) size := by
  have h : val_main_v21 (F := Ideal) A.d A.y A.g (ix1 r) = ∑ k, row A r k * (A.d (ix2 r k) * A.g (ix2 0 k)) := by
    rw [val_main_v21_apply]
    refine (congrArg (· + _) Ideal.ofBits_zero_f32).trans ((zero_add _).trans (Finset.sum_congr rfl fun k _ => ?_))
    rw [show idx_main_v21 (ix1 r) k = ix2 r k from eq_ix2 _, val_main_v20_apply, gained_at]
    rfl
  have h' : val_main_v22 (F := Ideal) A.d A.y A.g (ix2 r 0) = ∑ k, row A r k * (A.d (ix2 r k) * A.g (ix2 0 k)) := by
    rw [val_main_v22_apply, ← h]
    exact congrArg _ ((eq_ix1 _).trans (congrArg ix1 (Fin.ext (by have := r.isLt; simp))))
  rw [val_main_v28_apply, Fin.sum_univ_one, show idx_main_v28 (ix1 r) 0 = ix2 r 0 from eq_ix2 _, val_main_v27_apply, val_main_v25_apply, h',
    val_main_v26_apply, val_main_v10_apply, val_main_v9_apply, val_main_v8_apply, scale_at, meanSq_at]
  exact (congrArg (· + _) Ideal.ofBits_zero_f32).trans (zero_add _)

theorem norm_at (r : Fin 4096) (l : Fin 1024) : val_main_v33 (F := Ideal) A.d A.y A.g (ix2 r l) = dy A r l := by
  rw [val_main_v33_apply, val_main_v31_apply, val_main_v32_apply, val_main_v30_apply, val_main_v29_apply,
    val_main_v24_apply, val_main_v23_apply, show idx_main_v23 (ix2 r l) = ix2 r 0 from eq_ix2 _,
    show idx_main_v29 (ix2 r l) = ix1 r from eq_ix1 _, scale_at, gained_at]
  refine Eq.trans ?_ (dxRow_eq (fun k => A.d (ix2 r k)) (fun k => A.g (ix2 0 k)) (row A r) (fun _ => 0) l _ (factor_at A r))
  rw [zero_add]
  rfl

theorem heads_at (r : Fin 4096) (j : Fin 2048) : val_main_v41 (F := Ideal) A.d A.y A.g A.w (ix2 r j) = dh A r j := by
  rw [val_main_v41_apply]
  refine Finset.sum_congr rfl fun l _ => congrArg₂ (fun a b : EReal => a * b) ?_ ?_
  · exact (congrArg (val_main_v33 (F := Ideal) A.d A.y A.g) (eq_ix2 _)).trans (norm_at A r l)
  · exact (congrArg (val_main_v37 (F := Ideal) A.w) (eq_ix2 _)).trans (weight_eq A j l)

theorem weights_at (j : Fin 2048) (l : Fin 1024) : val_main_v40 (F := Ideal) A.d A.y A.g A.a A.b (ix2 j l) = dw A j l := by
  rw [val_main_v40_apply, val_main_v39_apply]
  refine Finset.sum_congr rfl fun r _ => ?_
  rw [shareW_of _ _ _ _ r.isLt, mul_comm (both A.a A.b _ _)]
  refine congrArg₂ (fun a b : EReal => a * b) ?_ ?_
  · exact (congrArg (val_main_v33 (F := Ideal) A.d A.y A.g) (eq_ix2 _)).trans (norm_at A r l)
  · exact (congrArg (val_main_v35 (F := Ideal) A.a A.b) (eq_ix2 _)).trans (both_eq A r j)

theorem left (i : S4096x1024.Idx) : val_main_v42 (F := Ideal) A.d A.y A.g A.w i = dh A (i 0) (top (i 1)) := by
  rw [val_main_v42_apply]
  exact (congrArg _ ((eq_ix2 _).trans (congrArg₂ ix2 (Fin.ext (by simp)) (Fin.ext (by simp [top]))))).trans (heads_at A (i 0) (top (i 1)))

theorem right (i : S4096x1024.Idx) : val_main_v43 (F := Ideal) A.d A.y A.g A.w i = dh A (i 0) (low (i 1)) := by
  rw [val_main_v43_apply]
  exact (congrArg _ ((eq_ix2 _).trans (congrArg₂ ix2 (Fin.ext (by simp)) (Fin.ext (by simp [low]))))).trans (heads_at A (i 0) (low (i 1)))

theorem weights (i : S2048x1024.Idx) : val_main_v40 (F := Ideal) A.d A.y A.g A.a A.b i = dw A (i 0) (i 1) :=
  (congrArg _ (eq_ix2 i)).trans (weights_at A (i 0) (i 1))

theorem gain (i : S1x1024.Idx) : val_main_v17 (F := Ideal) A.d A.y i = dg A (i 1) :=
  (congrArg _ (eq_ix2 i)).trans (gain_at A (i 0) (i 1))

/-- The reference's arguments. -/
def args (m : (ℓ : Loc nD τ sig) → Buf (Elt Ideal) ℓ) (c : Dev nD) : Arrays :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5)⟩

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42) = (fun i => dh (args m c) (i 0) (top (i 1)))
      ∧ r.2.mem ((c.tc : Thread nD τ).loc main_v43) = (fun i => dh (args m c) (i 0) (low (i 1)))
      ∧ r.2.mem ((c.tc : Thread nD τ).loc main_v40) = (fun i => dw (args m c) (i 0) (i 1))
      ∧ r.2.mem ((c.tc : Thread nD τ).loc main_v17) = (fun i => dg (args m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v42_eq (F := Ideal) _ _ _ _).trans (funext (left (args m c)))),
      (h c).2.1.trans ((val_main_v43_eq (F := Ideal) _ _ _ _).trans (funext (right (args m c)))),
      (h c).2.2.1.trans ((val_main_v40_eq m c).trans (funext (weights (args m c)))),
      (h c).2.2.2.1.trans ((val_main_v17_eq (F := Ideal) _ _).trans (funext (gain (args m c)))), (h c).2.2.2.2⟩)
    (run m ρ)

end Cert.ReferenceOIdeal.Value
-- ==== Proof.SpecY.lean ====
/- The output projection with the norm after it: the specification. -/
module

public import proofs.«01_k».proof.Proof.SpecO

@[expose] public section

set_option maxRecDepth 16384

noncomputable section

namespace Cert.SpecY

open Idealize.ShloMosaic Cert.Norm Cert.SpecO

/-- The arguments: the two groups of heads, the weights, the layer's input and the norm's gain. -/
structure Arrays where
  a : FVec Ideal Wide .bf16
  b : FVec Ideal Wide .bf16
  w : FVec Ideal ⟨3, ![1, 2048, 1024]⟩ .bf16
  x : FVec Ideal Wide .f32
  g : FVec Ideal ⟨2, ![1, 1024]⟩ .f32

variable (A : Arrays)

/-- The projection of the heads side by side. -/
def y (r : Fin 4096) (l : Fin 1024) : EReal := ∑ j : Fin 2048, both A.a A.b r j.val * A.w (ix3 0 j l)

/-- The layer's output: its input and the scaled projection. -/
def out (r : Fin 4096) (l : Fin 1024) : EReal := A.x (ix2 r l) + y A r l * scale (y A r) * A.g (ix2 0 l)

theorem y_halves (r : Fin 4096) (l : Fin 1024) : y A r l =
    (∑ k : Fin 1024, A.a (ix2 r k) * A.w (ix3 0 (top k) l)) + ∑ k : Fin 1024, A.b (ix2 r k) * A.w (ix3 0 (low k) l) := by
  refine (Fin.sum_univ_add (a := 1024) (b := 1024) fun j => both A.a A.b r j.val * A.w (ix3 0 j l)).trans ?_
  refine congrArg₂ (· + ·) (Finset.sum_congr rfl fun k _ => ?_) (Finset.sum_congr rfl fun k _ => ?_)
  · exact congrArg (· * _) (both_left A.a A.b r k)
  · exact congrArg (· * _) (both_right A.a A.b r k)

end Cert.SpecY
-- ==== Proof.OutY.lean ====
/- The output projection with the norm after it: what the kernel's grid leaves. -/
module

public import proofs.«01_k».proof.Proof.SpecY
public import Idealize.ShloMosaic.Lib.Pipeline.ValueKit
public import proofs.«01_k».proof.Proof.Gen.KernelYIdeal.Value

@[expose] public section

set_option maxRecDepth 16384

noncomputable section

namespace Cert.KernelYIdeal.Words

open Idealize.ShloMosaic Cert.KernelYIdeal Cert.KernelYIdeal.Gen Cert.Norm Cert.SpecY
open Cert.SpecO (Wide both both_at top low)

/-! ## The stored values at an index -/

section tiles

variable (a b : Vec Ideal S512x1024 .bf16) (u v : Vec Ideal S1x1024x1024 .bf16) (x : Vec Ideal S512x1024 .f32) (g : Vec Ideal S1x1024 .f32)
  (r : Fin 512) (l : Fin 1024)

theorem prod_at : k0_pay1 (F := Ideal) a u b v (ix2 r l) =
    (∑ k : Fin 1024, a (ix2 r k) * u (ix3 0 k l)) + ∑ k : Fin 1024, b (ix2 r k) * v (ix3 0 k l) := by
  unfold k0_pay1
  pointwise

theorem out_at : k0_pay2 (F := Ideal) a u b v x g (ix2 r l) =
    x (ix2 r l) + k0_pay1 (F := Ideal) a u b v (ix2 r l) * (scale fun k => k0_pay1 (F := Ideal) a u b v (ix2 r k)) * g (ix2 0 l) := by
  unfold k0_pay2
  generalize k0_pay1 (F := Ideal) a u b v = s
  pointwise
  rfl

end tiles

/-! ## The grid -/

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![0, 0, 0] ∧
    win0_3.index t = ![t.val, 0] ∧ win0_4.index t = ![0, 0] ∧ win0_5.index t = ![t.val, 0] ∧ win0_6.index t = ![t.val, 0] :=
  (by decide +kernel : ∀ t : Fin grid0.N, _)

/-- The kernel's arguments. -/
def args : Arrays := ⟨V m c main_arg0, V m c main_arg1, V m c main_arg2, V m c main_arg3, V m c main_arg4⟩

/-- A row of a point's block among all rows. -/
def rowOf (r : Fin 512) : Fin 4096 := ⟨512 * t.val + r.val, by have : t.val < 8 := t.isLt; omega⟩

theorem blk0 (r : Fin 512) (k : Fin 1024) : (iblk m c 0 t : S512x1024.Idx → EReal) (ix2 r k) = (args m c).a (ix2 (rowOf t r) k) := by
  unfold args
  blk_simp [iblk]
  exact congrArg _ (by unfold rowOf; blk_ext [idx t])

theorem blk1 (r : Fin 512) (k : Fin 1024) : (iblk m c 1 t : S512x1024.Idx → EReal) (ix2 r k) = (args m c).b (ix2 (rowOf t r) k) := by
  unfold args
  blk_simp [iblk]
  exact congrArg _ (by unfold rowOf; blk_ext [idx t])

theorem blk2 (e : Fin 2048) (l : Fin 1024) : (iblk m c 2 t : S1x2048x1024.Idx → EReal) (ix3 0 e l) = (args m c).w (ix3 0 e l) := by
  unfold args
  blk_simp [iblk]
  exact congrArg _ (by blk_ext [idx t])

theorem blk3 (r : Fin 512) (k : Fin 1024) : (iblk m c 3 t : S512x1024.Idx → EReal) (ix2 r k) = (args m c).x (ix2 (rowOf t r) k) := by
  unfold args
  blk_simp [iblk]
  exact congrArg _ (by unfold rowOf; blk_ext [idx t])

theorem blk4 (l : Fin 1024) : (iblk m c 4 t : S1x1024.Idx → EReal) (ix2 0 l) = (args m c).g (ix2 0 l) := by
  unfold args
  blk_simp [iblk]
  exact congrArg _ (by blk_ext [idx t])

/-- A half of the weights' rows, as the arguments give it. -/
theorem ld2 (s : ℕ) (inb : ∀ a, (![0, s, 0] : Fin 3 → ℕ) a + (![1, 1024, 1024] : Fin 3 → ℕ) a ≤ S1x2048x1024.size a) (k l : Fin 1024)
    (h : s + k.val < 2048) :
    View.ld (iblk m c 2 t) (Rect.unit (s := S1x2048x1024) ![0, s, 0] ![1, 1024, 1024] inb) (ix3 0 k l) = (args m c).w (ix3 0 ⟨s + k.val, h⟩ l) := by
  refine Eq.trans (congrArg (iblk m c 2 t : S1x2048x1024.Idx → EReal) (funext fun a => Fin.ext ?_)) (blk2 m c t ⟨s + k.val, h⟩ l)
  match a with
  | ⟨0, _⟩ => simp [LoadRect.idx, Rect.emb, Rect.unit]
  | ⟨1, _⟩ => simp [LoadRect.idx, Rect.emb, Rect.unit]
  | ⟨2, _⟩ => simp [LoadRect.idx, Rect.emb, Rect.unit]

/-- A point's product. -/
def prod : FVec Ideal S512x1024 .f32 := k0_pay1 (F := Ideal) (iblk m c 0 t)
  (View.ld (iblk m c 2 t) (Rect.unit ![0, 0, 0] ![1, 1024, 1024] inb_S1x2048x1024_S1x1024x1024_0_0_0)) (iblk m c 1 t)
  (View.ld (iblk m c 2 t) (Rect.unit ![0, 1024, 0] ![1, 1024, 1024] inb_S1x2048x1024_S1x1024x1024_0_1024_0))

theorem prod_eq (r : Fin 512) (l : Fin 1024) : prod m c t (ix2 r l) = y (args m c) (rowOf t r) l := by
  unfold prod
  rw [prod_at, y_halves]
  simp only [blk0, blk1]
  refine congrArg₂ (· + ·) (Finset.sum_congr rfl fun k _ => congrArg (_ * ·) ?_) (Finset.sum_congr rfl fun k _ => congrArg (_ * ·) ?_)
  · exact (ld2 m c t 0 _ k l (by omega)).trans (congrArg (args m c).w (congrArg (ix3 0 · l) (Fin.ext (Nat.zero_add _))))
  · exact ld2 m c t 1024 _ k l (by omega)

theorem left_y (r : Fin 512) (l : Fin 1024) :
    out0_6 (F := Ideal) (iblk m c 0 t) (iblk m c 1 t) (iblk m c 2 t) (iblk m c 3 t) (iblk m c 4 t) (ix2 r l) = y (args m c) (rowOf t r) l := by
  refine Eq.trans ?_ (prod_eq m c t r l)
  frame_out
  rfl

theorem out_of (x : S512x1024.Idx → EReal) (g : S1x1024.Idx → EReal) (hx : ∀ r k, x (ix2 r k) = (args m c).x (ix2 (rowOf t r) k))
    (hg : ∀ l, g (ix2 0 l) = (args m c).g (ix2 0 l)) (r : Fin 512) (l : Fin 1024) :
    x (ix2 r l) + prod m c t (ix2 r l) * (scale fun k => prod m c t (ix2 r k)) * g (ix2 0 l) = out (args m c) (rowOf t r) l := by
  simp only [prod_eq, hx, hg]
  rfl

theorem left_out (r : Fin 512) (l : Fin 1024) :
    out0_5 (F := Ideal) (iblk m c 0 t) (iblk m c 1 t) (iblk m c 2 t) (iblk m c 3 t) (iblk m c 4 t) (ix2 r l) = out (args m c) (rowOf t r) l := by
  frame_out
  exact (out_at ..).trans (out_of m c t _ _ (blk3 m c t) (blk4 m c t) r l)

theorem final5 : (dats m 0 c).arrAt 5 cfg0.N = fun i => out (args m c) (i 0) (i 1) := by
  refine (dats m 0 c).arrAt_eq_of_covers 5 _ (by decide +kernel) fun t _ z => ?_
  blk_simp
  rw [after0_5]
  refine (congrArg (out0_5 (F := Ideal) (iblk m c 0 t) (iblk m c 1 t) (iblk m c 2 t) (iblk m c 3 t) (iblk m c 4 t)) (eq_ix2 z)).trans
    ((left_out m c t (z 0) (z 1)).trans (congrArg₂ (out (args m c)) (Fin.ext ?_) (Fin.ext ?_)))
  · show 512 * t.val + (z 0).val = _
    blk_simp [idx t]
    omega
  · blk_simp [idx t]

theorem final6 : (dats m 0 c).arrAt 6 cfg0.N = fun i => y (args m c) (i 0) (i 1) := by
  refine (dats m 0 c).arrAt_eq_of_covers 6 _ (by decide +kernel) fun t _ z => ?_
  blk_simp
  rw [after0_6]
  refine (congrArg (out0_6 (F := Ideal) (iblk m c 0 t) (iblk m c 1 t) (iblk m c 2 t) (iblk m c 3 t) (iblk m c 4 t)) (eq_ix2 z)).trans
    ((left_y m c t (z 0) (z 1)).trans (congrArg₂ (y (args m c)) (Fin.ext ?_) (Fin.ext ?_)))
  · show 512 * t.val + (z 0).val = _
    blk_simp [idx t]
    omega
  · blk_simp [idx t]

end Cert.KernelYIdeal.Words
-- ==== Proof.RefOutY.lean ====
/- The output projection with the norm after it: what the reference returns. -/
module

public import proofs.«01_k».proof.Proof.SpecY
public import proofs.«01_k».proof.Proof.Gen.ReferenceYIdeal.Read

@[expose] public section

set_option maxRecDepth 16384

noncomputable section

namespace Cert.ReferenceYIdeal.Value

open Idealize.ShloMosaic Idealize.SL.Sem Cert.ReferenceYIdeal Cert.ReferenceYIdeal.Gen Cert.ReferenceYIdeal.Read Cert.Norm Cert.SpecY
open Cert.SpecO (Wide both both_at top low)

variable (A : Arrays)

theorem both_eq (r : Fin 4096) (j : Fin 2048) : val_main_v1 (F := Ideal) A.a A.b (ix2 r j) = both A.a A.b r j.val :=
  both_at A.a A.b concatenates_S4096x1024_S4096x1024_S4096x2048_d1 r j

theorem weight_eq (e : Fin 2048) (l : Fin 1024) : val_main_v3 (F := Ideal) A.w (ix2 e l) = A.w (ix3 0 e l) := by
  show val_main_v2 (F := Ideal) A.w (ix2 e l) = _
  rw [val_main_v2_apply]
  refine congrArg A.w (funext fun a => Fin.ext ?_)
  have he := e.isLt
  have hl := l.isLt
  match a with
  | ⟨0, _⟩ => rfl
  | ⟨1, _⟩ => show (e.val * 1024 + l.val) / 1024 % 2048 = e.val; omega
  | ⟨2, _⟩ => show (e.val * 1024 + l.val) % 1024 = l.val; omega

theorem prod_at (r : Fin 4096) (l : Fin 1024) : val_main_v4 (F := Ideal) A.a A.b A.w (ix2 r l) = y A r l := by
  rw [val_main_v4_apply]
  refine Finset.sum_congr rfl fun j _ => congrArg₂ (fun a b : EReal => a * b) ?_ ?_
  · exact (congrArg (val_main_v1 (F := Ideal) A.a A.b) (eq_ix2 _)).trans (both_eq A r j)
  · exact (congrArg (val_main_v3 (F := Ideal) A.w) (eq_ix2 _)).trans (weight_eq A j l)

theorem meanSq_at (r : Fin 4096) (a : Fin 1) : val_main_v11 (F := Ideal) A.a A.b A.w (ix2 r a) = meanSq (y A r) := by
  have h : val_main_v6 (F := Ideal) A.a A.b A.w (ix1 r) = ∑ k, y A r k * y A r k := by
    rw [val_main_v6_apply]
    refine (congrArg (· + _) Ideal.ofBits_zero_f32).trans ((zero_add _).trans (Finset.sum_congr rfl fun k _ => ?_))
    rw [show idx_main_v6 (ix1 r) k = ix2 r k from eq_ix2 _, val_main_v5_apply, prod_at]
    rfl
  rw [val_main_v11_apply, val_main_v9_apply, val_main_v7_apply, val_main_v8_apply, val_main_v10_apply,
    show idx_main_v7 (ix2 r a) = ix1 r from eq_ix1 _, h]
  rfl

theorem scale_at (r : Fin 4096) (a : Fin 1) : val_main_v12 (F := Ideal) A.a A.b A.w (ix2 r a) = scale (y A r) :=
  congrArg Ideal.rsqrt (meanSq_at A r a)

theorem out_at (r : Fin 4096) (l : Fin 1024) : val_main_v17 (F := Ideal) A.a A.b A.w A.x A.g (ix2 r l) = out A r l := by
  rw [val_main_v17_apply, val_main_v16_apply, val_main_v14_apply, val_main_v13_apply, val_main_v15_apply,
    show idx_main_v13 (ix2 r l) = ix2 r 0 from eq_ix2 _, show idx_main_v15 (ix2 r l) = ix2 0 l from eq_ix2 _, scale_at, prod_at]
  rfl

theorem projected (i : S4096x1024.Idx) : val_main_v4 (F := Ideal) A.a A.b A.w i = y A (i 0) (i 1) :=
  (congrArg _ (eq_ix2 i)).trans (prod_at A (i 0) (i 1))

theorem output (i : S4096x1024.Idx) : val_main_v17 (F := Ideal) A.a A.b A.w A.x A.g i = out A (i 0) (i 1) :=
  (congrArg _ (eq_ix2 i)).trans (out_at A (i 0) (i 1))

/-- The reference's arguments. -/
def args (m : (ℓ : Loc nD τ sig) → Buf (Elt Ideal) ℓ) (c : Dev nD) : Arrays :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = (fun i => out (args m c) (i 0) (i 1))
      ∧ r.2.mem ((c.tc : Thread nD τ).loc main_v4) = (fun i => y (args m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v17_eq (F := Ideal) _ _ _ _ _).trans (funext (output (args m c)))),
      (h c).2.1.trans ((val_main_v4_eq (F := Ideal) _ _ _).trans (funext (projected (args m c)))), (h c).2.2⟩)
    (run m ρ)

end Cert.ReferenceYIdeal.Value
-- ==== Proof.SpecL.lean ====
/- The last layer's output projection with the loss: the specification. -/
module

public import proofs.«01_k».proof.Proof.SpecY

@[expose] public section

set_option maxRecDepth 16384

noncomputable section

namespace Cert.SpecL

open Idealize.ShloMosaic Cert.Norm Cert.SpecO

/-- The constants, as both programs print them. -/
def inv : EReal := Ideal.ofBits .f32 0x3A800000#32
def step : EReal := Ideal.ofBits .f32 0x3A000000#32
def half : EReal := Ideal.ofBits .f32 0x3F000000#32
def one : EReal := Ideal.ofBits .f32 0x3F800000#32
def two : EReal := Ideal.ofBits .f32 0x40000000#32

theorem inv_eq : inv = ((1 / 1024 : ℝ) : EReal) := by
  simp [inv, Ideal.ofBits, Ideal.ieee, -EReal.coe_mul]; norm_num

theorem step_eq : step = ((1 / 2048 : ℝ) : EReal) := by
  simp [step, Ideal.ofBits, Ideal.ieee, -EReal.coe_mul]; norm_num

theorem half_eq : half = ((1 / 2 : ℝ) : EReal) := by
  simp [half, Ideal.ofBits, Ideal.ieee, -EReal.coe_mul]; norm_num

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

theorem half_over : half * size⁻¹ = step := by
  rw [half_eq, step_eq, size_eq, ← EReal.coe_inv, ← EReal.coe_mul]
  norm_num

/-- The derivative's factors come to the kernel's constant. -/
theorem factors (a : EReal) : Ideal.div (half * one) size * (two * a) = a * inv := by
  rw [div_size, ← mul_assoc, mul_comm]
  congr 1
  rw [half_eq, one_eq, two_eq, inv_eq, size_eq, ← EReal.coe_inv, ← EReal.coe_mul, ← EReal.coe_mul, ← EReal.coe_mul]
  norm_num

/-- A factor comes out of a sum of terms that are not negative. -/
theorem sum_mul_of_nonneg {n : ℕ} (f : Fin n → EReal) (hf : ∀ i, 0 ≤ f i) (a : EReal) : (∑ i, f i) * a = ∑ i, f i * a := by
  induction n with
  | zero => simp
  | succ n ih =>
    rw [Fin.sum_univ_succ, Fin.sum_univ_succ, EReal.right_distrib_of_nonneg (hf 0) (Finset.sum_nonneg fun i _ => hf _),
      ih (fun i => f i.succ) fun i => hf _]

/-- The arguments: those of the projection, and the target. -/
structure Arrays where
  base : SpecY.Arrays
  t : FVec Ideal Wide .f32

variable (A : Arrays)

/-- The layer's output less the target. -/
def err (r : Fin 4096) (l : Fin 1024) : EReal := SpecY.out A.base r l - A.t (ix2 r l)

/-- The loss's gradient with respect to the layer's output. -/
def d (r : Fin 4096) (l : Fin 1024) : EReal := err A r l * inv

/-- A row's sum of squares. -/
def squares (n : ℕ) : EReal := if h : n < 4096 then ∑ k : Fin 1024, err A ⟨n, h⟩ k * err A ⟨n, h⟩ k else 0

theorem squares_of (n : ℕ) (h : n < 4096) : squares A n = ∑ k : Fin 1024, err A ⟨n, h⟩ k * err A ⟨n, h⟩ k := dif_pos h

theorem squares_nonneg (n : ℕ) : 0 ≤ squares A n := by
  unfold squares
  split
  · exact Finset.sum_nonneg fun k _ => sq_nonneg _
  · exact le_rfl

/-- The loss: half of the sum over the rows of the mean squares. -/
def loss : EReal := (∑ r : Fin 4096, squares A r.val) * step

/-- The loss, as the reference has it. -/
theorem loss_means : half * ∑ r : Fin 4096, Ideal.div (squares A r.val) size = loss A := by
  simp only [div_size]
  rw [← sum_mul_of_nonneg _ fun r => squares_nonneg A r.val, mul_left_comm, half_over]
  rfl

/-- The loss of some rows, and of further rows. -/
theorem loss_two (a b : ℕ) : (∑ r : Fin (a + b), squares A r.val) * step =
    (∑ r : Fin a, squares A r.val) * step + (∑ r : Fin b, squares A (a + r.val)) * step := by
  rw [show (∑ r : Fin (a + b), squares A r.val) = (∑ r : Fin a, squares A r.val) + ∑ r : Fin b, squares A (a + r.val) by
    simpa using Fin.sum_univ_add (fun r : Fin (a + b) => squares A r.val)]
  exact EReal.right_distrib_of_nonneg (Finset.sum_nonneg fun r _ => squares_nonneg A _) (Finset.sum_nonneg fun r _ => squares_nonneg A _)

end Cert.SpecL
-- ==== Proof.LossL.lean ====
/- The last layer's output projection with the loss: what the kernel's grid leaves. -/
module

public import proofs.«01_k».proof.Proof.SpecL
public import Idealize.ShloMosaic.Lib.Pipeline.ReadBack
public import Idealize.ShloMosaic.Lib.Pipeline.ValueKit
public import proofs.«01_k».proof.Proof.Gen.KernelLIdeal.Value

@[expose] public section

set_option maxRecDepth 16384

noncomputable section

namespace Cert.KernelLIdeal.Words

open Idealize.ShloMosaic Cert.KernelLIdeal Cert.KernelLIdeal.Gen Cert.Norm Cert.SpecL
open Cert.SpecY (y y_halves)
open Cert.SpecO (Wide both both_at top low)

/-! ## The stored values at an index -/

section tiles

variable (a b : Vec Ideal S512x1024 .bf16) (u v : Vec Ideal S1x1024x1024 .bf16) (x t e : Vec Ideal S512x1024 .f32) (g : Vec Ideal S1x1024 .f32)
  (acc : Vec Ideal S8x128 .f32) (r : Fin 512) (l : Fin 1024)

theorem prod_at : k0_pay4 (F := Ideal) a u b v (ix2 r l) =
    (∑ k : Fin 1024, a (ix2 r k) * u (ix3 0 k l)) + ∑ k : Fin 1024, b (ix2 r k) * v (ix3 0 k l) := by
  unfold k0_pay4
  pointwise

theorem err_at : k0_pay5 (F := Ideal) a u b v x g t (ix2 r l) =
    x (ix2 r l) + k0_pay4 (F := Ideal) a u b v (ix2 r l) * (scale fun k => k0_pay4 (F := Ideal) a u b v (ix2 r k)) * g (ix2 0 l) - t (ix2 r l) := by
  unfold k0_pay5
  generalize k0_pay4 (F := Ideal) a u b v = s
  pointwise
  rfl

theorem d_at : k0_pay1 (F := Ideal) e (k0_pay6 (F := Ideal)) (ix2 r l) = e (ix2 r l) * inv := by
  unfold k0_pay1 k0_pay6
  pointwise
  rfl

theorem loss_at (p : Fin 8) (q : Fin 128) : k0_pay2 (F := Ideal) e acc (ix2 p q) =
    acc (ix2 p q) + (∑ r : Fin 512, ∑ k : Fin 1024, e (ix2 r k) * e (ix2 r k)) * step := by
  unfold k0_pay2
  pointwise
  rfl

end tiles

/-! ## The grid -/

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![0, 0, 0] ∧
    win0_3.index t = ![t.val, 0] ∧ win0_4.index t = ![0, 0] ∧ win0_5.index t = ![t.val, 0] ∧ win0_6.index t = ![t.val, 0] ∧
    win0_7.index t = ![t.val, 0] ∧ win0_8.index t = ![0, 0] :=
  (by decide +kernel : ∀ t : Fin grid0.N, _)

/-- The kernel's arguments. -/
def args : Arrays := ⟨⟨V m c main_arg0, V m c main_arg1, V m c main_arg2, V m c main_arg3, V m c main_arg4⟩, V m c main_arg5⟩

/-- A row of a point's block among all rows. -/
def rowOf (r : Fin 512) : Fin 4096 := ⟨512 * t.val + r.val, by have : t.val < 8 := t.isLt; omega⟩

theorem blk0 (r : Fin 512) (k : Fin 1024) : (iblk m c 0 t : S512x1024.Idx → EReal) (ix2 r k) = (args m c).base.a (ix2 (rowOf t r) k) := by
  unfold args
  blk_simp [iblk]
  exact congrArg _ (by unfold rowOf; blk_ext [idx t])

theorem blk1 (r : Fin 512) (k : Fin 1024) : (iblk m c 1 t : S512x1024.Idx → EReal) (ix2 r k) = (args m c).base.b (ix2 (rowOf t r) k) := by
  unfold args
  blk_simp [iblk]
  exact congrArg _ (by unfold rowOf; blk_ext [idx t])

theorem blk2 (e : Fin 2048) (l : Fin 1024) : (iblk m c 2 t : S1x2048x1024.Idx → EReal) (ix3 0 e l) = (args m c).base.w (ix3 0 e l) := by
  unfold args
  blk_simp [iblk]
  exact congrArg _ (by blk_ext [idx t])

theorem blk3 (r : Fin 512) (k : Fin 1024) : (iblk m c 3 t : S512x1024.Idx → EReal) (ix2 r k) = (args m c).base.x (ix2 (rowOf t r) k) := by
  unfold args
  blk_simp [iblk]
  exact congrArg _ (by unfold rowOf; blk_ext [idx t])

theorem blk4 (l : Fin 1024) : (iblk m c 4 t : S1x1024.Idx → EReal) (ix2 0 l) = (args m c).base.g (ix2 0 l) := by
  unfold args
  blk_simp [iblk]
  exact congrArg _ (by blk_ext [idx t])

theorem blk5 (r : Fin 512) (k : Fin 1024) : (iblk m c 5 t : S512x1024.Idx → EReal) (ix2 r k) = (args m c).t (ix2 (rowOf t r) k) := by
  unfold args
  blk_simp [iblk]
  exact congrArg _ (by unfold rowOf; blk_ext [idx t])

/-- A half of the weights' rows, as the arguments give it. -/
theorem ld2 (s : ℕ) (inb : ∀ a, (![0, s, 0] : Fin 3 → ℕ) a + (![1, 1024, 1024] : Fin 3 → ℕ) a ≤ S1x2048x1024.size a) (k l : Fin 1024)
    (h : s + k.val < 2048) :
    View.ld (iblk m c 2 t) (Rect.unit (s := S1x2048x1024) ![0, s, 0] ![1, 1024, 1024] inb) (ix3 0 k l) = (args m c).base.w (ix3 0 ⟨s + k.val, h⟩ l) := by
  refine Eq.trans (congrArg (iblk m c 2 t : S1x2048x1024.Idx → EReal) (funext fun a => Fin.ext ?_)) (blk2 m c t ⟨s + k.val, h⟩ l)
  match a with
  | ⟨0, _⟩ => simp [LoadRect.idx, Rect.emb, Rect.unit]
  | ⟨1, _⟩ => simp [LoadRect.idx, Rect.emb, Rect.unit]
  | ⟨2, _⟩ => simp [LoadRect.idx, Rect.emb, Rect.unit]

/-- A point's product. -/
def prod : FVec Ideal S512x1024 .f32 := k0_pay4 (F := Ideal) (iblk m c 0 t)
  (View.ld (iblk m c 2 t) (Rect.unit ![0, 0, 0] ![1, 1024, 1024] inb_S1x2048x1024_S1x1024x1024_0_0_0)) (iblk m c 1 t)
  (View.ld (iblk m c 2 t) (Rect.unit ![0, 1024, 0] ![1, 1024, 1024] inb_S1x2048x1024_S1x1024x1024_0_1024_0))

theorem prod_eq (r : Fin 512) (l : Fin 1024) : prod m c t (ix2 r l) = y (args m c).base (rowOf t r) l := by
  unfold prod
  rw [prod_at, y_halves]
  simp only [blk0, blk1]
  refine congrArg₂ (· + ·) (Finset.sum_congr rfl fun k _ => congrArg (_ * ·) ?_) (Finset.sum_congr rfl fun k _ => congrArg (_ * ·) ?_)
  · exact (ld2 m c t 0 _ k l (by omega)).trans (congrArg (args m c).base.w (congrArg (ix3 0 · l) (Fin.ext (Nat.zero_add _))))
  · exact ld2 m c t 1024 _ k l (by omega)

/-- A point's rows less the target. -/
def less : FVec Ideal S512x1024 .f32 := k0_pay5 (F := Ideal) (iblk m c 0 t)
  (View.ld (iblk m c 2 t) (Rect.unit ![0, 0, 0] ![1, 1024, 1024] inb_S1x2048x1024_S1x1024x1024_0_0_0)) (iblk m c 1 t)
  (View.ld (iblk m c 2 t) (Rect.unit ![0, 1024, 0] ![1, 1024, 1024] inb_S1x2048x1024_S1x1024x1024_0_1024_0))
  (iblk m c 3 t) (iblk m c 4 t) (iblk m c 5 t)

theorem less_of (x u : S512x1024.Idx → EReal) (g : S1x1024.Idx → EReal) (hx : ∀ r k, x (ix2 r k) = (args m c).base.x (ix2 (rowOf t r) k))
    (hg : ∀ l, g (ix2 0 l) = (args m c).base.g (ix2 0 l)) (hu : ∀ r k, u (ix2 r k) = (args m c).t (ix2 (rowOf t r) k)) (r : Fin 512) (l : Fin 1024) :
    x (ix2 r l) + prod m c t (ix2 r l) * (scale fun k => prod m c t (ix2 r k)) * g (ix2 0 l) - u (ix2 r l) = err (args m c) (rowOf t r) l := by
  simp only [prod_eq, hx, hg, hu]
  rfl

theorem less_eq (r : Fin 512) (l : Fin 1024) : less m c t (ix2 r l) = err (args m c) (rowOf t r) l :=
  (err_at ..).trans (less_of m c t _ _ _ (blk3 m c t) (blk4 m c t) (blk5 m c t) r l)

theorem left_d (r : Fin 512) (l : Fin 1024) : (outsAt0 m c t.val t.isLt).1 (ix2 r l) = d (args m c) (rowOf t r) l := by
  have h : (outsAt0 m c t.val t.isLt).1 (ix2 r l) = less m c t (ix2 r l) * inv := by
    by_cases h : t.val % 8 = 0
    · rw [outsAt0_A m c t h]
      dsimp only
      frame_out
      exact d_at ..
    · rw [outsAt0_B m c t h]
      dsimp only
      frame_out
      exact d_at ..
  rw [h, less_eq]
  rfl

theorem left_y (r : Fin 512) (l : Fin 1024) : (outsAt0 m c t.val t.isLt).2.1 (ix2 r l) = y (args m c).base (rowOf t r) l := by
  refine Eq.trans ?_ (prod_eq m c t r l)
  by_cases h : t.val % 8 = 0
  · rw [outsAt0_A m c t h]
    dsimp only
    frame_out
    rfl
  · rw [outsAt0_B m c t h]
    dsimp only
    frame_out
    rfl

/-- What a point adds to the loss. -/
theorem added : (∑ r : Fin 512, ∑ k : Fin 1024, less m c t (ix2 r k) * less m c t (ix2 r k)) =
    ∑ r : Fin 512, squares (args m c) (512 * t.val + r.val) :=
  Finset.sum_congr rfl fun r _ => by
    refine Eq.trans ?_ (squares_of (args m c) (512 * t.val + r.val) (rowOf t r).isLt).symm
    simp only [less_eq]
    rfl

theorem loss_first (h : t.val % 8 = 0) (p : Fin 8) (q : Fin 128) : (outsAt0 m c t.val t.isLt).2.2 (ix2 p q) =
    (∑ r : Fin 512, squares (args m c) (512 * t.val + r.val)) * step := by
  rw [← added, outsAt0_A m c t h]
  dsimp only
  frame_out
  refine (loss_at ..).trans ?_
  have h0 : k0_pay3 (F := Ideal) (ix2 p q) = 0 := by
    unfold k0_pay3
    pointwise
  rw [h0, zero_add]
  rfl

theorem loss_next (h : ¬t.val % 8 = 0) (p : Fin 8) (q : Fin 128) : (outsAt0 m c t.val t.isLt).2.2 (ix2 p q) =
    (outsAt0 m c (t.val - 1) (Nat.lt_of_le_of_lt (Nat.sub_le _ _) t.isLt)).2.2 (ix2 p q) +
      (∑ r : Fin 512, squares (args m c) (512 * t.val + r.val)) * step := by
  rw [← added, outsAt0_B m c t h]
  dsimp only
  frame_out
  exact loss_at ..

/-- The loss after a point: that of the rows so far. -/
theorem loss_eq (p : Fin 8) (q : Fin 128) : ∀ (n : ℕ) (hn : n < cfg0.N), (outsAt0 m c n hn).2.2 (ix2 p q) =
    (∑ r : Fin (512 * n + 512), squares (args m c) r.val) * step := by
  intro n
  induction n with
  | zero =>
    intro hn
    refine (loss_first m c ⟨0, hn⟩ rfl p q).trans ?_
    simp
  | succ n ih =>
    intro hn
    have h8 : n + 1 < 8 := hn
    refine (loss_next m c ⟨n + 1, hn⟩ (by dsimp only; omega) p q).trans ?_
    rw [loss_two (args m c)]
    exact congrArg (· + _) (ih _)

theorem final6 : (dats m 0 c).arrAt 6 cfg0.N = fun i => d (args m c) (i 0) (i 1) := by
  refine (dats m 0 c).arrAt_eq_of_covers 6 _ (by decide +kernel) fun t _ z => ?_
  blk_simp
  rw [after0_6]
  refine (congrArg (outsAt0 m c t.val t.isLt).1 (eq_ix2 z)).trans ((left_d m c t (z 0) (z 1)).trans (congrArg₂ (d (args m c)) (Fin.ext ?_) (Fin.ext ?_)))
  · show 512 * t.val + (z 0).val = _
    blk_simp [idx t]
    omega
  · blk_simp [idx t]

theorem final7 : (dats m 0 c).arrAt 7 cfg0.N = fun i => y (args m c).base (i 0) (i 1) := by
  refine (dats m 0 c).arrAt_eq_of_covers 7 _ (by decide +kernel) fun t _ z => ?_
  blk_simp
  rw [after0_7]
  refine (congrArg (outsAt0 m c t.val t.isLt).2.1 (eq_ix2 z)).trans
    ((left_y m c t (z 0) (z 1)).trans (congrArg₂ (y (args m c).base) (Fin.ext ?_) (Fin.ext ?_)))
  · show 512 * t.val + (z 0).val = _
    blk_simp [idx t]
    omega
  · blk_simp [idx t]

/-- The last grid point. -/
def tLast : Fin cfg0.N := ⟨7, by decide⟩

theorem loss_last (i : S8x128.Idx) : (outsAt0 m c 7 (by decide)).2.2 i = loss (args m c) :=
  (congrArg _ (eq_ix2 i)).trans (loss_eq m c (i 0) (i 1) 7 (by decide))

theorem final8 : (dats m 0 c).arrAt 8 cfg0.N = fun _ => loss (args m c) := by
  refine (dats m 0 c).arrAt_eq_of_after_last 8 tLast (by decide +kernel) _ fun z => ?_
  blk_simp
  rw [after0_8]
  exact loss_last m c z

end Cert.KernelLIdeal.Words
-- ==== Proof.RefLossL.lean ====
/- The last layer's output projection with the loss: what the reference returns. -/
module

public import proofs.«01_k».proof.Proof.SpecL
public import proofs.«01_k».proof.Proof.Gen.ReferenceLIdeal.Read

@[expose] public section

set_option maxRecDepth 16384

noncomputable section

namespace Cert.ReferenceLIdeal.Value

open Idealize.ShloMosaic Idealize.SL.Sem Cert.ReferenceLIdeal Cert.ReferenceLIdeal.Gen Cert.ReferenceLIdeal.Read Cert.Norm Cert.SpecL
open Cert.SpecY (y out)
open Cert.SpecO (Wide both both_at top low)

variable (B : SpecY.Arrays) (A : Arrays)

theorem both_eq (r : Fin 4096) (j : Fin 2048) : val_main_v1 (F := Ideal) B.a B.b (ix2 r j) = both B.a B.b r j.val :=
  both_at B.a B.b concatenates_S4096x1024_S4096x1024_S4096x2048_d1 r j

theorem weight_eq (e : Fin 2048) (l : Fin 1024) : val_main_v3 (F := Ideal) B.w (ix2 e l) = B.w (ix3 0 e l) := by
  show val_main_v2 (F := Ideal) B.w (ix2 e l) = _
  rw [val_main_v2_apply]
  refine congrArg B.w (funext fun a => Fin.ext ?_)
  have he := e.isLt
  have hl := l.isLt
  match a with
  | ⟨0, _⟩ => rfl
  | ⟨1, _⟩ => show (e.val * 1024 + l.val) / 1024 % 2048 = e.val; omega
  | ⟨2, _⟩ => show (e.val * 1024 + l.val) % 1024 = l.val; omega

theorem prod_at (r : Fin 4096) (l : Fin 1024) : val_main_v4 (F := Ideal) B.a B.b B.w (ix2 r l) = y B r l := by
  rw [val_main_v4_apply]
  refine Finset.sum_congr rfl fun j _ => congrArg₂ (fun a b : EReal => a * b) ?_ ?_
  · exact (congrArg (val_main_v1 (F := Ideal) B.a B.b) (eq_ix2 _)).trans (both_eq B r j)
  · exact (congrArg (val_main_v3 (F := Ideal) B.w) (eq_ix2 _)).trans (weight_eq B j l)

theorem meanSq_at (r : Fin 4096) (a : Fin 1) : val_main_v11 (F := Ideal) B.a B.b B.w (ix2 r a) = meanSq (y B r) := by
  have h : val_main_v6 (F := Ideal) B.a B.b B.w (ix1 r) = ∑ k, y B r k * y B r k := by
    rw [val_main_v6_apply]
    refine (congrArg (· + _) Ideal.ofBits_zero_f32).trans ((zero_add _).trans (Finset.sum_congr rfl fun k _ => ?_))
    rw [show idx_main_v6 (ix1 r) k = ix2 r k from eq_ix2 _, val_main_v5_apply, prod_at]
    rfl
  rw [val_main_v11_apply, val_main_v9_apply, val_main_v7_apply, val_main_v8_apply, val_main_v10_apply,
    show idx_main_v7 (ix2 r a) = ix1 r from eq_ix1 _, h]
  rfl

theorem scale_at (r : Fin 4096) (a : Fin 1) : val_main_v12 (F := Ideal) B.a B.b B.w (ix2 r a) = scale (y B r) :=
  congrArg Ideal.rsqrt (meanSq_at B r a)

theorem out_at (r : Fin 4096) (l : Fin 1024) : val_main_v17 (F := Ideal) B.a B.b B.w B.x B.g (ix2 r l) = out B r l := by
  rw [val_main_v17_apply, val_main_v16_apply, val_main_v14_apply, val_main_v13_apply, val_main_v15_apply,
    show idx_main_v13 (ix2 r l) = ix2 r 0 from eq_ix2 _, show idx_main_v15 (ix2 r l) = ix2 0 l from eq_ix2 _, scale_at, prod_at]
  rfl

/-- A row of the output less the target. -/
theorem err_at (r : Fin 4096) (l : Fin 1024) : val_main_v18 (F := Ideal) A.base.a A.base.b A.base.w A.base.x A.base.g A.t (ix2 r l) = err A r l := by
  rw [val_main_v18_apply, out_at]
  rfl

theorem d_at (r : Fin 4096) (l : Fin 1024) : val_main_v32 (F := Ideal) A.base.a A.base.b A.base.w A.base.x A.base.g A.t (ix2 r l) = d A r l := by
  rw [val_main_v32_apply, val_main_v21_apply, err_at, val_main_v31_apply, val_main_v30_apply, val_main_v28_apply, val_main_v27_apply,
    val_main_v29_apply, val_main_v20_apply]
  exact factors (err A r l)

theorem mean_at (r : Fin 4096) : val_main_v24 (F := Ideal) A.base.a A.base.b A.base.w A.base.x A.base.g A.t (ix1 r) =
    Ideal.div (squares A r.val) size := by
  have h : val_main_v22 (F := Ideal) A.base.a A.base.b A.base.w A.base.x A.base.g A.t (ix1 r) = squares A r.val := by
    rw [val_main_v22_apply, squares_of A r.val r.isLt]
    refine (congrArg (· + _) Ideal.ofBits_zero_f32).trans ((zero_add _).trans (Finset.sum_congr rfl fun k _ => ?_))
    rw [show idx_main_v22 (ix1 r) k = ix2 r k from eq_ix2 _, val_main_v19_apply, err_at]
    rfl
  rw [val_main_v24_apply, val_main_v23_apply, h]
  rfl

theorem loss_at (i : S8x128.Idx) : val_main_v33 (F := Ideal) A.base.a A.base.b A.base.w A.base.x A.base.g A.t i = loss A := by
  rw [val_main_v33_apply, val_main_v26_apply, val_main_v25_apply]
  refine Eq.trans (congrArg (half * ·) ?_) (loss_means A)
  refine (congrArg (· + _) Ideal.ofBits_zero_f32).trans ((zero_add _).trans ?_)
  exact (sum_idx1 _).trans (Finset.sum_congr rfl fun r _ => mean_at A r)

theorem gradient (i : S4096x1024.Idx) : val_main_v32 (F := Ideal) A.base.a A.base.b A.base.w A.base.x A.base.g A.t i = d A (i 0) (i 1) :=
  (congrArg _ (eq_ix2 i)).trans (d_at A (i 0) (i 1))

theorem projected (i : S4096x1024.Idx) : val_main_v4 (F := Ideal) A.base.a A.base.b A.base.w i = y A.base (i 0) (i 1) :=
  (congrArg _ (eq_ix2 i)).trans (prod_at A.base (i 0) (i 1))

/-- The reference's arguments. -/
def args (m : (ℓ : Loc nD τ sig) → Buf (Elt Ideal) ℓ) (c : Dev nD) : Arrays :=
  ⟨⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩, m ((c.tc : Thread nD τ).loc main_arg5)⟩

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = (fun i => d (args m c) (i 0) (i 1))
      ∧ r.2.mem ((c.tc : Thread nD τ).loc main_v4) = (fun i => y (args m c).base (i 0) (i 1))
      ∧ r.2.mem ((c.tc : Thread nD τ).loc main_v33) = (fun _ => loss (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v32_eq (F := Ideal) _ _ _ _ _ _).trans (funext (gradient (args m c)))),
      (h c).2.1.trans ((val_main_v4_eq (F := Ideal) _ _ _).trans (funext (projected (args m c)))),
      (h c).2.2.1.trans ((val_main_v33_eq (F := Ideal) m c).trans (funext (loss_at (args m c)))), (h c).2.2.2⟩)
    (run m ρ)

end Cert.ReferenceLIdeal.Value
-- ==== Proof.SpecI.lean ====
/- The input projection with the norm before it: the specification. -/
module

public import proofs.«01_k».proof.Proof.Join
public import proofs.«01_k».proof.Proof.Norm

@[expose] public section

set_option maxRecDepth 16384

noncomputable section

namespace Cert.SpecI

open Idealize.ShloMosaic Cert.Join Cert.Norm

/-- The arguments: the layer's input, the norm's gain, and the weights. -/
structure Arrays where
  x : FVec Ideal Wide .f32
  g : FVec Ideal ⟨2, ![1, 1024]⟩ .f32
  w : FVec Ideal ⟨3, ![1, 6400, 1024]⟩ .bf16

variable (A : Arrays)

/-- The normed input. -/
def h (r : Fin 4096) (l : Fin 1024) : EReal := A.x (ix2 r l) * (scale fun k => A.x (ix2 r k)) * A.g (ix2 0 l)

/-- A row of the normed input times a row of the weights. -/
def prod (r : Fin 4096) (e : Fin 6400) : EReal := ∑ k : Fin 1024, h A r k * A.w (ix3 0 e k)

/-- The weights' row behind a column of the result: the last two parts change places. -/
def src (e : Fin 6400) : Fin 6400 :=
  if _ : e.val < 5120 then e else if _ : e.val < 6144 then ⟨e.val + 256, by omega⟩ else ⟨e.val - 1024, by omega⟩

theorem src_main (e : Fin 6400) (he : e.val < 5120) : src e = e := dif_pos he

theorem src_gate (e : Fin 6400) (h0 : 5120 ≤ e.val) (h1 : e.val < 6144) : src e = ⟨e.val + 256, by omega⟩ :=
  (dif_neg (by omega)).trans (dif_pos h1)

theorem src_kv (e : Fin 6400) (h1 : 6144 ≤ e.val) : src e = ⟨e.val - 1024, by omega⟩ :=
  (dif_neg (by omega)).trans (dif_neg (by omega))

/-- The projection. -/
def p (r : Fin 4096) (e : Fin 6400) : EReal := prod A r (src e)

end Cert.SpecI
-- ==== Proof.RunI.lean ====
/- The input projection's grid: what its windows read, and one run of the body for each kind of point. -/
module

public import proofs.«01_k».proof.Proof.Gen.KernelIIdeal.Launch
public import proofs.«01_k».proof.Proof.Gen.KernelIIdeal.Skeleton
public import proofs.«01_k».proof.Proof.Gen.KernelIIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIIdeal.Grid

open Cert.KernelIIdeal Cert.KernelIIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S1x6400x1024`), but no block the grid
    reaches is cut, so no part of its staging buffer is left unfilled by a fetch. A default for such a part, which
    nothing reads. -/
def dflt0_2 : (cfg0.win 2).block.Idx → Elt F (cfg0.win 2).elt := fun _ => Classical.choice inferInstance
/-- What input window 2's current staging buffer holds when the body runs at `t`: its block read off the array,
    filled over `dflt0_2` (block-typed, where `iblk` is typed at the cut). -/
def X0_2 (c : Dev nD) (t : Fin cfg0.N) : (cfg0.win 2).block.Idx → Elt F (cfg0.win 2).elt :=
  (cfg0.win 2).fill (cfg0.grid.coords t) dflt0_2 (iblk m c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S1x6400x1024.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The conditions of the body, and where the second output is left alone -/

abbrev cond0_0 (i : grid0.Coords) : Prop := k0_cond1 i = 1#1
abbrev cond0_1 (i : grid0.Coords) : Prop := k0_cond2 i = 1#1
abbrev cond0_2 (i : grid0.Coords) : Prop := k0_cond3 i = 1#1

/-- A row block's first point: the rows are normed, and the first columns are projected. -/
theorem at_first : ∀ t : Fin cfg0.N, t.val % 5 = 0 → cond0_0 (grid0.coords t) ∧ cond0_1 (grid0.coords t) ∧ ¬cond0_2 (grid0.coords t) :=
  (by decide +kernel : ∀ t : Fin grid0.N, _)
/-- Its middle points: further columns are projected. -/
theorem at_mid : ∀ t : Fin cfg0.N, ¬t.val % 5 = 0 → ¬t.val % 5 = 4 → ¬cond0_0 (grid0.coords t) ∧ cond0_1 (grid0.coords t) ∧ ¬cond0_2 (grid0.coords t) :=
  (by decide +kernel : ∀ t : Fin grid0.N, _)
/-- Its last point: the tail is projected. -/
theorem at_last : ∀ t : Fin cfg0.N, t.val % 5 = 4 → ¬cond0_0 (grid0.coords t) ∧ ¬cond0_1 (grid0.coords t) ∧ cond0_2 (grid0.coords t) :=
  (by decide +kernel : ∀ t : Fin grid0.N, _)

/-- Inputs and the first output are never left alone; the second output is stored at a first point only. -/
theorem live (w : Fin cfg0.W) (hw : w ≠ 5) : ∀ t : Fin cfg0.N, cfg0.idle w (grid0.coords t) = false := by
  revert w; decide +kernel
theorem live5 : ∀ t : Fin cfg0.N, t.val % 5 = 0 → cfg0.idle 5 (grid0.coords t) = false := by decide +kernel
theorem idle5 : ∀ t : Fin cfg0.N, ¬t.val % 5 = 0 → cfg0.idle 5 (grid0.coords t) = true := by decide +kernel
/-- Before a first point the second output's buffer holds nothing stored, before any other it does. -/
theorem fresh5 : ∀ t : Fin cfg0.N, ¬t.val % 5 = 0 → cfg0.fresh 5 t.val = false := by decide +kernel
theorem flush5 : ∀ t : Fin cfg0.N, ¬t.val % 5 = 4 → (cfg0.win 5).flush t = false := by decide +kernel
theorem flush5_last : ∀ t : Fin cfg0.N, t.val % 5 = 4 → (cfg0.win 5).flush t = true := by decide +kernel

/-! ## The kernel body on any staging memrefs: a subtype the run finds -/

/-- One staging buffer of output window 4, through which its contents are stated (`View.read_writes_of_cover`: the
    choice does not matter). -/
abbrev VO0_4 : View sig .tc .vmem S1024x1280 .f32 := (Memref.whole cc0_stg4_0 : Memref sig .tc .vmem S1024x1280 .f32).view
/-- One staging buffer of output window 5, through which its contents are stated (`View.read_writes_of_cover`: the
    choice does not matter). -/
abbrev VO0_5 : View sig .tc .vmem S1024x1024 .bf16 := (Memref.whole cc0_stg5_0 : Memref sig .tc .vmem S1024x1024 .bf16).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x1024 .bf16 := Memref.whole cc0_scratch0
/-- The scratch `arg8` the kernel carries between points, as a view: what it holds is stated through it. -/
abbrev VS0_0 : View sig .tc .vmem S1024x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- A first point, on any buffers: what is stored into the outputs and into the scratch is read off the run. -/
noncomputable def runFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x5120x1024 .bf16) (harg4 : arg4.IsWhole) (arg5 : Memref sig .tc .vmem S1x1280x1024 .bf16) (harg5 : arg5.IsWhole) (arg6 : Memref sig .tc .vmem S1024x1280 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i) (hc1 : cond0_1 i) (hc2 : ¬cond0_2 i)
    (x0 : Vec F S1024x1024 .f32) (x1 : Vec F S1x1024 .f32) (x2 : Vec F S1x5120x1024 .bf16) (x3 : Vec F S1x1280x1024 .bf16) :
    Σ' (L4 : List (View.Piece (Elt F) S1024x1280 .f32)), Σ' (L5 : List (View.Piece (Elt F) S1024x1024 .bf16)), { LS0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

set_option maxHeartbeats 1000000 in
/-- A middle point: the scratch is read, and the second output keeps what it holds. -/
noncomputable def runMid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x5120x1024 .bf16) (harg4 : arg4.IsWhole) (arg5 : Memref sig .tc .vmem S1x1280x1024 .bf16) (harg5 : arg5.IsWhole) (arg6 : Memref sig .tc .vmem S1024x1280 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i) (hc1 : cond0_1 i) (hc2 : ¬cond0_2 i)
    (x0 : Vec F S1024x1024 .f32) (x1 : Vec F S1x1024 .f32) (x2 : Vec F S1x5120x1024 .bf16) (x3 : Vec F S1x1280x1024 .bf16) (xs0 : Vec F S1024x1024 .bf16) :
    Σ' (L4 : List (View.Piece (Elt F) S1024x1280 .f32)), Σ' (L5 : List (View.Piece (Elt F) S1024x1024 .bf16)), { LS0 : List (View.Piece (Elt F) S1024x1024 .bf16) //
      ∀ (xi5 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xs0) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, [], [], fun xi5 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS0

set_option maxHeartbeats 1000000 in
/-- A last point: the scratch is read, and the second output keeps what it holds. -/
noncomputable def runLast (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x5120x1024 .bf16) (harg4 : arg4.IsWhole) (arg5 : Memref sig .tc .vmem S1x1280x1024 .bf16) (harg5 : arg5.IsWhole) (arg6 : Memref sig .tc .vmem S1024x1280 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i) (hc1 : ¬cond0_1 i) (hc2 : cond0_2 i)
    (x0 : Vec F S1024x1024 .f32) (x1 : Vec F S1x1024 .f32) (x2 : Vec F S1x5120x1024 .bf16) (x3 : Vec F S1x1280x1024 .bf16) (xs0 : Vec F S1024x1024 .bf16) :
    Σ' (L4 : List (View.Piece (Elt F) S1024x1280 .f32)), Σ' (L5 : List (View.Piece (Elt F) S1024x1024 .bf16)), { LS0 : List (View.Piece (Elt F) S1024x1024 .bf16) //
      ∀ (xi5 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xs0) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, [], [], fun xi5 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS0

end Cert.KernelIIdeal.Grid

end
-- ==== Proof.FrameI.lean ====
/- The input projection's grid: what each point leaves in the buffers, and the run of the whole call. -/
module

public import proofs.«01_k».proof.Proof.RunI
public import Idealize.ShloMosaic.Lib.Claim

@[expose] public section

set_option maxRecDepth 16384

noncomputable section

namespace Cert.KernelIIdeal.Grid

open Cert.KernelIIdeal Cert.KernelIIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-! ## The runs at the grid's points, and what they leave -/

section points

variable (t : Fin cfg0.N) (xs : Vec F S1024x1024 .bf16)

abbrev first (h : t.val % 5 = 0) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (at_first t h).1 (at_first t h).2.1 (at_first t h).2.2 (iblk m c 0 t) (iblk m c 1 t) (X0_2 m c t) (iblk m c 3 t)
abbrev mid (h : ¬t.val % 5 = 0) (h' : ¬t.val % 5 = 4) :=
  runMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (at_mid t h h').1 (at_mid t h h').2.1 (at_mid t h h').2.2 (iblk m c 0 t) (iblk m c 1 t) (X0_2 m c t) (iblk m c 3 t) xs
abbrev last (h : t.val % 5 = 4) :=
  runLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (at_last t h).1 (at_last t h).2.1 (at_last t h).2.2 (iblk m c 0 t) (iblk m c 1 t) (X0_2 m c t) (iblk m c 3 t) xs

theorem firstP_covers (h : t.val % 5 = 0) (y : S1024x1280.Idx) : ∃ pc ∈ (first m c t h).1, y ∈ pc.1.set :=
  View.cover_of_tiledL (first m c t h).1 S1024x1280.size (by sl_kernel_rfl) y
/-- A first point: the projected columns. -/
def firstP (h : t.val % 5 = 0) : Vec F S1024x1280 .f32 :=
  VO0_4.read (Elt F) (VO0_4.writes (Elt F) VO0_4.junk (first m c t h).1)
theorem firstH_covers (h : t.val % 5 = 0) (y : S1024x1024.Idx) : ∃ pc ∈ (first m c t h).2.1, y ∈ pc.1.set :=
  View.cover_of_tiledL (first m c t h).2.1 S1024x1024.size (by sl_kernel_rfl) y
/-- A first point: the normed rows in the second output. -/
def firstH (h : t.val % 5 = 0) : Vec F S1024x1024 .bf16 :=
  VO0_5.read (Elt F) (VO0_5.writes (Elt F) VO0_5.junk (first m c t h).2.1)
theorem firstS_covers (h : t.val % 5 = 0) (y : S1024x1024.Idx) : ∃ pc ∈ (first m c t h).2.2.1, y ∈ pc.1.set :=
  View.cover_of_tiledL (first m c t h).2.2.1 S1024x1024.size (by sl_kernel_rfl) y
/-- A first point: the normed rows in the scratch. -/
def firstS (h : t.val % 5 = 0) : Vec F S1024x1024 .bf16 :=
  VS0_0.read (Elt F) (VS0_0.writes (Elt F) VS0_0.junk (first m c t h).2.2.1)
theorem midP_covers (h : ¬t.val % 5 = 0) (h' : ¬t.val % 5 = 4) (y : S1024x1280.Idx) : ∃ pc ∈ (mid m c t xs h h').1, y ∈ pc.1.set :=
  View.cover_of_tiledL (mid m c t xs h h').1 S1024x1280.size (by sl_kernel_rfl) y
/-- A middle point: the projected columns. -/
def midP (h : ¬t.val % 5 = 0) (h' : ¬t.val % 5 = 4) : Vec F S1024x1280 .f32 :=
  VO0_4.read (Elt F) (VO0_4.writes (Elt F) VO0_4.junk (mid m c t xs h h').1)
theorem lastP_covers (h : t.val % 5 = 4) (y : S1024x1280.Idx) : ∃ pc ∈ (last m c t xs h).1, y ∈ pc.1.set :=
  View.cover_of_tiledL (last m c t xs h).1 S1024x1280.size (by sl_kernel_rfl) y
/-- A last point: the projected tail. -/
def lastP (h : t.val % 5 = 4) : Vec F S1024x1280 .f32 :=
  VO0_4.read (Elt F) (VO0_4.writes (Elt F) VO0_4.junk (last m c t xs h).1)

end points

/-- What the scratch holds after a point: what the row block's first point stored. -/
def held : (n : ℕ) → n < cfg0.N → Vec F S1024x1024 .bf16
  | 0, hn => firstS m c ⟨0, hn⟩ rfl
  | n + 1, hn => if h : (n + 1) % 5 = 0 then firstS m c ⟨n + 1, hn⟩ h else held n (Nat.lt_of_succ_lt hn)

/-- What the second output's buffer holds after a point: what the row block's first point stored. -/
def kept : (n : ℕ) → n < cfg0.N → Vec F S1024x1024 .bf16
  | 0, hn => firstH m c ⟨0, hn⟩ rfl
  | n + 1, hn => if h : (n + 1) % 5 = 0 then firstH m c ⟨n + 1, hn⟩ h else kept n (Nat.lt_of_succ_lt hn)

theorem before_lt (t : Fin cfg0.N) : t.val - 1 < cfg0.N := Nat.lt_of_le_of_lt (Nat.sub_le _ _) t.isLt

/-- What the first output's buffer holds after a point. -/
def proj (t : Fin cfg0.N) : Vec F S1024x1280 .f32 :=
  if h : t.val % 5 = 0 then firstP m c t h
  else if h' : t.val % 5 = 4 then lastP m c t (held m c (t.val - 1) (before_lt t)) h'
  else midP m c t (held m c (t.val - 1) (before_lt t)) h h'

theorem held_first (t : Fin cfg0.N) (h : t.val % 5 = 0) : held m c t.val t.isLt = firstS m c t h := by
  obtain ⟨n, hn⟩ := t
  cases n with
  | zero => rfl
  | succ n => exact dif_pos h

theorem held_next (t : Fin cfg0.N) (h : ¬t.val % 5 = 0) : held m c t.val t.isLt = held m c (t.val - 1) (before_lt t) := by
  obtain ⟨n, hn⟩ := t
  cases n with
  | zero => exact absurd rfl h
  | succ n => exact dif_neg h

theorem kept_first (t : Fin cfg0.N) (h : t.val % 5 = 0) : kept m c t.val t.isLt = firstH m c t h := by
  obtain ⟨n, hn⟩ := t
  cases n with
  | zero => rfl
  | succ n => exact dif_pos h

theorem kept_next (t : Fin cfg0.N) (h : ¬t.val % 5 = 0) : kept m c t.val t.isLt = kept m c (t.val - 1) (before_lt t) := by
  obtain ⟨n, hn⟩ := t
  cases n with
  | zero => exact absurd rfl h
  | succ n => exact dif_neg h

theorem proj_first (t : Fin cfg0.N) (h : t.val % 5 = 0) : proj m c t = firstP m c t h := dif_pos h

theorem proj_mid (t : Fin cfg0.N) (h : ¬t.val % 5 = 0) (h' : ¬t.val % 5 = 4) :
    proj m c t = midP m c t (held m c (t.val - 1) (before_lt t)) h h' := (dif_neg h).trans (dif_neg h')

theorem proj_last (t : Fin cfg0.N) (h' : t.val % 5 = 4) : proj m c t = lastP m c t (held m c (t.val - 1) (before_lt t)) h' :=
  (dif_neg (by omega)).trans (dif_pos h')

/-- Between points: the scratch at what the point before left, at anything before the first. -/
def Between : (n : ℕ) → n ≤ cfg0.N → sProp 𝕄
  | 0, _ => Pipeline.ΦA spec0 c
  | n + 1, hn => iprop(owns (c : Thread nD τ) scM0_0 fullShare (held m c n hn) ∗ (∃ r, prngReg c r))

theorem between_zero (n : ℕ) (h : n ≤ cfg0.N) (hz : n = 0) : Between m c n h = Pipeline.ΦA spec0 c := by
  subst hz; rfl

theorem between_pos (n : ℕ) (h : n ≤ cfg0.N) (hz : n ≠ 0) :
    Between m c n h = iprop(owns (c : Thread nD τ) scM0_0 fullShare (held m c (n - 1) (by omega)) ∗ (∃ r, prngReg c r)) := by
  cases n with
  | zero => exact absurd rfl hz
  | succ n => rfl

/-! ## The pipeline's proof data -/

/-- The arrays as the region finds them, and each window's buffer after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => proj m c t
    | ⟨5, _⟩ => kept m c t.val t.isLt
  Φ t := Between m c t.val (Nat.le_of_lt_succ t.isLt)
  q _ := fullShare
  owed _ := 0

theorem A_eq (w : Fin cfg0.W) : (dats m 0 c).A w = V m c (Pipeline.arrRef spec0 w) := by
  dsimp only [dats]

theorem between_castSucc (t : Fin cfg0.N) : (dats m 0 c).Φ t.castSucc = Between m c t.val (Nat.le_of_lt t.isLt) := by
  dsimp only [dats]; exact Pipeline.Dat.Φ_castSucc (Between m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = X0_2 m c t := by dsimp only [dats]
theorem after0_3 (t : Fin cfg0.N) : (dats m 0 c).after 3 t = iblk m c 3 t := by dsimp only [dats]
theorem after0_4 (t : Fin cfg0.N) : (dats m 0 c).after 4 t = proj m c t := by dsimp only [dats]
theorem after0_5 (t : Fin cfg0.N) : (dats m 0 c).after 5 t = kept m c t.val t.isLt := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = X0_2 m c t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d

/-- After a row block's first point the second output's buffer holds what that point stored, up to the point that
    writes it back. -/
theorem before0_5 (t : Fin cfg0.N) (h : ¬t.val % 5 = 0) (d) : (dats m 0 c).before 5 t d = kept m c t.val t.isLt := by
  rw [(dats m 0 c).before_out_traj 5 rfl (fun _ _ => rfl) (fun t _ hi _ => by
      have ht : ¬t.val % 5 = 0 := fun h0 => Bool.false_ne_true ((live5 t h0).symm.trans hi)
      rw [after0_5, after0_5]
      exact kept_next m c t ht) t.val t rfl d, fresh5 t h, if_neg Bool.false_ne_true, after0_5]
  exact (kept_next m c t h).symm

/-! ## The body at a point -/

/-- What the body is called with at a point, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (t : Fin cfg0.N) : (dats m 0 c).leavesExact 0 t = owns (c : Thread nD τ) (ms0_0 t) fullShare (iblk m c 0 t) := by
  unfold Dat.leavesExact; rw [live 0 (by decide) t, after0_0]
theorem leaves1 (t : Fin cfg0.N) : (dats m 0 c).leavesExact 1 t = owns (c : Thread nD τ) (ms0_1 t) fullShare (iblk m c 1 t) := by
  unfold Dat.leavesExact; rw [live 1 (by decide) t, after0_1]
theorem leaves2 (t : Fin cfg0.N) : (dats m 0 c).leavesExact 2 t = owns (c : Thread nD τ) (ms0_2 t) fullShare (X0_2 m c t) := by
  unfold Dat.leavesExact; rw [live 2 (by decide) t, after0_2]
theorem leaves3 (t : Fin cfg0.N) : (dats m 0 c).leavesExact 3 t = owns (c : Thread nD τ) (ms0_3 t) fullShare (iblk m c 3 t) := by
  unfold Dat.leavesExact; rw [live 3 (by decide) t, after0_3]
theorem leaves4 (t : Fin cfg0.N) : (dats m 0 c).leavesExact 4 t = owns (c : Thread nD τ) (ms0_4 t) fullShare (proj m c t) := by
  unfold Dat.leavesExact; rw [live 4 (by decide) t, after0_4]
theorem leaves5_first (t : Fin cfg0.N) (h : t.val % 5 = 0) :
    (dats m 0 c).leavesExact 5 t = owns (c : Thread nD τ) (ms0_5 t) fullShare (kept m c t.val t.isLt) := by
  unfold Dat.leavesExact; rw [live5 t h, after0_5]
theorem leaves5_last (t : Fin cfg0.N) (h : t.val % 5 = 4) :
    (dats m 0 c).leavesExact 5 t = owns (c : Thread nD τ) (ms0_5 t) fullShare (kept m c t.val t.isLt) := by
  unfold Dat.leavesExact; rw [idle5 t (by omega), flush5_last t h, after0_5]

/-- Before any point the scratch is owned at some contents. -/
theorem between_any (n : ℕ) (h : n ≤ cfg0.N) :
    Between m c n h ⊢ iprop((∃ d, owns (c : Thread nD τ) scM0_0 fullShare d) ∗ (∃ r, prngReg c r)) := by
  cases n with
  | zero =>
    rw [between_zero m c 0 h rfl, PhiA0_eq]
  | succ n =>
    rw [between_pos m c (n + 1) h (Nat.succ_ne_zero n)]
    iintro ⟨HS, Hg⟩
    isplitl [HS]
    · iexists _; iexact HS
    iexact Hg

set_option maxHeartbeats 4800000 in
/-- The body at a first point. -/
theorem body_first (t : Fin cfg0.N) (h : t.val % 5 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = iprop(owns (c : Thread nD τ) scM0_0 fullShare (held m c t.val t.isLt) ∗ (∃ r, prngReg c r)) from rfl]
  rw [leaves0, leaves1, leaves2, leaves3, leaves4, leaves5_first m c t h]
  rw [between_castSucc m c t, held_first m c t h, proj_first m c t h, kept_first m c t h]
  unfold firstP firstH firstS
  iintro ⟨HB, Ho, ⟨%d0, H0⟩, ⟨%d1, H1⟩, ⟨%d2, H2⟩, ⟨%d3, H3⟩, ⟨%d4, H4⟩, ⟨%d5, H5⟩⟩
  ihave HB' := (between_any m c t.val (Nat.le_of_lt t.isLt)) $$ HB
  icases HB' with ⟨HS, Hg⟩
  iapply (first m c t h).2.2.2 Set.univ _
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, ⟨%e4, H4⟩, ⟨%e5, H5⟩, ⟨%es, HS⟩⟩
  isplitl [HS Hg]
  · isplitl [HS]
    · unfold owns; iexists _; isplitr
      swap; · iexact HS
      ipureintro; exact View.read_writes_of_cover _ _ _ _ _ (firstS_covers m c t h)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (firstP_covers m c t h)
  unfold owns; iexists _; isplitr
  swap; · iexact H5
  ipureintro; exact View.read_writes_of_cover _ _ _ _ _ (firstH_covers m c t h)

set_option maxHeartbeats 4800000 in
/-- The body at a middle point: the second output is handed back as it was. -/
theorem body_mid (t : Fin cfg0.N) (h : ¬t.val % 5 = 0) (h' : ¬t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = iprop(owns (c : Thread nD τ) scM0_0 fullShare (held m c t.val t.isLt) ∗ (∃ r, prngReg c r)) from rfl]
  rw [leaves0, leaves1, leaves2, leaves3, leaves4, Dat.leavesExact_idle (dats m 0 c) 5 t (idle5 t h) (flush5 t h')]
  rw [between_castSucc m c t, held_next m c t h, proj_mid m c t h h']
  rw [between_pos m c t.val (Nat.le_of_lt t.isLt) (by omega)]
  unfold midP
  iintro ⟨⟨HS, Hg⟩, Ho, ⟨%d0, H0⟩, ⟨%d1, H1⟩, ⟨%d2, H2⟩, ⟨%d3, H3⟩, ⟨%d4, H4⟩, ⟨%d5, H5⟩⟩
  iapply (mid m c t (held m c (t.val - 1) (before_lt t)) h h').2.2.2 _ Set.univ _
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, ⟨%e4, H4⟩, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (midP_covers m c t _ h h')
  iexists _; iexact H5

set_option maxHeartbeats 4800000 in
/-- The body at a last point: the second output holds what the first point stored, and is written back so. -/
theorem body_last (t : Fin cfg0.N) (h : t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_5 m c t (show ¬t.val % 5 = 0 by omega)]
  rw [show (dats m 0 c).owesAt () t.succ = (dats m 0 c).owesAt () t.castSucc from rfl]
  rw [show (dats m 0 c).Φ t.succ = iprop(owns (c : Thread nD τ) scM0_0 fullShare (held m c t.val t.isLt) ∗ (∃ r, prngReg c r)) from rfl]
  rw [leaves0, leaves1, leaves2, leaves3, leaves4, leaves5_last m c t h]
  rw [between_castSucc m c t, held_next m c t (by omega), proj_last m c t h]
  rw [between_pos m c t.val (Nat.le_of_lt t.isLt) (by omega)]
  unfold lastP
  iintro ⟨⟨HS, Hg⟩, Ho, ⟨%d0, H0⟩, ⟨%d1, H1⟩, ⟨%d2, H2⟩, ⟨%d3, H3⟩, ⟨%d4, H4⟩, ⟨%d5, H5⟩⟩
  iapply (last m c t (held m c (t.val - 1) (before_lt t)) h).2.2.2 _ Set.univ _
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, ⟨%e4, H4⟩, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (lastP_covers m c t _ h)
  iexact H5

theorem body_point (t : Fin cfg0.N) :
    bodyPre m c t ⊢ wp frame (wpE (defs₀ (F := F)) Variants.none c none) Set.univ (bodyAt0 t) (fun _ => bodyPost m c t) := by
  by_cases h : t.val % 5 = 0
  · exact body_first m c t h
  · by_cases h' : t.val % 5 = 4
    · exact body_last m c t h'
    · exact body_mid m c t h h'

theorem body_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, body_row]
  exact triple_restated (body_point m c t) rfl .rfl fun _ => .rfl

theorem enters : Pipeline.ΦA spec0 c ⊢ (dats m 0 c).Φ 0 := by
  rw [show (dats m 0 c).Φ 0 = Between m c 0 (Nat.zero_le _) from rfl, between_zero m c 0 _ rfl]

theorem exits : (dats m 0 c).Φ (Fin.last cfg0.N) ⊢ Pipeline.ΦA spec0 c := by
  rw [show (dats m 0 c).Φ (Fin.last cfg0.N) = Between m c (Fin.last cfg0.N).val (Nat.le_of_lt_succ (Fin.last cfg0.N).isLt) from rfl, PhiA0_eq]
  exact between_any m c _ _

/-! ## The run -/

set_option backward.isDefEq.respectTransparency.types false in
/-- Every run ends, with the arrays at what the proof data give and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := exits m)

/-- The arguments end as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_kept m r h.1, h.2⟩) (run_main m ρ)

/-- The run with both outputs' arrays named. -/
theorem run_arrays : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 4, (h.1 c).1 5, args_kept m r h.1 c⟩) (run_main m ρ)

end Cert.KernelIIdeal.Grid

end
-- ==== Proof.ProjI.lean ====
/- The input projection with the norm before it: what the kernel's grid leaves. -/
module

public import proofs.«01_k».proof.Proof.SpecI
public import Idealize.ShloMosaic.Lib.Pipeline.ReadBack
public import Idealize.ShloMosaic.Lib.Pipeline.ValueKit
public import proofs.«01_k».proof.Proof.FrameI

@[expose] public section

set_option maxRecDepth 16384

noncomputable section

namespace Cert.KernelIIdeal.Words

open Idealize.ShloMosaic Cert.KernelIIdeal Cert.KernelIIdeal.Gen Cert.KernelIIdeal.Grid Cert.Norm Cert.SpecI

/-! ## The stored values at an index -/

section tiles

variable (x : Vec Ideal S1024x1024 .f32) (g : Vec Ideal S1x1024 .f32) (v : Vec Ideal S1024x1024 .bf16) (w : Vec Ideal S1x1280x1024 .bf16)
  (r l : Fin 1024) (e : Fin 1280)

theorem norm_at : k0_pay1 (F := Ideal) x g (ix2 r l) = x (ix2 r l) * (scale fun k => x (ix2 r k)) * g (ix2 0 l) := by
  unfold k0_pay1
  pointwise
  rfl

theorem norm_at' : k0_pay2 (F := Ideal) x g (ix2 r l) = k0_pay1 (F := Ideal) x g (ix2 r l) := by
  unfold k0_pay2
  pointwise

theorem main_at : k0_pay3 (F := Ideal) v w (ix2 r e) = ∑ k : Fin 1024, v (ix2 r k) * w (ix3 0 e k) := by
  unfold k0_pay3
  pointwise

theorem tail_at : k0_pay4 (F := Ideal) v w (ix2 r e) = ∑ k : Fin 1024, v (ix2 r k) * w (ix3 0 e k) := by
  unfold k0_pay4
  pointwise

end tiles

/-! ## The grid -/

variable (m : (ℓ : Loc nD τ sig) → Buf (Elt Ideal) ℓ) (c : Dev nD) (t : Fin cfg0.N)

theorem idx : ∀ t : Fin cfg0.N, win0_0.index t = ![t.val / 5, 0] ∧ win0_1.index t = ![0, 0] ∧ win0_2.index t = ![0, 0, 0] ∧
    win0_3.index t = ![0, 0, 0] ∧ win0_4.index t = ![t.val / 5, t.val % 5] ∧ win0_5.index t = ![t.val / 5, 0] :=
  (by decide +kernel : ∀ t : Fin grid0.N, _)

theorem coord : ∀ t : Fin cfg0.N, ((grid0.coords t) 1).val = t.val % 5 := (by decide +kernel : ∀ t : Fin grid0.N, _)

/-- The kernel's arguments. -/
def args : Arrays := ⟨V m c main_arg0, V m c main_arg1, V m c main_arg2⟩

/-- A row of a point's block among all rows. -/
def rowOf (n : ℕ) (hn : n < cfg0.N) (r : Fin 1024) : Fin 4096 := ⟨1024 * (n / 5) + r.val, by have : n < 20 := hn; omega⟩

theorem blk0 (r k : Fin 1024) : (iblk m c 0 t : S1024x1024.Idx → EReal) (ix2 r k) = (args m c).x (ix2 (rowOf t.val t.isLt r) k) := by
  unfold args
  blk_simp [iblk]
  exact congrArg _ (by unfold rowOf; blk_ext [idx t])

theorem blk1 (l : Fin 1024) : (iblk m c 1 t : S1x1024.Idx → EReal) (ix2 0 l) = (args m c).g (ix2 0 l) := by
  unfold args
  blk_simp [iblk]
  exact congrArg _ (by blk_ext [idx t])

theorem blk2 (e : Fin 5120) (k : Fin 1024) : (X0_2 m c t : S1x5120x1024.Idx → EReal) (ix3 0 e k) = (args m c).w (ix3 0 ⟨e.val, by omega⟩ k) := by
  unfold args X0_2 Pipeline.Window.fill
  rw [dif_pos (moved0_2 t _)]
  blk_simp [iblk]
  exact congrArg _ (by blk_ext [idx t])

/-- The tail that the host puts together: two parts of the weights' rows. -/
theorem tail_eq (e : Fin 1280) (k : Fin 1024) : (V m c main_v2 : S1x1280x1024.Idx → EReal) (ix3 0 e k) = (args m c).w (ix3 0 (src ⟨5120 + e.val, by omega⟩) k) := by
  have he := e.isLt
  have hw : (args m c).w = m (c, Proc.tc.devRef main_arg2) := V_main_arg2 m c
  rw [hw]
  unfold V
  after_results
  pointwise
  by_cases h : e.val < 1024
  · rw [dif_pos h, src_gate _ (by dsimp only; omega) (by dsimp only; omega)]
    exact congrArg (fun j => (m (c, Proc.tc.devRef main_arg2) : S1x6400x1024.Idx → EReal) (ix3 0 j k)) (Fin.ext (by dsimp only; omega))
  · rw [dif_neg h, src_kv _ (by dsimp only; omega)]
    exact congrArg (fun j => (m (c, Proc.tc.devRef main_arg2) : S1x6400x1024.Idx → EReal) (ix3 0 j k)) (Fin.ext (by dsimp only; omega))

theorem blk3 (e : Fin 1280) (k : Fin 1024) : (iblk m c 3 t : S1x1280x1024.Idx → EReal) (ix3 0 e k) =
    (args m c).w (ix3 0 (src ⟨5120 + e.val, by omega⟩) k) := by
  rw [← tail_eq m c e k]
  blk_simp [iblk]
  exact congrArg _ (by blk_ext [idx t])

/-- A point's rows of the weights, as the arguments give them. -/
theorem ld2 (off : Fin 3 → ℕ) (s : ℕ) (ho : off = ![0, s, 0]) (inb : ∀ a, off a + S1x1280x1024.size a ≤ S1x5120x1024.size a) (e : Fin 1280) (k : Fin 1024)
    (h : s + e.val < 5120) :
    View.ld (X0_2 m c t) (Rect.unit (s := S1x5120x1024) off S1x1280x1024.size inb) (ix3 0 e k) = (args m c).w (ix3 0 ⟨s + e.val, by omega⟩ k) := by
  subst ho
  refine Eq.trans (congrArg (X0_2 m c t : S1x5120x1024.Idx → EReal) (funext fun a => Fin.ext ?_)) (blk2 m c t ⟨s + e.val, h⟩ k)
  match a with
  | ⟨0, _⟩ => simp [LoadRect.idx, Rect.emb, Rect.unit]
  | ⟨1, _⟩ => simp [LoadRect.idx, Rect.emb, Rect.unit]
  | ⟨2, _⟩ => simp [LoadRect.idx, Rect.emb, Rect.unit]

/-- The normed rows a first point of a row block stores. -/
theorem norm_eq (r l : Fin 1024) : k0_pay1 (F := Ideal) (iblk m c 0 t) (iblk m c 1 t) (ix2 r l) = h (args m c) (rowOf t.val t.isLt r) l := by
  have hn (x : S1024x1024.Idx → EReal) (g : S1x1024.Idx → EReal) (hx : ∀ r k, x (ix2 r k) = (args m c).x (ix2 (rowOf t.val t.isLt r) k))
      (hg : ∀ l, g (ix2 0 l) = (args m c).g (ix2 0 l)) : k0_pay1 (F := Ideal) x g (ix2 r l) = h (args m c) (rowOf t.val t.isLt r) l := by
    rw [norm_at]
    simp only [hx, hg]
    rfl
  exact hn _ _ (blk0 m c t) (blk1 m c t)

/-- The same rows as the scratch takes them. -/
theorem norm_eq' (r l : Fin 1024) : k0_pay2 (F := Ideal) (iblk m c 0 t) (iblk m c 1 t) (ix2 r l) = h (args m c) (rowOf t.val t.isLt r) l :=
  (norm_at' ..).trans (norm_eq m c t r l)

theorem first_h (h0 : t.val % 5 = 0) (r l : Fin 1024) : firstH m c t h0 (ix2 r l) = h (args m c) (rowOf t.val t.isLt r) l := by
  refine Eq.trans ?_ (norm_eq m c t r l)
  unfold firstH first
  frame_out

theorem first_s (h0 : t.val % 5 = 0) (r l : Fin 1024) : firstS m c t h0 (ix2 r l) = h (args m c) (rowOf t.val t.isLt r) l := by
  refine Eq.trans ?_ (norm_eq' m c t r l)
  unfold firstS first
  frame_out

theorem row_next (n : ℕ) (hn : n + 1 < cfg0.N) (h0 : ¬(n + 1) % 5 = 0) (r : Fin 1024) : rowOf (n + 1) hn r = rowOf n (Nat.lt_of_succ_lt hn) r :=
  Fin.ext (by unfold rowOf; dsimp only; omega)

/-- What the scratch holds after a point: the normed rows of its row block. -/
theorem held_row : ∀ (n : ℕ) (hn : n < cfg0.N) (r l : Fin 1024), held m c n hn (ix2 r l) = h (args m c) (rowOf n hn r) l := by
  intro n
  induction n with
  | zero => exact fun hn r l => first_s m c ⟨0, hn⟩ rfl r l
  | succ n ih =>
    intro hn r l
    by_cases h0 : (n + 1) % 5 = 0
    · rw [held_first m c ⟨n + 1, hn⟩ h0]
      exact first_s m c ⟨n + 1, hn⟩ h0 r l
    · rw [held_next m c ⟨n + 1, hn⟩ h0, row_next n hn h0 r]
      exact ih (Nat.lt_of_succ_lt hn) r l

/-- And the second output's buffer. -/
theorem kept_row : ∀ (n : ℕ) (hn : n < cfg0.N) (r l : Fin 1024), kept m c n hn (ix2 r l) = h (args m c) (rowOf n hn r) l := by
  intro n
  induction n with
  | zero => exact fun hn r l => first_h m c ⟨0, hn⟩ rfl r l
  | succ n ih =>
    intro hn r l
    by_cases h0 : (n + 1) % 5 = 0
    · rw [kept_first m c ⟨n + 1, hn⟩ h0]
      exact first_h m c ⟨n + 1, hn⟩ h0 r l
    · rw [kept_next m c ⟨n + 1, hn⟩ h0, row_next n hn h0 r]
      exact ih (Nat.lt_of_succ_lt hn) r l

/-- A column of a point's block among all columns. -/
def colOf (e : Fin 1280) : Fin 6400 := ⟨1280 * (t.val % 5) + e.val, by omega⟩

theorem prod_of (v : S1024x1024.Idx → EReal) (w : S1x1280x1024.Idx → EReal) (r : Fin 1024) (e : Fin 1280)
    (hv : ∀ k, v (ix2 r k) = h (args m c) (rowOf t.val t.isLt r) k) (hw : ∀ k, w (ix3 0 e k) = (args m c).w (ix3 0 (src (colOf t e)) k)) :
    ∑ k : Fin 1024, v (ix2 r k) * w (ix3 0 e k) = p (args m c) (rowOf t.val t.isLt r) (colOf t e) := by
  simp only [hv, hw]
  rfl

theorem before_row (h0 : ¬t.val % 5 = 0) (r k : Fin 1024) :
    held m c (t.val - 1) (before_lt t) (ix2 r k) = h (args m c) (rowOf t.val t.isLt r) k := by
  refine (held_row m c _ _ r k).trans (congrArg (h (args m c) · k) (Fin.ext ?_))
  unfold rowOf
  dsimp only
  omega

theorem main_row (h1 : t.val % 5 ≤ 3) (inb : ∀ a, (k0_off1 (grid0.coords t)) a + S1x1280x1024.size a ≤ S1x5120x1024.size a) (e : Fin 1280) (k : Fin 1024) :
    View.ld (X0_2 m c t) (Rect.unit (s := S1x5120x1024) (k0_off1 (grid0.coords t)) S1x1280x1024.size inb) (ix3 0 e k) =
      (args m c).w (ix3 0 (src (colOf t e)) k) := by
  have ho : k0_off1 (grid0.coords t) = ![0, 1280 * (t.val % 5), 0] := by rw [k0_off1_eq, coord]
  have he : 1280 * (t.val % 5) + e.val < 5120 := by omega
  rw [src_main _ he]
  exact ld2 m c t _ _ ho inb e k he

theorem tail_row (h2 : t.val % 5 = 4) (e : Fin 1280) (k : Fin 1024) :
    (iblk m c 3 t : S1x1280x1024.Idx → EReal) (ix3 0 e k) = (args m c).w (ix3 0 (src (colOf t e)) k) := by
  refine (blk3 m c t e k).trans (congrArg (fun j => (args m c).w (ix3 0 (src j) k)) (Fin.ext ?_))
  unfold colOf
  dsimp only
  omega

theorem left_p (r : Fin 1024) (e : Fin 1280) : proj m c t (ix2 r e) = p (args m c) (rowOf t.val t.isLt r) (colOf t e) := by
  by_cases h0 : t.val % 5 = 0
  · rw [proj_first m c t h0]
    unfold firstP first
    frame_out
    refine (main_at ..).trans (prod_of m c t _ _ r e ?_ ?_)
    · exact fun k => norm_eq' m c t r k
    · exact fun k => main_row m c t (by omega) _ e k
  · by_cases h2 : t.val % 5 = 4
    · rw [proj_last m c t h2]
      unfold lastP last
      frame_out
      refine (tail_at ..).trans (prod_of m c t _ _ r e ?_ ?_)
      · exact fun k => (congrFun (read_unread_whole _ _ _) _).trans (before_row m c t h0 r k)
      · exact fun k => tail_row m c t h2 e k
    · rw [proj_mid m c t h0 h2]
      unfold midP mid
      frame_out
      refine (main_at ..).trans (prod_of m c t _ _ r e ?_ ?_)
      · exact fun k => (congrFun (read_unread_whole _ _ _) _).trans (before_row m c t h0 r k)
      · exact fun k => main_row m c t (by omega) _ e k

theorem final4 : (dats m 0 c).arrAt 4 cfg0.N = fun i => p (args m c) (i 0) (i 1) := by
  refine (dats m 0 c).arrAt_eq_of_covers 4 _ (by decide +kernel) fun t _ z => ?_
  blk_simp
  rw [after0_4]
  refine (congrArg (proj m c t) (eq_ix2 z)).trans ((left_p m c t (z 0) (z 1)).trans (congrArg₂ (p (args m c)) (Fin.ext ?_) (Fin.ext ?_)))
  · show 1024 * (t.val / 5) + (z 0).val = _
    blk_simp [idx t]
    omega
  · show 1280 * (t.val % 5) + (z 1).val = _
    blk_simp [idx t]
    omega

theorem final5 : (dats m 0 c).arrAt 5 cfg0.N = fun i => h (args m c) (i 0) (i 1) := by
  refine (dats m 0 c).arrAt_eq_of_covers 5 _ (by decide +kernel) fun t _ z => ?_
  blk_simp
  rw [after0_5]
  refine (congrArg (kept m c t.val t.isLt) (eq_ix2 z)).trans ((kept_row m c t.val t.isLt (z 0) (z 1)).trans (congrArg₂ (h (args m c)) (Fin.ext ?_) (Fin.ext ?_)))
  · show 1024 * (t.val / 5) + (z 0).val = _
    blk_simp [idx t]
    omega
  · blk_simp [idx t]

end Cert.KernelIIdeal.Words
-- ==== Proof.RefProjI.lean ====
/- The input projection with the norm before it: what the reference returns. -/
module

public import proofs.«01_k».proof.Proof.SpecI
public import proofs.«01_k».proof.Proof.Gen.ReferenceIIdeal.Read

@[expose] public section

set_option maxRecDepth 16384

noncomputable section

namespace Cert.ReferenceIIdeal.Value

open Idealize.ShloMosaic Idealize.SL.Sem Cert.ReferenceIIdeal Cert.ReferenceIIdeal.Gen Cert.ReferenceIIdeal.Read Cert.Norm Cert.SpecI

variable (A : Arrays)

theorem meanSq_at (r : Fin 4096) (a : Fin 1) : val_main_v6 (F := Ideal) A.x (ix2 r a) = meanSq fun k => A.x (ix2 r k) := by
  have h : val_main_v1 (F := Ideal) A.x (ix1 r) = ∑ k, A.x (ix2 r k) * A.x (ix2 r k) := by
    rw [val_main_v1_apply]
    refine (congrArg (· + _) Ideal.ofBits_zero_f32).trans ((zero_add _).trans (Finset.sum_congr rfl fun k _ => ?_))
    rw [show idx_main_v1 (ix1 r) k = ix2 r k from eq_ix2 _, val_main_v0_apply]
    rfl
  rw [val_main_v6_apply, val_main_v4_apply, val_main_v2_apply, val_main_v3_apply, val_main_v5_apply,
    show idx_main_v2 (ix2 r a) = ix1 r from eq_ix1 _, h]
  rfl

theorem scale_at (r : Fin 4096) (a : Fin 1) : val_main_v7 (F := Ideal) A.x (ix2 r a) = scale fun k => A.x (ix2 r k) :=
  congrArg Ideal.rsqrt (meanSq_at A r a)

theorem h_at (r : Fin 4096) (l : Fin 1024) : val_main_v11 (F := Ideal) A.x A.g (ix2 r l) = h A r l := by
  rw [val_main_v11_apply, val_main_v9_apply, val_main_v8_apply, val_main_v10_apply,
    show idx_main_v8 (ix2 r l) = ix2 r 0 from eq_ix2 _, show idx_main_v10 (ix2 r l) = ix2 0 l from eq_ix2 _, scale_at]
  rfl

theorem weight_eq (l : Fin 1024) (e : Fin 6400) : val_main_v14 (F := Ideal) A.w (ix2 l e) = A.w (ix3 0 e l) := by
  rw [val_main_v14_apply]
  show val_main_v12 (F := Ideal) A.w _ = _
  rw [val_main_v12_apply]
  refine congrArg A.w (funext fun a => Fin.ext ?_)
  have he := e.isLt
  have hl := l.isLt
  match a with
  | ⟨0, _⟩ => rfl
  | ⟨1, _⟩ => show (e.val * 1024 + l.val) / 1024 % 6400 = e.val; omega
  | ⟨2, _⟩ => show (e.val * 1024 + l.val) % 1024 = l.val; omega

theorem prod_at (r : Fin 4096) (e : Fin 6400) : val_main_v15 (F := Ideal) A.x A.g A.w (ix2 r e) = prod A r e := by
  rw [val_main_v15_apply]
  refine Finset.sum_congr rfl fun j _ => congrArg₂ (fun a b : EReal => a * b) ?_ ?_
  · exact (congrArg (val_main_v11 (F := Ideal) A.x A.g) (eq_ix2 _)).trans (h_at A r j)
  · exact (congrArg (val_main_v14 (F := Ideal) A.w) (eq_ix2 _)).trans (weight_eq A j e)

theorem part0 (r : Fin 4096) (e : Fin 5120) : val_main_v16 (F := Ideal) A.x A.g A.w (ix2 r e) = prod A r ⟨e.val, by omega⟩ := by
  rw [val_main_v16_apply]
  exact (congrArg (val_main_v15 (F := Ideal) A.x A.g A.w) (eq_ix2 _)).trans (prod_at A r _)

theorem part1 (r : Fin 4096) (e : Fin 1024) : val_main_v17 (F := Ideal) A.x A.g A.w (ix2 r e) = prod A r ⟨5376 + e.val, by omega⟩ := by
  rw [val_main_v17_apply]
  exact (congrArg (val_main_v15 (F := Ideal) A.x A.g A.w) (eq_ix2 _)).trans (prod_at A r _)

theorem part2 (r : Fin 4096) (e : Fin 256) : val_main_v18 (F := Ideal) A.x A.g A.w (ix2 r e) = prod A r ⟨5120 + e.val, by omega⟩ := by
  rw [val_main_v18_apply]
  exact (congrArg (val_main_v15 (F := Ideal) A.x A.g A.w) (eq_ix2 _)).trans (prod_at A r _)

theorem p_at (r : Fin 4096) (e : Fin 6400) : val_main_v19 (F := Ideal) A.x A.g A.w (ix2 r e) = p A r e := by
  have he := e.isLt
  have h0 := part0 A r
  have h1 := part1 A r
  have h2 := part2 A r
  unfold val_main_v19 p
  generalize val_main_v16 (F := Ideal) A.x A.g A.w = u at h0 ⊢
  generalize val_main_v17 (F := Ideal) A.x A.g A.w = v at h1 ⊢
  generalize val_main_v18 (F := Ideal) A.x A.g A.w = z at h2 ⊢
  pointwise
  by_cases hm : e.val < 5120
  · rw [dif_pos hm, src_main e hm]
    exact h0 _
  · rw [dif_neg hm]
    by_cases hg : e.val < 6144
    · rw [dif_pos (by omega), src_gate e (by omega) hg]
      exact (h1 _).trans (congrArg (prod A r) (Fin.ext (by show 5376 + (e.val - 5120) = e.val + 256; omega)))
    · rw [dif_neg (by omega), src_kv e (by omega)]
      exact (h2 _).trans (congrArg (prod A r) (Fin.ext (by dsimp only; omega)))

theorem projected (i : S4096x6400.Idx) : val_main_v19 (F := Ideal) A.x A.g A.w i = p A (i 0) (i 1) :=
  (congrArg _ (eq_ix2 i)).trans (p_at A (i 0) (i 1))

theorem normed (i : S4096x1024.Idx) : val_main_v20 (F := Ideal) A.x A.g i = h A (i 0) (i 1) :=
  (congrArg (val_main_v11 (F := Ideal) A.x A.g) (eq_ix2 i)).trans (h_at A (i 0) (i 1))

/-- The reference's arguments. -/
def args (m : (ℓ : Loc nD τ sig) → Buf (Elt Ideal) ℓ) (c : Dev nD) : Arrays :=
  ⟨m ((c.tc : Thread nD τ).loc main_arg0), m ((c.tc : Thread nD τ).loc main_arg1), m ((c.tc : Thread nD τ).loc main_arg2)⟩

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = (fun i => p (args m c) (i 0) (i 1))
      ∧ r.2.mem ((c.tc : Thread nD τ).loc main_v20) = (fun i => h (args m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v19_eq (F := Ideal) _ _ _).trans (funext (projected (args m c)))),
      (h c).2.1.trans ((val_main_v20_eq (F := Ideal) _ _).trans (funext (normed (args m c)))), (h c).2.2⟩)
    (run m ρ)

end Cert.ReferenceIIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.KernelW
public import proofs.«01_k».proof.Proof.Gen.KernelW.Frame
public import proofs.«01_k».proof.Proof.Gen.KernelWIdeal
public import proofs.«01_k».proof.Proof.Gen.KernelWIdeal.Value
public import proofs.«01_k».proof.Proof.Gen.ReferenceWIdeal
public import proofs.«01_k».proof.Proof.Gen.ReferenceWIdeal.Read
public import proofs.«01_k».proof.Proof.Gen.KernelX
public import proofs.«01_k».proof.Proof.Gen.KernelX.Frame
public import proofs.«01_k».proof.Proof.Gen.KernelXIdeal
public import proofs.«01_k».proof.Proof.Gen.KernelXIdeal.Value
public import proofs.«01_k».proof.Proof.Gen.ReferenceXIdeal
public import proofs.«01_k».proof.Proof.Gen.ReferenceXIdeal.Read
public import proofs.«01_k».proof.Proof.Gen.KernelO
public import proofs.«01_k».proof.Proof.Gen.KernelO.Frame
public import proofs.«01_k».proof.Proof.Gen.KernelOIdeal
public import proofs.«01_k».proof.Proof.Gen.KernelOIdeal.Value
public import proofs.«01_k».proof.Proof.Gen.ReferenceOIdeal
public import proofs.«01_k».proof.Proof.Gen.ReferenceOIdeal.Read
public import proofs.«01_k».proof.Proof.Gen.KernelY
public import proofs.«01_k».proof.Proof.Gen.KernelY.Frame
public import proofs.«01_k».proof.Proof.Gen.KernelYIdeal
public import proofs.«01_k».proof.Proof.Gen.KernelYIdeal.Value
public import proofs.«01_k».proof.Proof.Gen.ReferenceYIdeal
public import proofs.«01_k».proof.Proof.Gen.ReferenceYIdeal.Read
public import proofs.«01_k».proof.Proof.Gen.KernelL
public import proofs.«01_k».proof.Proof.Gen.KernelL.Frame
public import proofs.«01_k».proof.Proof.Gen.KernelLIdeal
public import proofs.«01_k».proof.Proof.Gen.KernelLIdeal.Value
public import proofs.«01_k».proof.Proof.Gen.ReferenceLIdeal
public import proofs.«01_k».proof.Proof.Gen.ReferenceLIdeal.Read
public import proofs.«01_k».proof.Proof.Gen.KernelI
public import proofs.«01_k».proof.Proof.Gen.KernelIIdeal
public import proofs.«01_k».proof.Proof.Gen.KernelIIdeal.Launch
public import proofs.«01_k».proof.Proof.Gen.KernelIIdeal.Skeleton
public import proofs.«01_k».proof.Proof.Gen.KernelIIdeal.Points
public import proofs.«01_k».proof.Proof.Gen.ReferenceIIdeal
public import proofs.«01_k».proof.Proof.Gen.ReferenceIIdeal.Read
public import proofs.«01_k».proof.Proof.Arrays
public import proofs.«01_k».proof.Proof.Result
public import proofs.«01_k».proof.Proof.Finite
public import proofs.«01_k».proof.Proof.GradW
public import proofs.«01_k».proof.Proof.RefGradW
public import proofs.«01_k».proof.Proof.GradX
public import proofs.«01_k».proof.Proof.RefGradX
public import proofs.«01_k».proof.Proof.GradO
public import proofs.«01_k».proof.Proof.RefGradO
public import proofs.«01_k».proof.Proof.OutY
public import proofs.«01_k».proof.Proof.RefOutY
public import proofs.«01_k».proof.Proof.LossL
public import proofs.«01_k».proof.Proof.RefLossL
public import proofs.«01_k».proof.Proof.ProjI
public import proofs.«01_k».proof.Proof.RefProjI
public import Idealize.ShloMosaic.Adequacy
public import Idealize.ShloMosaic.Init

@[expose] public section

noncomputable section

namespace Cert.Proof

open Idealize.ShloMosaic Idealize.SL.Sem
open Cert.KernelIdeal.Words (arr Args)

instance : Cert.Pre_finite.Facts := Cert.Finite.facts

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩) (Cert.ReferenceIdeal.Value.run m ρ)

theorem preserves : Cert.preserves_Kernel_KernelIdeal := IdealRules.named_const.statement Cert.KernelIdeal.κ "mask" .f32 0xF149F2CA#32 ⊥ rfl

/-- The kernel and the reference return the same gradients: both those of the specification. -/
theorem algebraic : Cert.algebraic_KernelIdeal_ReferenceIdeal_pre_finite := by
  intro m ρ m' ρ' hpre hagree
  let x0 (c : Dev Cert.KernelIdeal.nD) : Cert.KernelIdeal.S4096x6400.Idx → EReal :=
    m ((c.tc : Thread Cert.KernelIdeal.nD Cert.KernelIdeal.τ).loc Cert.KernelIdeal.main_arg0)
  let x1 (c : Dev Cert.KernelIdeal.nD) : Cert.KernelIdeal.S16.Idx → EReal :=
    m ((c.tc : Thread Cert.KernelIdeal.nD Cert.KernelIdeal.τ).loc Cert.KernelIdeal.main_arg1)
  let x2 (c : Dev Cert.KernelIdeal.nD) : Cert.KernelIdeal.S4096x1024.Idx → EReal :=
    m ((c.tc : Thread Cert.KernelIdeal.nD Cert.KernelIdeal.τ).loc Cert.KernelIdeal.main_arg2)
  have h0 (c) := Cert.Finite.mat_at (x0 c) (Cert.Finite.real_of Cert.Finite.facts.bcast_S_S4096x6400 (x0 c) (hpre c).1)
  have h1 (c) := Cert.Finite.vec_at (x1 c) (Cert.Finite.real_of Cert.Finite.facts.bcast_S_S16 (x1 c) (hpre c).2.1)
  have h2 (c) := Cert.Finite.mat_at (x2 c) (Cert.Finite.real_of Cert.Finite.facts.bcast_S_S4096x1024 (x2 c) (hpre c).2.2)
  have A : ∀ c, Args m c (Cert.Finite.mat (x0 c)) (Cert.Finite.mat (x2 c)) (Cert.Finite.vec (x1 c)) := fun c =>
    ⟨fun i => ((congrFun (Cert.KernelIdeal.Gen.V_main_arg0 m c) i).trans (congrArg (x0 c) (eq_ix2 i))).trans (h0 c (i 0) (i 1)),
      fun i => ((congrFun (Cert.KernelIdeal.Gen.V_main_arg2 m c) i).trans (congrArg (x2 c) (eq_ix2 i))).trans (h2 c (i 0) (i 1)),
      fun h => h1 c h⟩
  refine ⟨fun c => arr 4096 1024 (Spec.dq (Cert.Finite.mat (x0 c)) (Cert.Finite.mat (x2 c)) (Cert.Finite.vec (x1 c))),
    fun c => arr 4096 1024 (Spec.dz (Cert.Finite.mat (x0 c)) (Cert.Finite.mat (x2 c)) (Cert.Finite.vec (x1 c))),
    fun c => arr 4096 256 (Spec.dkv (Cert.Finite.mat (x0 c)) (Cert.Finite.mat (x2 c)) (Cert.Finite.vec (x1 c))),
    fun c => arr 16 128 fun h _ => Spec.dsink (Cert.Finite.mat (x0 c)) (Cert.Finite.mat (x2 c)) (Cert.Finite.vec (x1 c)) h, ?_, ?_⟩
  · exact (θ_run Cert.KernelIdeal.defs _ _).mono (fun _ h c => ⟨(h c).1.trans (Cert.KernelIdeal.Words.final10 (A c)),
      (h c).2.1.trans (Cert.KernelIdeal.Words.final11 (A c)), (h c).2.2.1.trans (Cert.KernelIdeal.Words.final12 (A c)),
      (h c).2.2.2.1.trans (Cert.KernelIdeal.Words.final13 (A c)), (h c).2.2.2.2⟩) (Cert.KernelIdeal.Value.run_blocks m ρ)
  · refine Cert.ReferenceIdeal.Value.reference_run m' ρ' (fun c => Cert.Finite.mat (x0 c)) (fun c => Cert.Finite.mat (x2 c))
      (fun c => Cert.Finite.vec (x1 c)) fun c => ?_
    rw [(hagree c).1, (hagree c).2.1, (hagree c).2.2]
    exact ⟨h0 c, h2 c, h1 c⟩

theorem frame_kernel_w : Cert.quiescent_KernelW := fun m ρ _ => Cert.KernelW.Gen.frame m ρ

theorem frame_ideal_w : Cert.quiescent_KernelWIdeal := fun m ρ _ => Cert.KernelWIdeal.Gen.frame m ρ

theorem frame_reference_w : Cert.quiescent_ReferenceWIdeal := fun m ρ _ =>
  (θ_run Cert.ReferenceWIdeal.defs _ _).mono
    (fun r h => ⟨fun c => (h c).2, Idealize.ShloMosaic.sem_eq_zero_of_no_sems (by decide) r.2⟩) (Cert.ReferenceWIdeal.Value.run m ρ)

/-- The kernel and the reference return the same gradient of the projection's weights. -/
theorem algebraic_w : Cert.algebraic_KernelWIdeal_ReferenceWIdeal := by
  intro m ρ m' ρ' _ hagree
  refine ⟨fun c => Cert.KernelWIdeal.Words.grad m c, ?_, ?_⟩
  · exact (θ_run Cert.KernelWIdeal.defs _ _).mono (fun _ h c => ⟨(h c).1.trans (Cert.KernelWIdeal.Words.final8 m c), (h c).2⟩)
      (Cert.KernelWIdeal.Value.run_blocks m ρ)
  · refine (θ_run Cert.ReferenceWIdeal.defs _ _).mono (fun _ h c => ⟨(h c).1.trans ?_, (h c).2⟩) (Cert.ReferenceWIdeal.Value.reference_run m' ρ')
    obtain ⟨h0, h1, h2, h3, h4, h5, h6, h7⟩ := hagree c
    rw [h0, h1, h2, h3, h4, h5, h6, h7]
    rfl

theorem frame_kernel_x : Cert.quiescent_KernelX := fun m ρ _ => Cert.KernelX.Gen.frame m ρ

theorem frame_ideal_x : Cert.quiescent_KernelXIdeal := fun m ρ _ => Cert.KernelXIdeal.Gen.frame m ρ

theorem frame_reference_x : Cert.quiescent_ReferenceXIdeal := fun m ρ _ =>
  (θ_run Cert.ReferenceXIdeal.defs _ _).mono
    (fun r h => ⟨fun c => (h c).2.2, Idealize.ShloMosaic.sem_eq_zero_of_no_sems (by decide) r.2⟩) (Cert.ReferenceXIdeal.Value.run m ρ)

/-- The kernel and the reference return the same gradients of the projection's input and of the norm's gain. -/
theorem algebraic_x : Cert.algebraic_KernelXIdeal_ReferenceXIdeal := by
  intro m ρ m' ρ' _ hagree
  have hargs (c) : Cert.ReferenceXIdeal.Value.args m' c = Cert.KernelXIdeal.Words.args m c := by
    obtain ⟨h0, h1, h2, h3, h4, h5, h6, h7, h8, h9, h10⟩ := hagree c
    unfold Cert.ReferenceXIdeal.Value.args
    rw [h0, h1, h2, h3, h4, h5, h6, h7, h8, h9, h10]
    rfl
  refine ⟨fun c i => Cert.SpecX.dx (Cert.KernelXIdeal.Words.args m c) (i 0) (i 1), fun c i => Cert.SpecX.dg (Cert.KernelXIdeal.Words.args m c) (i 1), ?_, ?_⟩
  · exact (θ_run Cert.KernelXIdeal.defs _ _).mono (fun _ h c => ⟨(h c).1.trans (Cert.KernelXIdeal.Words.final11 m c),
      (h c).2.1.trans (Cert.KernelXIdeal.Words.final12 m c), (h c).2.2⟩) (Cert.KernelXIdeal.Value.run_blocks m ρ)
  · refine (θ_run Cert.ReferenceXIdeal.defs _ _).mono (fun _ h c => ⟨(h c).1.trans ?_, (h c).2.1.trans ?_, (h c).2.2⟩)
      (Cert.ReferenceXIdeal.Value.reference_run m' ρ')
    · rw [hargs c]
      rfl
    · rw [hargs c]
      rfl

theorem frame_kernel_o : Cert.quiescent_KernelO := fun m ρ _ => Cert.KernelO.Gen.frame m ρ

theorem frame_ideal_o : Cert.quiescent_KernelOIdeal := fun m ρ _ => Cert.KernelOIdeal.Gen.frame m ρ

theorem frame_reference_o : Cert.quiescent_ReferenceOIdeal := fun m ρ _ =>
  (θ_run Cert.ReferenceOIdeal.defs _ _).mono
    (fun r h => ⟨fun c => (h c).2.2.2.2, Idealize.ShloMosaic.sem_eq_zero_of_no_sems (by decide) r.2⟩) (Cert.ReferenceOIdeal.Value.run m ρ)

/-- The output projection's gradients are the reference's. -/
theorem algebraic_o : Cert.algebraic_KernelOIdeal_ReferenceOIdeal := by
  intro m ρ m' ρ' _ hagree
  have hargs (c) : Cert.ReferenceOIdeal.Value.args m' c = Cert.KernelOIdeal.Words.args m c := by
    obtain ⟨h0, h1, h2, h3, h4, h5⟩ := hagree c
    unfold Cert.ReferenceOIdeal.Value.args
    rw [h0, h1, h2, h3, h4, h5]
    rfl
  refine ⟨fun c i => Cert.SpecO.dh (Cert.KernelOIdeal.Words.args m c) (i 0) (Cert.SpecO.top (i 1)), fun c i => Cert.SpecO.dh (Cert.KernelOIdeal.Words.args m c) (i 0) (Cert.SpecO.low (i 1)), fun c i => Cert.SpecO.dw (Cert.KernelOIdeal.Words.args m c) (i 0) (i 1), fun c i => Cert.SpecO.dg (Cert.KernelOIdeal.Words.args m c) (i 1), ?_, ?_⟩
  · exact (θ_run Cert.KernelOIdeal.defs _ _).mono (fun _ h c => ⟨(h c).1.trans (Cert.KernelOIdeal.Words.final6 m c), (h c).2.1.trans (Cert.KernelOIdeal.Words.final7 m c), (h c).2.2.1.trans (Cert.KernelOIdeal.Words.final8 m c), (h c).2.2.2.1.trans (Cert.KernelOIdeal.Words.final9 m c), (h c).2.2.2.2⟩)
      (Cert.KernelOIdeal.Value.run_blocks m ρ)
  · refine (θ_run Cert.ReferenceOIdeal.defs _ _).mono (fun _ h c => ⟨(h c).1.trans ?_, (h c).2.1.trans ?_, (h c).2.2.1.trans ?_, (h c).2.2.2.1.trans ?_, (h c).2.2.2.2⟩)
      (Cert.ReferenceOIdeal.Value.reference_run m' ρ')
    · rw [hargs c]
      rfl
    · rw [hargs c]
      rfl
    · rw [hargs c]
      rfl
    · rw [hargs c]
      rfl

theorem frame_kernel_y : Cert.quiescent_KernelY := fun m ρ _ => Cert.KernelY.Gen.frame m ρ

theorem frame_ideal_y : Cert.quiescent_KernelYIdeal := fun m ρ _ => Cert.KernelYIdeal.Gen.frame m ρ

theorem frame_reference_y : Cert.quiescent_ReferenceYIdeal := fun m ρ _ =>
  (θ_run Cert.ReferenceYIdeal.defs _ _).mono
    (fun r h => ⟨fun c => (h c).2.2, Idealize.ShloMosaic.sem_eq_zero_of_no_sems (by decide) r.2⟩) (Cert.ReferenceYIdeal.Value.run m ρ)

/-- The layer's output and the projection are the reference's. -/
theorem algebraic_y : Cert.algebraic_KernelYIdeal_ReferenceYIdeal := by
  intro m ρ m' ρ' _ hagree
  have hargs (c) : Cert.ReferenceYIdeal.Value.args m' c = Cert.KernelYIdeal.Words.args m c := by
    obtain ⟨h0, h1, h2, h3, h4⟩ := hagree c
    unfold Cert.ReferenceYIdeal.Value.args
    rw [h0, h1, h2, h3, h4]
    rfl
  refine ⟨fun c i => Cert.SpecY.out (Cert.KernelYIdeal.Words.args m c) (i 0) (i 1), fun c i => Cert.SpecY.y (Cert.KernelYIdeal.Words.args m c) (i 0) (i 1), ?_, ?_⟩
  · exact (θ_run Cert.KernelYIdeal.defs _ _).mono (fun _ h c => ⟨(h c).1.trans (Cert.KernelYIdeal.Words.final5 m c), (h c).2.1.trans (Cert.KernelYIdeal.Words.final6 m c), (h c).2.2⟩)
      (Cert.KernelYIdeal.Value.run_blocks m ρ)
  · refine (θ_run Cert.ReferenceYIdeal.defs _ _).mono (fun _ h c => ⟨(h c).1.trans ?_, (h c).2.1.trans ?_, (h c).2.2⟩)
      (Cert.ReferenceYIdeal.Value.reference_run m' ρ')
    · rw [hargs c]
      rfl
    · rw [hargs c]
      rfl

/-- The two programs of `_in_proj` have the same text: their tables of bodies are the same. -/
theorem rows_same_i : Cert.KernelI.defs₀ (F := Bits) = Cert.KernelIIdeal.defs₀ := by
  unfold Cert.KernelI.defs₀ Cert.KernelIIdeal.defs₀
  refine congrArg Defs.onTc (funext fun a => funext fun b => ?_)
  match a, b with
  | ⟨0, _⟩, (_, _) => rfl

theorem defs_same_i : Cert.KernelI.defs (F := Bits) = Cert.KernelIIdeal.defs :=
  congrArg (Pipeline.defs (Cert.KernelI.pcfgs (F := Bits))) rows_same_i

theorem frame_kernel_i : Cert.quiescent_KernelI := fun m ρ _ => by
  rw [defs_same_i]
  exact Cert.KernelIIdeal.Grid.frame (F := Bits) m ρ

theorem frame_ideal_i : Cert.quiescent_KernelIIdeal := fun m ρ _ => Cert.KernelIIdeal.Grid.frame m ρ

theorem frame_reference_i : Cert.quiescent_ReferenceIIdeal := fun m ρ _ =>
  (θ_run Cert.ReferenceIIdeal.defs _ _).mono
    (fun r h => ⟨fun c => (h c).2.2, Idealize.ShloMosaic.sem_eq_zero_of_no_sems (by decide) r.2⟩) (Cert.ReferenceIIdeal.Value.run m ρ)

/-- The projection and the normed input are the reference's. -/
theorem algebraic_i : Cert.algebraic_KernelIIdeal_ReferenceIIdeal := by
  intro m ρ m' ρ' _ hagree
  have hargs (c) : Cert.ReferenceIIdeal.Value.args m' c = Cert.KernelIIdeal.Words.args m c := by
    obtain ⟨h0, h1, h2⟩ := hagree c
    unfold Cert.ReferenceIIdeal.Value.args Cert.KernelIIdeal.Words.args
    rw [h0, h1, h2, Cert.KernelIIdeal.Grid.V_main_arg0, Cert.KernelIIdeal.Grid.V_main_arg1, Cert.KernelIIdeal.Grid.V_main_arg2]
  refine ⟨fun c i => Cert.SpecI.p (Cert.KernelIIdeal.Words.args m c) (i 0) (i 1), fun c i => Cert.SpecI.h (Cert.KernelIIdeal.Words.args m c) (i 0) (i 1), ?_, ?_⟩
  · exact (θ_run Cert.KernelIIdeal.defs _ _).mono (fun _ h c => ⟨(h c).1.trans (Cert.KernelIIdeal.Words.final4 m c), (h c).2.1.trans (Cert.KernelIIdeal.Words.final5 m c), (h c).2.2⟩)
      (Cert.KernelIIdeal.Grid.run_arrays m ρ)
  · refine (θ_run Cert.ReferenceIIdeal.defs _ _).mono (fun _ h c => ⟨(h c).1.trans ?_, (h c).2.1.trans ?_, (h c).2.2⟩)
      (Cert.ReferenceIIdeal.Value.reference_run m' ρ')
    · rw [hargs c]
      rfl
    · rw [hargs c]
      rfl

theorem frame_kernel_l : Cert.quiescent_KernelL := fun m ρ _ => Cert.KernelL.Gen.frame m ρ

theorem frame_ideal_l : Cert.quiescent_KernelLIdeal := fun m ρ _ => Cert.KernelLIdeal.Gen.frame m ρ

theorem frame_reference_l : Cert.quiescent_ReferenceLIdeal := fun m ρ _ =>
  (θ_run Cert.ReferenceLIdeal.defs _ _).mono
    (fun r h => ⟨fun c => (h c).2.2.2, Idealize.ShloMosaic.sem_eq_zero_of_no_sems (by decide) r.2⟩) (Cert.ReferenceLIdeal.Value.run m ρ)

/-- The loss, its gradient and the projection are the reference's. -/
theorem algebraic_l : Cert.algebraic_KernelLIdeal_ReferenceLIdeal := by
  intro m ρ m' ρ' _ hagree
  have hargs (c) : Cert.ReferenceLIdeal.Value.args m' c = Cert.KernelLIdeal.Words.args m c := by
    obtain ⟨h0, h1, h2, h3, h4, h5⟩ := hagree c
    unfold Cert.ReferenceLIdeal.Value.args
    rw [h0, h1, h2, h3, h4, h5]
    rfl
  refine ⟨fun c i => Cert.SpecL.d (Cert.KernelLIdeal.Words.args m c) (i 0) (i 1),
    fun c i => Cert.SpecY.y (Cert.KernelLIdeal.Words.args m c).base (i 0) (i 1), fun c _ => Cert.SpecL.loss (Cert.KernelLIdeal.Words.args m c), ?_, ?_⟩
  · exact (θ_run Cert.KernelLIdeal.defs _ _).mono (fun _ h c => ⟨(h c).1.trans (Cert.KernelLIdeal.Words.final6 m c),
      (h c).2.1.trans (Cert.KernelLIdeal.Words.final7 m c), (h c).2.2.1.trans (Cert.KernelLIdeal.Words.final8 m c), (h c).2.2.2⟩)
      (Cert.KernelLIdeal.Value.run_blocks m ρ)
  · refine (θ_run Cert.ReferenceLIdeal.defs _ _).mono (fun _ h c => ⟨(h c).1.trans ?_, (h c).2.1.trans ?_, (h c).2.2.1.trans ?_, (h c).2.2.2⟩)
      (Cert.ReferenceLIdeal.Value.reference_run m' ρ')
    · rw [hargs c]
      rfl
    · rw [hargs c]
      rfl
    · rw [hargs c]
      rfl

theorem claim : Cert.Claim := ⟨Cert.Kernel.Gen.facts, Cert.KernelIdeal.Gen.facts, Cert.ReferenceIdeal.Gen.facts,
  Cert.KernelW.Gen.facts, Cert.KernelWIdeal.Gen.facts, Cert.ReferenceWIdeal.Gen.facts,
  Cert.KernelX.Gen.facts, Cert.KernelXIdeal.Gen.facts, Cert.ReferenceXIdeal.Gen.facts,
  Cert.KernelO.Gen.facts, Cert.KernelOIdeal.Gen.facts, Cert.ReferenceOIdeal.Gen.facts,
  Cert.KernelY.Gen.facts, Cert.KernelYIdeal.Gen.facts, Cert.ReferenceYIdeal.Gen.facts,
  Cert.KernelI.Gen.facts, Cert.KernelIIdeal.Gen.facts, Cert.ReferenceIIdeal.Gen.facts,
  Cert.KernelL.Gen.facts, Cert.KernelLIdeal.Gen.facts, Cert.ReferenceLIdeal.Gen.facts, Cert.Finite.facts,
  frame_kernel, frame_ideal, fun m ρ _ => frame_ideal m ρ trivial, frame_reference, fun m ρ _ => frame_reference m ρ trivial,
  frame_kernel_w, frame_ideal_w, frame_reference_w, frame_kernel_x, frame_ideal_x, frame_reference_x,
  frame_kernel_o, frame_ideal_o, frame_reference_o, frame_kernel_y, frame_ideal_y, frame_reference_y,
  frame_kernel_i, frame_ideal_i, frame_reference_i, frame_kernel_l, frame_ideal_l, frame_reference_l,
  preserves, algebraic, trivial, algebraic_w, trivial, algebraic_x, trivial, algebraic_o, trivial, algebraic_y, trivial, algebraic_i, trivial, algebraic_l⟩

end Cert.Proof

end
